-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_arrays [hPre_finite_arrays : Cert.Pre_finite_arrays.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_arrays.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_arrays [hPre_finite_arrays : Cert.Pre_finite_arrays.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_arrays.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))) = (fun _ => 1#1)

def Pre_Kernel4 [hPre_tables_in_range : Cert.Pre_tables_in_range.Facts] (m : (ℓ : Loc Cert.Kernel4.nD Cert.Kernel4.τ Cert.Kernel4.sig) → Buf (Elt Bits) ℓ) : Prop :=
  ∀ c : Dev Cert.Kernel4.nD,
    (Cert.Pre_tables_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Kernel4Ideal [hPre_tables_in_range : Cert.Pre_tables_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_tables_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_tables_in_range [hPre_tables_in_range : Cert.Pre_tables_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_tables_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_conditions [hPre_finite_conditions : Cert.Pre_finite_conditions.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_conditions.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_conditions [hPre_finite_conditions : Cert.Pre_finite_conditions.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_conditions.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_rows [hPre_finite_rows : Cert.Pre_finite_rows.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_rows.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_rows [hPre_finite_rows : Cert.Pre_finite_rows.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_rows.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite_arrays [hKernel3Ideal : Cert.Kernel3Ideal.Facts] [hPre_finite_arrays : Cert.Pre_finite_arrays.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_arrays m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite_arrays [hReference3Ideal : Cert.Reference3Ideal.Facts] [hPre_finite_arrays : Cert.Pre_finite_arrays.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_arrays m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] [hPre_tables_in_range : Cert.Pre_tables_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_tables_in_range : Cert.Pre_tables_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_tables_in_range [hReference4Ideal : Cert.Reference4Ideal.Facts] [hPre_tables_in_range : Cert.Pre_tables_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_tables_in_range m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_conditions [hKernel6Ideal : Cert.Kernel6Ideal.Facts] [hPre_finite_conditions : Cert.Pre_finite_conditions.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_conditions m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_conditions [hReference6Ideal : Cert.Reference6Ideal.Facts] [hPre_finite_conditions : Cert.Pre_finite_conditions.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_conditions m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_rows [hKernel7Ideal : Cert.Kernel7Ideal.Facts] [hPre_finite_rows : Cert.Pre_finite_rows.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_rows m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_rows [hReference7Ideal : Cert.Reference7Ideal.Facts] [hPre_finite_rows : Cert.Pre_finite_rows.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_rows m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_v61) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_arrays [hKernel3Ideal : Cert.Kernel3Ideal.Facts] [hReference3Ideal : Cert.Reference3Ideal.Facts] [hPre_finite_arrays : Cert.Pre_finite_arrays.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_arrays m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_v79) = v1 c
          ∧ r.2.mem ((c.tc : Thread Cert.Reference3Ideal.nD Cert.Reference3Ideal.τ).loc Cert.Reference3Ideal.main_v80) = v2 c
          ∧ r.2.mem ((c.tc : Thread Cert.Reference3Ideal.nD Cert.Reference3Ideal.τ).loc Cert.Reference3Ideal.main_v81) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] [hPre_tables_in_range : Cert.Pre_tables_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v8)) (v1 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_v9) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_v89) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_finite_conditions [hKernel6Ideal : Cert.Kernel6Ideal.Facts] [hReference6Ideal : Cert.Reference6Ideal.Facts] [hPre_finite_conditions : Cert.Pre_finite_conditions.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_conditions m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite_rows [hKernel7Ideal : Cert.Kernel7Ideal.Facts] [hReference7Ideal : Cert.Reference7Ideal.Facts] [hPre_finite_rows : Cert.Pre_finite_rows.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_rows m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v110) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_arrays : Cert.Pre_finite_arrays.Facts) (hPre_tables_in_range : Cert.Pre_tables_in_range.Facts) (hPre_finite_conditions : Cert.Pre_finite_conditions.Facts) (hPre_finite_rows : Cert.Pre_finite_rows.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_arrays (hKernel3Ideal := hKernel3Ideal) (hPre_finite_arrays := hPre_finite_arrays)
    ∧ quiescent_Reference3Ideal (hReference3Ideal := hReference3Ideal)
    ∧ quiescent_Reference3Ideal_pre_finite_arrays (hReference3Ideal := hReference3Ideal) (hPre_finite_arrays := hPre_finite_arrays)
    ∧ quiescent_Kernel4 (hKernel4 := hKernel4) (hPre_tables_in_range := hPre_tables_in_range)
    ∧ quiescent_Kernel4Ideal (hKernel4Ideal := hKernel4Ideal) (hPre_tables_in_range := hPre_tables_in_range)
    ∧ quiescent_Reference4Ideal (hReference4Ideal := hReference4Ideal)
    ∧ quiescent_Reference4Ideal_pre_tables_in_range (hReference4Ideal := hReference4Ideal) (hPre_tables_in_range := hPre_tables_in_range)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_conditions (hKernel6Ideal := hKernel6Ideal) (hPre_finite_conditions := hPre_finite_conditions)
    ∧ quiescent_Reference6Ideal (hReference6Ideal := hReference6Ideal)
    ∧ quiescent_Reference6Ideal_pre_finite_conditions (hReference6Ideal := hReference6Ideal) (hPre_finite_conditions := hPre_finite_conditions)
    ∧ quiescent_Kernel7 (hKernel7 := hKernel7)
    ∧ quiescent_Kernel7Ideal (hKernel7Ideal := hKernel7Ideal)
    ∧ quiescent_Kernel7Ideal_pre_finite_rows (hKernel7Ideal := hKernel7Ideal) (hPre_finite_rows := hPre_finite_rows)
    ∧ quiescent_Reference7Ideal (hReference7Ideal := hReference7Ideal)
    ∧ quiescent_Reference7Ideal_pre_finite_rows (hReference7Ideal := hReference7Ideal) (hPre_finite_rows := hPre_finite_rows)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_arrays (hKernel3Ideal := hKernel3Ideal) (hReference3Ideal := hReference3Ideal) (hPre_finite_arrays := hPre_finite_arrays)
    ∧ preserves_Kernel4_Kernel4Ideal
    ∧ algebraic_Kernel4Ideal_Reference4Ideal (hKernel4Ideal := hKernel4Ideal) (hReference4Ideal := hReference4Ideal) (hPre_tables_in_range := hPre_tables_in_range)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_conditions (hKernel6Ideal := hKernel6Ideal) (hReference6Ideal := hReference6Ideal) (hPre_finite_conditions := hPre_finite_conditions)
    ∧ preserves_Kernel7_Kernel7Ideal
    ∧ algebraic_Kernel7Ideal_Reference7Ideal_pre_finite_rows (hKernel7Ideal := hKernel7Ideal) (hReference7Ideal := hReference7Ideal) (hPre_finite_rows := hPre_finite_rows)
-- ==== Pre_finite_arrays.lean ====
abbrev S32x256x1024 : Shape := ⟨3, ![32, 256, 1024]⟩
abbrev S4x2048x1024 : Shape := ⟨3, ![4, 2048, 1024]⟩
abbrev S8192x512 : Shape := ⟨2, ![8192, 512]⟩
abbrev S8x6x1024 : Shape := ⟨3, ![8, 6, 1024]⟩
abbrev S1024 : Shape := ⟨1, ![1024]⟩
abbrev S1024x1024 : Shape := ⟨2, ![1024, 1024]⟩
abbrev S1024x256 : Shape := ⟨2, ![1024, 256]⟩
abbrev S256x1024 : Shape := ⟨2, ![256, 1024]⟩
abbrev S_ : Shape := ⟨0, ![]⟩

class Facts : Prop where
  bcast_S_S32x256x1024 : S_.BroadcastsInDim S32x256x1024 (![] : Fin 0 → Fin S32x256x1024.rank)
  reducesTo_S32x256x1024_S_d0_1_2 : S32x256x1024.ReducesTo [0, 1, 2] S_
  h_S_ : 0 < S_.numel
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S8192x512 : S_.BroadcastsInDim S8192x512 (![] : Fin 0 → Fin S8192x512.rank)
  reducesTo_S8192x512_S_d0_1 : S8192x512.ReducesTo [0, 1] S_
  bcast_S_S8x6x1024 : S_.BroadcastsInDim S8x6x1024 (![] : Fin 0 → Fin S8x6x1024.rank)
  reducesTo_S8x6x1024_S_d0_1_2 : S8x6x1024.ReducesTo [0, 1, 2] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part2 {F : FTy → Type} [FloatOps F] (main_arg7 : FVec F S1024 .f32) (main_arg8 : FVec F S1024x1024 .f32) (main_arg12 : FVec F S1024x256 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x256 .f32 := Host.absf main_arg12
  let main_cst_16 : FVec F S_ .f32 := constant S_ .f32 0x7F800000#32
  let main_v45 : FVec F S1024x256 .f32 := broadcastInDim S1024x256 ![] bcast_S_S1024x256 main_cst_16
  let main_v46 : IVec S1024x256 1 := cmpf .olt main_v44 main_v45
  let main_c_17 : IVec S_ 1 := constantI S_ 1 1#1
  let main_v47 : IVec S_ 1 := (fun x v => Host.reduce IntOp.andi x v reducesTo_S1024x256_S_d0_1 h_S_) main_v46 main_c_17
  let main_v48 : IVec S_ 1 := andi main_v43 main_v47
  main_v48

def fn_part1 {F : FTy → Type} [FloatOps F] (main_arg4 : FVec F S8192x512 .f32) (main_arg5 : FVec F S8192x512 .f32) (main_arg6 : FVec F S8x6x1024 .f32) (main_arg7 : FVec F S1024 .f32) (main_arg8 : FVec F S1024x1024 .f32) (main_arg12 : FVec F S1024x256 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8x6x1024 .f32 := Host.absf main_arg6
  let main_cst_10 : FVec F S_ .f32 := constant S_ .f32 0x7F800000#32
  let main_v30 : FVec F S8x6x1024 .f32 := broadcastInDim S8x6x1024 ![] bcast_S_S8x6x1024 main_cst_10
  let main_v31 : IVec S8x6x1024 1 := cmpf .olt main_v29 main_v30
  let main_c_11 : IVec S_ 1 := constantI S_ 1 1#1
  let main_v32 : IVec S_ 1 := (fun x v => Host.reduce IntOp.andi x v reducesTo_S8x6x1024_S_d0_1_2 h_S_) main_v31 main_c_11
  let main_v33 : IVec S_ 1 := andi main_v28 main_v32
  fn_part2 (F := F) main_arg7 main_arg8 main_arg12 main_v33

def fn {F : FTy → Type} [FloatOps F] (main_arg0 : FVec F S32x256x1024 .f32) (main_arg1 : FVec F S4x2048x1024 .f32) (main_arg2 : FVec F S8192x512 .f32) (main_arg3 : FVec F S8192x512 .f32) (main_arg4 : FVec F S8192x512 .f32) (main_arg5 : FVec F S8192x512 .f32) (main_arg6 : FVec F S8x6x1024 .f32) (main_arg7 : FVec F S1024 .f32) (main_arg8 : FVec F S1024x1024 .f32) (main_arg9 : FVec F S1024x256 .f32) (main_arg10 : FVec F S1024x256 .f32) (main_arg11 : FVec F S256x1024 .f32) (main_arg12 : FVec F S1024x256 .f32) : IVec S_ 1 :=
  let main_v0 : FVec F S32x256x1024 .f32 := Host.absf main_arg0
  let main_cst : FVec F S_ .f32 := constant S_ .f32 0x7F800000#32
  let main_v1 : FVec F S32x256x1024 .f32 := broadcastInDim S32x256x1024 ![] bcast_S_S32x256x1024 main_cst
  let main_v2 : IVec S32x256x1024 1 := cmpf .olt main_v0 main_v1
  let main_c : IVec S_ 1 := constantI S_ 1 1#1
  let main_v3 : IVec S_ 1 := (fun x v => Host.reduce IntOp.andi x v reducesTo_S32x256x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_arg12 main_v13 main_v16
-- ==== Pre_finite_conditions.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S4x1024 .f32) (main_arg1 : FVec F S1024 .f32) (main_arg2 : FVec F S1024x6144 .f32) (main_arg3 : FVec F S6144 .f32) : IVec S_ 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6144 .f32 := Host.absf main_arg2
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_c_3 : IVec S_ 1 := constantI S_ 1 1#1
  let main_v12 : IVec S_ 1 := (fun x v => Host.reduce IntOp.andi x v reducesTo_S1024x6144_S_d0_1 h_S_) main_v11 main_c_3
  let main_v13 : IVec S_ 1 := andi main_v8 main_v12
  main_v13
-- ==== Pre_finite_rows.lean ====
abbrev S16384x512 : Shape := ⟨2, ![16384, 512]⟩
abbrev S4x128x128 : Shape := ⟨3, ![4, 128, 128]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : FVec F S4x128x128 .f32) (main_arg2 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  main_v3
-- ==== Pre_tables_in_range.lean ====
abbrev S295040x512 : Shape := ⟨2, ![295040, 512]⟩
abbrev S461 : Shape := ⟨1, ![461]⟩
abbrev S1 : Shape := ⟨1, ![1]⟩
abbrev S256x1024x256 : Shape := ⟨3, ![256, 1024, 256]⟩
abbrev S256x256x1024 : Shape := ⟨3, ![256, 256, 1024]⟩
abbrev S_ : Shape := ⟨0, ![]⟩

class Facts : Prop where
  bcast_S_S461 : S_.BroadcastsInDim S461 (![] : Fin 0 → Fin S461.rank)
  reducesTo_S461_S_d0 : S461.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S295040x512 32) (main_arg1 : IVec S461 32) (main_arg2 : IVec S461 32) (main_arg3 : IVec S1 32) (main_arg4 : FVec F S256x1024x256 .f32) (main_arg5 : FVec F S256x1024x256 .f32) (main_arg6 : FVec F S256x256x1024 .f32) : IVec S_ 1 :=
  let main_c : IVec S_ 32 := constantI S_ 32 0#32
  let main_v0 : IVec S461 32 := broadcastInDim S461 ![] bcast_S_S461 main_c
  let main_v1 : IVec S461 1 := cmpi .sge main_arg1 main_v0
  let main_c_0 : IVec S_ 1 := constantI S_ 1 1#1
  let main_v2 : IVec S_ 1 := (fun x v => Host.reduce IntOp.andi x v reducesTo_S461_S_d0 h_S_) main_v1 main_c_0
  let main_c_1 : IVec S_ 32 := constantI S_ 32 256#32
  let main_v3 : IVec S461 32 := broadcastInDim S461 ![] bcast_S_S461 main_c_1
  let main_v4 : IVec S461 1 := cmpi .slt main_arg1 main_v3
  let main_c_2 : IVec S_ 1 := constantI S_ 1 1#1
  let main_v5 : IVec S_ 1 := (fun x v => Host.reduce IntOp.andi x v reducesTo_S461_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg3 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S16384x1536 : Shape := ⟨2, ![16384, 1536]⟩
abbrev S16384x512 : Shape := ⟨2, ![16384, 512]⟩
abbrev S16384x128 : Shape := ⟨2, ![16384, 128]⟩
abbrev S5x1536 : Shape := ⟨2, ![5, 1536]⟩
abbrev S2x4 : Shape := ⟨2, ![2, 4]⟩
abbrev S128 : Shape := ⟨1, ![128]⟩
abbrev S8192x16 : Shape := ⟨2, ![8192, 16]⟩
abbrev S32x256x4x4 : Shape := ⟨4, ![32, 256, 4, 4]⟩
abbrev S32x4x256x4 : Shape := ⟨4, ![32, 4, 256, 4]⟩
abbrev S32x4x1x256x4 : Shape := ⟨5, ![32, 4, 1, 256, 4]⟩
abbrev S32x4x1x4x256 : Shape := ⟨5, ![32, 4, 1, 4, 256]⟩
abbrev S8 : Shape := ⟨1, ![8]⟩
abbrev S16 : Shape := ⟨1, ![16]⟩
abbrev S_ : Shape := ⟨0, ![]⟩
abbrev S1x2x4x128x128 : Shape := ⟨5, ![1, 2, 4, 128, 128]⟩
abbrev S1x128 : Shape := ⟨2, ![1, 128]⟩
abbrev S8192x512 : Shape := ⟨2, ![8192, 512]⟩
abbrev S32x2x4x128x128 : Shape := ⟨5, ![32, 2, 4, 128, 128]⟩
abbrev S256x512 : Shape := ⟨2, ![256, 512]⟩
abbrev S1x4x256x4 : Shape := ⟨4, ![1, 4, 256, 4]⟩
abbrev S1x4x1x4x256 : Shape := ⟨5, ![1, 4, 1, 4, 256]⟩
abbrev S5x512 : Shape := ⟨2, ![5, 512]⟩
abbrev S4x256x128 : Shape := ⟨3, ![4, 256, 128]⟩
abbrev S8x256x128 : Shape := ⟨3, ![8, 256, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S256x256 : Shape := ⟨2, ![256, 256]⟩
abbrev S128x128 : Shape := ⟨2, ![128, 128]⟩
abbrev S1x1x256x4 : Shape := ⟨4, ![1, 1, 256, 4]⟩
abbrev S256x4 : Shape := ⟨2, ![256, 4]⟩
abbrev S1x1x1x4x256 : Shape := ⟨5, ![1, 1, 1, 4, 256]⟩
abbrev S4x256 : Shape := ⟨2, ![4, 256]⟩
abbrev S1 : Shape := ⟨1, ![1]⟩
abbrev S1x1 : Shape := ⟨2, ![1, 1]⟩
abbrev S1x256 : Shape := ⟨2, ![1, 256]⟩
abbrev S128x256 : Shape := ⟨2, ![128, 256]⟩
abbrev S64x128 : Shape := ⟨2, ![64, 128]⟩
abbrev S1x64x128 : Shape := ⟨3, ![1, 64, 128]⟩
abbrev S64x256 : Shape := ⟨2, ![64, 256]⟩
abbrev S1x1x1x128x128 : Shape := ⟨5, ![1, 1, 1, 128, 128]⟩

abbrev nBuf : Space → Nat
  | .hbm => 20
  | .vmem => 26
  | .smem => 1
  | _ => 0

abbrev bufTy : (tb : Table) → Fin (tcTables nBuf tb) → BufTy
  | .hbm, ⟨0, _⟩ => ⟨S16384x1536, .f32⟩
  | .hbm, ⟨1, _⟩ => ⟨S16384x512, .f32⟩
  | .hbm, ⟨2, _⟩ => ⟨S16384x128, .f32⟩
  | .hbm, ⟨3, _⟩ => ⟨S5x1536, .f32⟩
  | .hbm, ⟨4, _⟩ => ⟨S2x4, .f32⟩
  | .hbm, ⟨5, _⟩ => ⟨S2x4, .f32⟩
  | .hbm, ⟨6, _⟩ => ⟨S128, .f32⟩
  | .hbm, ⟨7, _⟩ => ⟨S8192x16, .f32⟩
  | .hbm, ⟨8, _⟩ => ⟨S32x256x4x4, .f32⟩
  | .hbm, ⟨9, _⟩ => ⟨S32x4x256x4, .f32⟩
  | .hbm, ⟨10, _⟩ => ⟨S32x4x1x256x4, .f32⟩
  | .hbm, ⟨11, _⟩ => ⟨S32x4x1x4x256, .f32⟩
  | .hbm, ⟨12, _⟩ => ⟨S8, .f32⟩
  | .hbm, ⟨13, _⟩ => ⟨S8, .f32⟩
  | .hbm, ⟨14, _⟩ => ⟨S16, .f32⟩
  | .hbm, ⟨15, _⟩ => ⟨S_, .f32⟩
  | .hbm, ⟨16, _⟩ => ⟨S1x2x4x128x128, .f32⟩
  | .hbm, ⟨17, _⟩ => ⟨S1x128, .f32⟩
  | .hbm, ⟨18, _⟩ => ⟨S8192x512, .f32⟩
  | .hbm, ⟨19, _⟩ => ⟨S32x2x4x128x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x4x256x4, .f32⟩
  | .local _ .vmem, ⟨9, _⟩ => ⟨S1x4x256x4, .f32⟩
  | .local _ .vmem, ⟨10, _⟩ => ⟨S1x4x1x4x256, .f32⟩
  | .local _ .vmem, ⟨11, _⟩ => ⟨S1x4x1x4x256, .f32⟩
  | .local _ .vmem, ⟨12, _⟩ => ⟨S5x512, .f32⟩
  | .local _ .vmem, ⟨13, _⟩ => ⟨S5x512, .f32⟩
  | .local _ .vmem, ⟨14, _⟩ => ⟨S5x512, .f32⟩
  | .local _ .vmem, ⟨15, _⟩ => ⟨S1x128, .f32⟩
  | .local _ .vmem, ⟨16, _⟩ => ⟨S1x2x4x128x128, .f32⟩
  | .local _ .vmem, ⟨17, _⟩ => ⟨S256x512, .f32⟩
  | .local _ .vmem, ⟨18, _⟩ => ⟨S256x512, .f32⟩
  | .local _ .vmem, ⟨19, _⟩ => ⟨S1x2x4x128x128, .f32⟩
  | .local _ .vmem, ⟨20, _⟩ => ⟨S1x2x4x128x128, .f32⟩
  | .local _ .vmem, ⟨21, _⟩ => ⟨S4x256x128, .f32⟩
  | .local _ .vmem, ⟨22, _⟩ => ⟨S4x256x128, .f32⟩
  | .local _ .vmem, ⟨23, _⟩ => ⟨S4x256x128, .f32⟩
  | .local _ .vmem, ⟨24, _⟩ => ⟨S4x256x128, .f32⟩
  | .local _ .vmem, ⟨25, _⟩ => ⟨S8x256x128, .f32⟩
  | .local _ .smem, ⟨0, _⟩ => ⟨S16, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![32, 1], ![false, false]⟩

def k0_mult1 : BitVec 32 :=
  let c0_i32_536 : BitVec 32 := 0#32
  c0_i32_536
def k0_off1 (i : grid0.Coords) (c0_i32_552 : BitVec 32) (c0_i32_537 : BitVec 32) : Fin 1 → Nat :=
  let arg1 : BitVec 32 := BitVec.ofNat 32 (i 1).val
  let c4_i32 : BitVec 32 := 4#32
  let v1175 : BitVec 32 := Scalar.muli arg1 c4_i32
  let v1176 : BitVec 32 := Scalar.addi v1175 c0_i32_537
  let v1191 : BitVec 32 := Scalar.addi c0_i32_552 v1176
  let v1192 : Index := Scalar.indexCast v1191
  ![v1192.toNat]
def k0_mult2 : BitVec 32 :=
  let c0_i32_572 : BitVec 32 := 0#32
  c0_i32_572
def k0_mult3 : BitVec 32 :=
  let c0_i32_609 : BitVec 32 := 0#32
  c0_i32_609
def k0_mult4 : BitVec 32 :=
  let c0_i32_647 : BitVec 32 := 0#32
  c0_i32_647
def k0_mult5 : BitVec 32 :=
  let c0_i32_685 : BitVec 32 := 0#32
  c0_i32_685
def k0_mult6 : BitVec 32 :=
  let c0_i32_723 : BitVec 32 := 0#32
  c0_i32_723
def k0_mult7 : BitVec 32 :=
  let c0_i32_761 : BitVec 32 := 0#32
  c0_i32_761
def k0_mult8 : BitVec 32 :=
  let c0_i32_798 : BitVec 32 := 0#32
  c0_i32_798
def k0_off2 (c0_i32_1056 : BitVec 32) : Fin 3 → Nat :=
  let c0_1057 : Index := 0#32
  let c0_i32_536 : BitVec 32 := 0#32
  let v1174 : BitVec 32 := c0_i32_536
  let v2710 : BitVec 32 := Scalar.addi v1174 c0_i32_1056
  let v2711 : Index := Scalar.indexCast v2710
  let c0_1058 : Index := 0#32
  ![0, v2711.toNat, 0]
def k0_off3 (c0_i32_1065 : BitVec 32) : Fin 3 → Nat :=
  let c1_1066 : Index := 1#32
  let c0_i32_609 : BitVec 32 := 0#32
  let v1412 : BitVec 32 := c0_i32_609
  let v2728 : BitVec 32 := Scalar.addi v1412 c0_i32_1065
  let v2729 : Index := Scalar.indexCast v2728
  let c0_1067 : Index := 0#32
  ![1, v2729.toNat, 0]
def k0_off4 (c0_i32_1075 : BitVec 32) : Fin 3 → Nat :=
  let c2_1076 : Index := 2#32
  let c0_i32_685 : BitVec 32 := 0#32
  let v1650 : BitVec 32 := c0_i32_685
  let v2746 : BitVec 32 := Scalar.addi v1650 c0_i32_1075
  let v2747 : Index := Scalar.indexCast v2746
  let c0_1077 : Index := 0#32
  ![2, v2747.toNat, 0]
def k0_off5 (c0_i32_1085 : BitVec 32) : Fin 3 → Nat :=
  let c3_1086 : Index := 3#32
  let c0_i32_761 : BitVec 32 := 0#32
  let v1888 : BitVec 32 := c0_i32_761
  let v2764 : BitVec 32 := Scalar.addi v1888 c0_i32_1085
  let v2765 : Index := Scalar.indexCast v2764
  let c0_1087 : Index := 0#32
  ![3, v2765.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.addi c1_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.addi c2_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S5x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S5x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S5x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2x4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel2.lean ====
abbrev S32x256x1024 : Shape := ⟨3, ![32, 256, 1024]⟩
abbrev S4x2048x1024 : Shape := ⟨3, ![4, 2048, 1024]⟩
abbrev S8x6x1024 : Shape := ⟨3, ![8, 6, 1024]⟩
abbrev S1024 : Shape := ⟨1, ![1024]⟩
abbrev S1024x2576 : Shape := ⟨2, ![1024, 2576]⟩
abbrev S8192x1024 : Shape := ⟨2, ![8192, 1024]⟩
abbrev S1024x1536 : Shape := ⟨2, ![1024, 1536]⟩
abbrev S1024x512 : Shape := ⟨2, ![1024, 512]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S16384x1536 : Shape := ⟨2, ![16384, 1536]⟩
abbrev S16384x512 : Shape := ⟨2, ![16384, 512]⟩
abbrev S16384x128 : Shape := ⟨2, ![16384, 128]⟩
abbrev S512x1024 : Shape := ⟨2, ![512, 1024]⟩
abbrev S1x6x1024 : Shape := ⟨3, ![1, 6, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩

abbrev nBuf : Space → Nat
  | .hbm => 23
  | .vmem => 19
  | .smem => 0
  | _ => 0

abbrev bufTy : (tb : Table) → Fin (tcTables nBuf tb) → BufTy
  | .hbm, ⟨0, _⟩ => ⟨S32x256x1024, .f32⟩
  | .hbm, ⟨1, _⟩ => ⟨S4x2048x1024, .f32⟩
  | .hbm, ⟨2, _⟩ => ⟨S8x6x1024, .f32⟩
  | .hbm, ⟨3, _⟩ => ⟨S1024, .f32⟩
  | .hbm, ⟨4, _⟩ => ⟨S1024x2576, .f32⟩
  | .hbm, ⟨5, _⟩ => ⟨S8192x1024, .f32⟩
  | .hbm, ⟨6, _⟩ => ⟨S8192x1024, .f32⟩
  | .hbm, ⟨7, _⟩ => ⟨S1024x1536, .f32⟩
  | .hbm, ⟨8, _⟩ => ⟨S1024x1536, .bf16⟩
  | .hbm, ⟨9, _⟩ => ⟨S1024x512, .f32⟩
  | .hbm, ⟨10, _⟩ => ⟨S1024x512, .bf16⟩
  | .hbm, ⟨11, _⟩ => ⟨S1024x16, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S1024x512, .f32⟩
  | .hbm, ⟨17, _⟩ => ⟨S1024x512, .bf16⟩
  | .hbm, ⟨18, _⟩ => ⟨S1x1024, .f32⟩
  | .hbm, ⟨19, _⟩ => ⟨S16384x1536, .f32⟩
  | .hbm, ⟨20, _⟩ => ⟨S16384x512, .f32⟩
  | .hbm, ⟨21, _⟩ => ⟨S16384x128, .f32⟩
  | .hbm, ⟨22, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x1536, .bf16⟩
  | .local _ .vmem, ⟨8, _⟩ => ⟨S1024x512, .bf16⟩
  | .local _ .vmem, ⟨9, _⟩ => ⟨S1024x128, .bf16⟩
  | .local _ .vmem, ⟨10, _⟩ => ⟨S1024x512, .bf16⟩
  | .local _ .vmem, ⟨11, _⟩ => ⟨S512x1536, .f32⟩
  | .local _ .vmem, ⟨12, _⟩ => ⟨S512x1536, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | .local _ .vmem, ⟨17, _⟩ => ⟨S512x512, .f32⟩
  | .local _ .vmem, ⟨18, _⟩ => ⟨S512x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S32x256x1024 : Shape := ⟨3, ![32, 256, 1024]⟩
abbrev S4x2048x1024 : Shape := ⟨3, ![4, 2048, 1024]⟩
abbrev S8x6x1024 : Shape := ⟨3, ![8, 6, 1024]⟩
abbrev S1024 : Shape := ⟨1, ![1024]⟩
abbrev S1024x2576 : Shape := ⟨2, ![1024, 2576]⟩
abbrev S1x6x1024 : Shape := ⟨3, ![1, 6, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x2576 : Shape := ⟨3, ![32, 256, 2576]⟩
abbrev S8192x2576 : Shape := ⟨2, ![8192, 2576]⟩
abbrev S8192x16 : Shape := ⟨2, ![8192, 16]⟩
abbrev S8192x1536 : Shape := ⟨2, ![8192, 1536]⟩
abbrev S8192x512 : Shape := ⟨2, ![8192, 512]⟩
abbrev S8192x128 : Shape := ⟨2, ![8192, 128]⟩
abbrev S4x6x1024 : Shape := ⟨3, ![4, 6, 1024]⟩
abbrev S4x1x1024 : Shape := ⟨3, ![4, 1, 1024]⟩
abbrev S4x2048 : Shape := ⟨2, ![4, 2048]⟩
abbrev S4x2048x1 : Shape := ⟨3, ![4, 2048, 1]⟩
abbrev S4x2048x2576 : Shape := ⟨3, ![4, 2048, 2576]⟩
abbrev S16384x1536 : Shape := ⟨2, ![16384, 1536]⟩
abbrev S16384x512 : Shape := ⟨2, ![16384, 512]⟩
abbrev S16384x128 : Shape := ⟨2, ![16384, 128]⟩

abbrev nBuf : Space → Nat
  | .hbm => 79
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S4x2048x1024, .f32⟩
  | .hbm, ⟨2, _⟩ => ⟨S8x6x1024, .f32⟩
  | .hbm, ⟨3, _⟩ => ⟨S1024, .f32⟩
  | .hbm, ⟨4, _⟩ => ⟨S1024x2576, .f32⟩
  | .hbm, ⟨5, _⟩ => ⟨S1x6x1024, .f32⟩
  | .hbm, ⟨6, _⟩ => ⟨S1x1x1024, .f32⟩
  | .hbm, ⟨7, _⟩ => ⟨S1x1x1024, .f32⟩
  | .hbm, ⟨8, _⟩ => ⟨S32x256x1024, .f32⟩
  | .hbm, ⟨9, _⟩ => ⟨S_, .f32⟩
  | .hbm, ⟨10, _⟩ => ⟨S32x256, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S32x256x1, .f32⟩
  | .hbm, ⟨19, _⟩ => ⟨S32x256x1024, .f32⟩
  | .hbm, ⟨20, _⟩ => ⟨S32x256x1024, .f32⟩
  | .hbm, ⟨21, _⟩ => ⟨S1x1x1024, .f32⟩
  | .hbm, ⟨22, _⟩ => ⟨S32x256x1024, .f32⟩
  | .hbm, ⟨23, _⟩ => ⟨S32x256x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S32x256x1024, .f32⟩
  | .hbm, ⟨30, _⟩ => ⟨S32x256x1024, .f32⟩
  | .hbm, ⟨31, _⟩ => ⟨S32x256x2576, .f32⟩
  | .hbm, ⟨32, _⟩ => ⟨S8192x2576, .f32⟩
  | .hbm, ⟨33, _⟩ => ⟨S8192x16, .f32⟩
  | .hbm, ⟨34, _⟩ => ⟨S8192x1536, .f32⟩
  | .hbm, ⟨35, _⟩ => ⟨S8192x512, .f32⟩
  | .hbm, ⟨36, _⟩ => ⟨S_, .i32⟩
  | .hbm, ⟨37, _⟩ => ⟨S_, .f32⟩
  | .hbm, ⟨38, _⟩ => ⟨S8192x128, .f32⟩
  | .hbm, ⟨39, _⟩ => ⟨S8192x512, .f32⟩
  | .hbm, ⟨40, _⟩ => ⟨S4x6x1024, .f32⟩
  | .hbm, ⟨41, _⟩ => ⟨S4x1x1024, .f32⟩
  | .hbm, ⟨42, _⟩ => ⟨S4x1x1024, .f32⟩
  | .hbm, ⟨43, _⟩ => ⟨S4x2048x1024, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x1, .f32⟩
  | .hbm, ⟨54, _⟩ => ⟨S4x2048x1024, .f32⟩
  | .hbm, ⟨55, _⟩ => ⟨S4x2048x1024, .f32⟩
  | .hbm, ⟨56, _⟩ => ⟨S1x1x1024, .f32⟩
  | .hbm, ⟨57, _⟩ => ⟨S4x2048x1024, .f32⟩
  | .hbm, ⟨58, _⟩ => ⟨S4x2048x1024, .f32⟩
  | .hbm, ⟨59, _⟩ => ⟨S_, .f32⟩
  | .hbm, ⟨60, _⟩ => ⟨S4x1x1024, .f32⟩
  | .hbm, ⟨61, _⟩ => ⟨S4x1x1024, .f32⟩
  | .hbm, ⟨62, _⟩ => ⟨S4x2048x1024, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S4x2048x2576, .f32⟩
  | .hbm, ⟨67, _⟩ => ⟨S8192x2576, .f32⟩
  | .hbm, ⟨68, _⟩ => ⟨S8192x16, .f32⟩
  | .hbm, ⟨69, _⟩ => ⟨S8192x1536, .f32⟩
  | .hbm, ⟨70, _⟩ => ⟨S8192x512, .f32⟩
  | .hbm, ⟨71, _⟩ => ⟨S_, .i32⟩
  | .hbm, ⟨72, _⟩ => ⟨S_, .f32⟩
  | .hbm, ⟨73, _⟩ => ⟨S8192x128, .f32⟩
  | .hbm, ⟨74, _⟩ => ⟨S8192x512, .f32⟩
  | .hbm, ⟨75, _⟩ => ⟨S16384x1536, .f32⟩
  | .hbm, ⟨76, _⟩ => ⟨S16384x512, .f32⟩
  | .hbm, ⟨77, _⟩ => ⟨S16384x128, .f32⟩
  | .hbm, ⟨78, _⟩ => ⟨S16384x512, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_7 : Ref sig .tc := ⟨.hbm, 71, rfl⟩
abbrev main_call1_v0 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Kernel3.lean ====
abbrev S32x256x1024 : Shape := ⟨3, ![32, 256, 1024]⟩
abbrev S4x2048x1024 : Shape := ⟨3, ![4, 2048, 1024]⟩
abbrev S8192x512 : Shape := ⟨2, ![8192, 512]⟩
abbrev S8x6x1024 : Shape := ⟨3, ![8, 6, 1024]⟩
abbrev S1024 : Shape := ⟨1, ![1024]⟩
abbrev S1024x1024 : Shape := ⟨2, ![1024, 1024]⟩
abbrev S1024x256 : Shape := ⟨2, ![1024, 256]⟩
abbrev S256x1024 : Shape := ⟨2, ![256, 1024]⟩
abbrev S8192x1024 : Shape := ⟨2, ![8192, 1024]⟩
abbrev S1x1024 : Shape := ⟨2, ![1, 1024]⟩
abbrev S16384x1024 : Shape := ⟨2, ![16384, 1024]⟩
abbrev S16384x256 : Shape := ⟨2, ![16384, 256]⟩
abbrev S512x1024 : Shape := ⟨2, ![512, 1024]⟩
abbrev S512x512 : Shape := ⟨2, ![512, 512]⟩
abbrev S1x6x1024 : Shape := ⟨3, ![1, 6, 1024]⟩
abbrev S512x256 : Shape := ⟨2, ![512, 256]⟩
abbrev S1x1x1024 : Shape := ⟨3, ![1, 1, 1024]⟩
abbrev S512 : Shape := ⟨1, ![512]⟩
abbrev S512x1 : Shape := ⟨2, ![512, 1]⟩

abbrev nBuf : Space → Nat
  | .hbm => 28
  | .vmem => 29
  | .smem => 0
  | _ => 0

abbrev bufTy : (tb : Table) → Fin (tcTables nBuf tb) → BufTy
  | .hbm, ⟨0, _⟩ => ⟨S32x256x1024, .f32⟩
  | .hbm, ⟨1, _⟩ => ⟨S4x2048x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8x6x1024, .f32⟩
  | .hbm, ⟨7, _⟩ => ⟨S1024, .f32⟩
  | .hbm, ⟨8, _⟩ => ⟨S1024x1024, .f32⟩
  | .hbm, ⟨9, _⟩ => ⟨S1024x256, .f32⟩
  | .hbm, ⟨10, _⟩ => ⟨S1024x256, .f32⟩
  | .hbm, ⟨11, _⟩ => ⟨S256x1024, .f32⟩
  | .hbm, ⟨12, _⟩ => ⟨S1024x256, .f32⟩
  | .hbm, ⟨13, _⟩ => ⟨S8192x1024, .f32⟩
  | .hbm, ⟨14, _⟩ => ⟨S8192x1024, .f32⟩
  | .hbm, ⟨15, _⟩ => ⟨S1024x1024, .bf16⟩
  | .hbm, ⟨16, _⟩ => ⟨S1024x256, .bf16⟩
  | .hbm, ⟨17, _⟩ => ⟨S1024x256, .bf16⟩
  | .hbm, ⟨18, _⟩ => ⟨S256x1024, .bf16⟩
  | .hbm, ⟨19, _⟩ => ⟨S1024x256, .bf16⟩
  | .hbm, ⟨20, _⟩ => ⟨S1024x256, .f32⟩
  | .hbm, ⟨21, _⟩ => ⟨S1024x256, .f32⟩
  | .hbm, ⟨22, _⟩ => ⟨S1024x256, .bf16⟩
  | .hbm, ⟨23, _⟩ => ⟨S1x1024, .f32⟩
  | .hbm, ⟨24, _⟩ => ⟨S16384x1024, .f32⟩
  | .hbm, ⟨25, _⟩ => ⟨S16384x256, .f32⟩
  | .hbm, ⟨26, _⟩ => ⟨S16384x1024, .bf16⟩
  | .hbm, ⟨27, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S1024x1024, .bf16⟩
  | .local _ .vmem, ⟨16, _⟩ => ⟨S1024x256, .bf16⟩
  | .local _ .vmem, ⟨17, _⟩ => ⟨S1024x256, .bf16⟩
  | .local _ .vmem, ⟨18, _⟩ => ⟨S256x1024, .bf16⟩
  | .local _ .vmem, ⟨19, _⟩ => ⟨S1024x256, .bf16⟩
  | .local _ .vmem, ⟨20, _⟩ => ⟨S1024x256, .bf16⟩
  | .local _ .vmem, ⟨21, _⟩ => ⟨S512x1024, .f32⟩
  | .local _ .vmem, ⟨22, _⟩ => ⟨S512x1024, .f32⟩
  | .local _ .vmem, ⟨23, _⟩ => ⟨S512x256, .f32⟩
  | .local _ .vmem, ⟨24, _⟩ => ⟨S512x256, .f32⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S32x256x1024 : Shape := ⟨3, ![32, 256, 1024]⟩
abbrev S4x2048x1024 : Shape := ⟨3, ![4, 2048, 1024]⟩
abbrev S8192x512 : Shape := ⟨2, ![8192, 512]⟩
abbrev S8x6x1024 : Shape := ⟨3, ![8, 6, 1024]⟩
abbrev S1024 : Shape := ⟨1, ![1024]⟩
abbrev S1024x1024 : Shape := ⟨2, ![1024, 1024]⟩
abbrev S1024x256 : Shape := ⟨2, ![1024, 256]⟩
abbrev S256x1024 : Shape := ⟨2, ![256, 1024]⟩
abbrev S1x6x1024 : Shape := ⟨3, ![1, 6, 1024]⟩
abbrev S1x1x1024 : Shape := ⟨3, ![1, 1, 1024]⟩
abbrev S8192x1024 : Shape := ⟨2, ![8192, 1024]⟩
abbrev S_ : Shape := ⟨0, ![]⟩
abbrev S32x256 : Shape := ⟨2, ![32, 256]⟩
abbrev S32x256x1 : Shape := ⟨3, ![32, 256, 1]⟩
abbrev S8192x256 : Shape := ⟨2, ![8192, 256]⟩
abbrev S4x6x1024 : Shape := ⟨3, ![4, 6, 1024]⟩
abbrev S4x1x1024 : Shape := ⟨3, ![4, 1, 1024]⟩
abbrev S4x2048 : Shape := ⟨2, ![4, 2048]⟩
abbrev S4x2048x1 : Shape := ⟨3, ![4, 2048, 1]⟩
abbrev S16384x1024 : Shape := ⟨2, ![16384, 1024]⟩
abbrev S16384x256 : Shape := ⟨2, ![16384, 256]⟩

abbrev nBuf : Space → Nat
  | .hbm => 119
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S4x2048x1024, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8x6x1024, .f32⟩
  | .hbm, ⟨7, _⟩ => ⟨S1024, .f32⟩
  | .hbm, ⟨8, _⟩ => ⟨S1024x1024, .f32⟩
  | .hbm, ⟨9, _⟩ => ⟨S1024x256, .f32⟩
  | .hbm, ⟨10, _⟩ => ⟨S1024x256, .f32⟩
  | .hbm, ⟨11, _⟩ => ⟨S256x1024, .f32⟩
  | .hbm, ⟨12, _⟩ => ⟨S1024x256, .f32⟩
  | .hbm, ⟨13, _⟩ => ⟨S1x6x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S8192x1024, .f32⟩
  | .hbm, ⟨18, _⟩ => ⟨S8192x1024, .f32⟩
  | .hbm, ⟨19, _⟩ => ⟨S32x256x1024, .f32⟩
  | .hbm, ⟨20, _⟩ => ⟨S32x256x1024, .f32⟩
  | .hbm, ⟨21, _⟩ => ⟨S32x256x1024, .f32⟩
  | .hbm, ⟨22, _⟩ => ⟨S32x256x1024, .f32⟩
  | .hbm, ⟨23, _⟩ => ⟨S32x256x1024, .f32⟩
  | .hbm, ⟨24, _⟩ => ⟨S_, .f32⟩
  | .hbm, ⟨25, _⟩ => ⟨S32x256, .f32⟩
  | .hbm, ⟨26, _⟩ => ⟨S32x256x1, .f32⟩
  | .hbm, ⟨27, _⟩ => ⟨S_, .f32⟩
  | .hbm, ⟨28, _⟩ => ⟨S32x256x1, .f32⟩
  | .hbm, ⟨29, _⟩ => ⟨S32x256x1, .f32⟩
  | .hbm, ⟨30, _⟩ => ⟨S_, .f32⟩
  | .hbm, ⟨31, _⟩ => ⟨S32x256x1, .f32⟩
  | .hbm, ⟨32, _⟩ => ⟨S32x256x1, .f32⟩
  | .hbm, ⟨33, _⟩ => ⟨S32x256x1, .f32⟩
  | .hbm, ⟨34, _⟩ => ⟨S32x256x1024, .f32⟩
  | .hbm, ⟨35, _⟩ => ⟨S32x256x1024, .f32⟩
  | .hbm, ⟨36, _⟩ => ⟨S1x1x1024, .f32⟩
  | .hbm, ⟨37, _⟩ => ⟨S32x256x1024, .f32⟩
  | .hbm, ⟨38, _⟩ => ⟨S32x256x1024, .f32⟩
  | .hbm, ⟨39, _⟩ => ⟨S_, .f32⟩
  | .hbm, ⟨40, _⟩ => ⟨S1x1x1024, .f32⟩
  | .hbm, ⟨41, _⟩ => ⟨S1x1x1024, .f32⟩
  | .hbm, ⟨42, _⟩ => ⟨S32x256x1024, .f32⟩
  | .hbm, ⟨43, _⟩ => ⟨S32x256x1024, .f32⟩
  | .hbm, ⟨44, _⟩ => ⟨S32x256x1024, .f32⟩
  | .hbm, ⟨45, _⟩ => ⟨S32x256x1024, .f32⟩
  | .hbm, ⟨46, _⟩ => ⟨S8192x1024, .f32⟩
  | .hbm, ⟨47, _⟩ => ⟨S8192x256, .f32⟩
  | .hbm, ⟨48, _⟩ => ⟨S8192x256, .f32⟩
  | .hbm, ⟨49, _⟩ => ⟨S8192x256, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S_, .f32⟩
  | .hbm, ⟨54, _⟩ => ⟨S8192x256, .f32⟩
  | .hbm, ⟨55, _⟩ => ⟨S8192x256, .f32⟩
  | .hbm, ⟨56, _⟩ => ⟨S8192x256, .f32⟩
  | .hbm, ⟨57, _⟩ => ⟨S8192x256, .f32⟩
  | .hbm, ⟨58, _⟩ => ⟨S8192x256, .f32⟩
  | .hbm, ⟨59, _⟩ => ⟨S8192x1024, .f32⟩
  | .hbm, ⟨60, _⟩ => ⟨S8192x1024, .f32⟩
  | .hbm, ⟨61, _⟩ => ⟨S8192x256, .f32⟩
  | .hbm, ⟨62, _⟩ => ⟨S8192x1024, .bf16⟩
  | .hbm, ⟨63, _⟩ => ⟨S8192x1024, .bf16⟩
  | .hbm, ⟨64, _⟩ => ⟨S4x6x1024, .f32⟩
  | .hbm, ⟨65, _⟩ => ⟨S4x1x1024, .f32⟩
  | .hbm, ⟨66, _⟩ => ⟨S4x1x1024, .f32⟩
  | .hbm, ⟨67, _⟩ => ⟨S4x1x1024, .f32⟩
  | .hbm, ⟨68, _⟩ => ⟨S8192x1024, .f32⟩
  | .hbm, ⟨69, _⟩ => ⟨S8192x1024, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S_, .f32⟩
  | .hbm, ⟨76, _⟩ => ⟨S4x2048, .f32⟩
  | .hbm, ⟨77, _⟩ => ⟨S4x2048x1, .f32⟩
  | .hbm, ⟨78, _⟩ => ⟨S_, .f32⟩
  | .hbm, ⟨79, _⟩ => ⟨S4x2048x1, .f32⟩
  | .hbm, ⟨80, _⟩ => ⟨S4x2048x1, .f32⟩
  | .hbm, ⟨81, _⟩ => ⟨S_, .f32⟩
  | .hbm, ⟨82, _⟩ => ⟨S4x2048x1, .f32⟩
  | .hbm, ⟨83, _⟩ => ⟨S4x2048x1, .f32⟩
  | .hbm, ⟨84, _⟩ => ⟨S4x2048x1, .f32⟩
  | .hbm, ⟨85, _⟩ => ⟨S4x2048x1024, .f32⟩
  | .hbm, ⟨86, _⟩ => ⟨S4x2048x1024, .f32⟩
  | .hbm, ⟨87, _⟩ => ⟨S1x1x1024, .f32⟩
  | .hbm, ⟨88, _⟩ => ⟨S4x2048x1024, .f32⟩
  | .hbm, ⟨89, _⟩ => ⟨S4x2048x1024, .f32⟩
  | .hbm, ⟨90, _⟩ => ⟨S_, .f32⟩
  | .hbm, ⟨91, _⟩ => ⟨S4x1x1024, .f32⟩
  | .hbm, ⟨92, _⟩ => ⟨S4x1x1024, .f32⟩
  | .hbm, ⟨93, _⟩ => ⟨S4x2048x1024, .f32⟩
  | .hbm, ⟨94, _⟩ => ⟨S4x2048x1024, .f32⟩
  | .hbm, ⟨95, _⟩ => ⟨S4x2048x1024, .f32⟩
  | .hbm, ⟨96, _⟩ => ⟨S4x2048x1024, .f32⟩
  | .hbm, ⟨97, _⟩ => ⟨S8192x1024, .f32⟩
  | .hbm, ⟨98, _⟩ => ⟨S8192x256, .f32⟩
  | .hbm, ⟨99, _⟩ => ⟨S8192x256, .f32⟩
  | .hbm, ⟨100, _⟩ => ⟨S8192x256, .f32⟩
  | .hbm, ⟨101, _⟩ => ⟨S_, .f32⟩
  | .hbm, ⟨102, _⟩ => ⟨S8192x256, .f32⟩
  | .hbm, ⟨103, _⟩ => ⟨S8192x256, .f32⟩
  | .hbm, ⟨104, _⟩ => ⟨S_, .f32⟩
  | .hbm, ⟨105, _⟩ => ⟨S8192x256, .f32⟩
  | .hbm, ⟨106, _⟩ => ⟨S8192x256, .f32⟩
  | .hbm, ⟨107, _⟩ => ⟨S8192x256, .f32⟩
  | .hbm, ⟨108, _⟩ => ⟨S8192x256, .f32⟩
  | .hbm, ⟨109, _⟩ => ⟨S8192x256, .f32⟩
  | .hbm, ⟨110, _⟩ => ⟨S8192x1024, .f32⟩
  | .hbm, ⟨111, _⟩ => ⟨S8192x1024, .f32⟩
  | .hbm, ⟨112, _⟩ => ⟨S8192x256, .f32⟩
  | .hbm, ⟨113, _⟩ => ⟨S8192x1024, .bf16⟩
  | .hbm, ⟨114, _⟩ => ⟨S8192x1024, .bf16⟩
  | .hbm, ⟨115, _⟩ => ⟨S16384x1024, .f32⟩
  | .hbm, ⟨116, _⟩ => ⟨S16384x256, .f32⟩
  | .hbm, ⟨117, _⟩ => ⟨S16384x1024, .bf16⟩
  | .hbm, ⟨118, _⟩ => ⟨S16384x1024, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_3 : Ref sig .tc := ⟨.hbm, 75, rfl⟩
abbrev main_v50 : Ref sig .tc := ⟨.hbm, 76, rfl⟩
abbrev main_v51 : Ref sig .tc := ⟨.hbm, 77, rfl⟩
abbrev main_cst_4 : Ref sig .tc := ⟨.hbm, 78, rfl⟩
abbrev main_v52 : Ref sig .tc := ⟨.hbm, 79, rfl⟩
abbrev main_v53 : Ref sig .tc := ⟨.hbm, 80, rfl⟩
abbrev main_cst_5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_6 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩

abbrev nD : Nat := 1
abbrev τ : Topo := Topo.v7x

variable {F : FTy → Type} [FloatOps F]
-- ==== Kernel4.lean ====
abbrev S295040x512 : Shape := ⟨2, ![295040, 512]⟩
abbrev S461 : Shape := ⟨1, ![461]⟩
abbrev S1 : Shape := ⟨1, ![1]⟩
abbrev S256x1024x256 : Shape := ⟨3, ![256, 1024, 256]⟩
abbrev S256x256x1024 : Shape := ⟨3, ![256, 256, 1024]⟩
abbrev S461x1x1 : Shape := ⟨3, ![461, 1, 1]⟩
abbrev S_ : Shape := ⟨0, ![]⟩
abbrev S461x1 : Shape := ⟨2, ![461, 1]⟩
abbrev S295040x1024 : Shape := ⟨2, ![295040, 1024]⟩
abbrev S640x512 : Shape := ⟨2, ![640, 512]⟩
abbrev S1x1024x256 : Shape := ⟨3, ![1, 1024, 256]⟩
abbrev S1x256x1024 : Shape := ⟨3, ![1, 256, 1024]⟩
abbrev S640x1024 : Shape := ⟨2, ![640, 1024]⟩
abbrev S1024x256 : Shape := ⟨2, ![1024, 256]⟩
abbrev S256x1024 : Shape := ⟨2, ![256, 1024]⟩
abbrev S640x1 : Shape := ⟨2, ![640, 1]⟩
abbrev S512x256 : Shape := ⟨2, ![512, 256]⟩
abbrev S640x256 : Shape := ⟨2, ![640, 256]⟩
abbrev S461x640x1024 : Shape := ⟨3, ![461, 640, 1024]⟩

abbrev nBuf : Space → Nat
  | .hbm => 23
  | .vmem => 13
  | .smem => 4
  | _ => 0

abbrev bufTy : (tb : Table) → Fin (tcTables nBuf tb) → BufTy
  | .hbm, ⟨0, _⟩ => ⟨S295040x512, .i32⟩
  | .hbm, ⟨1, _⟩ => ⟨S256x1024x256, .f32⟩
  | .hbm, ⟨2, _⟩ => ⟨S256x1024x256, .f32⟩
  | .hbm, ⟨3, _⟩ => ⟨S256x256x1024, .f32⟩
  | .hbm, ⟨4, _⟩ => ⟨S461, .i32⟩
  | .hbm, ⟨5, _⟩ => ⟨S461x1x1, .i32⟩
  | .hbm, ⟨6, _⟩ => ⟨S_, .i32⟩
  | .hbm, ⟨7, _⟩ => ⟨S461x1x1, .i32⟩
  | .hbm, ⟨8, _⟩ => ⟨S461x1x1, .i1⟩
  | .hbm, ⟨9, _⟩ => ⟨S461, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S461, .i32⟩
  | .hbm, ⟨14, _⟩ => ⟨S461, .i32⟩
  | .hbm, ⟨15, _⟩ => ⟨S461x1, .i32⟩
  | .hbm, ⟨16, _⟩ => ⟨S295040x1024, .bf16⟩
  | .hbm, ⟨17, _⟩ => ⟨S461x640x1024, .bf16⟩
  | .hbm, ⟨18, _⟩ => ⟨S_, .i32⟩
  | .hbm, ⟨19, _⟩ => ⟨S_, .bf16⟩
  | .hbm, ⟨20, _⟩ => ⟨S461x640x1024, .i1⟩
  | .hbm, ⟨21, _⟩ => ⟨S461x640x1024, .bf16⟩
  | .hbm, ⟨22, _⟩ => ⟨S461x640x1024, .bf16⟩
  | .local _ .vmem, ⟨0, _⟩ => ⟨S640x512, .i32⟩
  | .local _ .vmem, ⟨1, _⟩ => ⟨S640x512, .i32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S640x1024, .bf16⟩
  | .local _ .vmem, ⟨9, _⟩ => ⟨S640x1024, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S461, .i32⟩
  | .local _ .smem, ⟨1, _⟩ => ⟨S461, .i32⟩
  | .local _ .smem, ⟨2, _⟩ => ⟨S1, .i32⟩
  | .local _ .smem, ⟨3, _⟩ => ⟨S461, .i32⟩
  | _, _ => ⟨S295040x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v13 : Ref sig .tc := ⟨.hbm, 22, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_v10 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![461], ![false]⟩

abbrev pre0 : Pipeline.Prefetch sig := ⟨4, ![main_arg1.idx, main_arg2.idx, main_arg3.idx, main_v10.idx], fun | 0 => main_arg1.names | 1 => main_arg2.names | 2 => main_arg3.names | 3 => main_v10.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v4 : Index := Scalar.indexCast arg0
  ![v4.toNat]
def k0_off3 (i : grid0.Coords) : Fin 1 → Nat :=
  let arg0 : BitVec 32 := BitVec.ofNat 32 (i 0).val
  let c1_i32 : BitVec 32 := 1#32
  let v6 : BitVec 32 := Scalar.subi arg0 c1_i32
  let c0_i32_0 : BitVec 32 := 0#32
  let v7 : BitVec 32 := Scalar.maxsi v6 c0_i32_0
  let v8 : Index := Scalar.indexCast v7
  ![v8.toNat]
def k0_off4 (i : grid0.Coords) : Fin 1 → Nat :=
  let arg0 : BitVec 32 := BitVec.ofNat 32 (i 0).val
  let v16 : Index := Scalar.indexCast arg0
  ![v16.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S461.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S461) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S461.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S461) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S461.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S461) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S640x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S295040x512 : Shape := ⟨2, ![295040, 512]⟩
abbrev S461 : Shape := ⟨1, ![461]⟩
abbrev S1 : Shape := ⟨1, ![1]⟩
abbrev S256x1024x256 : Shape := ⟨3, ![256, 1024, 256]⟩
abbrev S256x256x1024 : Shape := ⟨3, ![256, 256, 1024]⟩
abbrev S_ : Shape := ⟨0, ![]⟩
abbrev S295040x1024 : Shape := ⟨2, ![295040, 1024]⟩
abbrev S640 : Shape := ⟨1, ![640]⟩
abbrev S1x640 : Shape := ⟨2, ![1, 640]⟩
abbrev S461x1 : Shape := ⟨2, ![461, 1]⟩
abbrev S461x640 : Shape := ⟨2, ![461, 640]⟩
abbrev S461x640x1 : Shape := ⟨3, ![461, 640, 1]⟩
abbrev S461x640x1024 : Shape := ⟨3, ![461, 640, 1024]⟩
abbrev S461x1024x256 : Shape := ⟨3, ![461, 1024, 256]⟩
abbrev S461x640x256 : Shape := ⟨3, ![461, 640, 256]⟩
abbrev S461x256x1024 : Shape := ⟨3, ![461, 256, 1024]⟩

abbrev nBuf : Space → Nat
  | .hbm => 56
  | .vmem => 0
  | .smem => 0
  | _ => 0

abbrev bufTy : (tb : Table) → Fin (tcTables nBuf tb) → BufTy
  | .hbm, ⟨0, _⟩ => ⟨S295040x512, .i32⟩
  | .hbm, ⟨1, _⟩ => ⟨S461, .i32⟩
  | .hbm, ⟨2, _⟩ => ⟨S461, .i32⟩
  | .hbm, ⟨3, _⟩ => ⟨S1, .i32⟩
  | .hbm, ⟨4, _⟩ => ⟨S256x1024x256, .f32⟩
  | .hbm, ⟨5, _⟩ => ⟨S256x1024x256, .f32⟩
  | .hbm, ⟨6, _⟩ => ⟨S256x256x1024, .f32⟩
  | .hbm, ⟨7, _⟩ => ⟨S_, .i32⟩
  | .hbm, ⟨8, _⟩ => ⟨S295040x512, .i32⟩
  | .hbm, ⟨9, _⟩ => ⟨S295040x512, .i32⟩
  | .hbm, ⟨10, _⟩ => ⟨S295040x512, .f32⟩
  | .hbm, ⟨11, _⟩ => ⟨S_, .i32⟩
  | .hbm, ⟨12, _⟩ => ⟨S295040x512, .i32⟩
  | .hbm, ⟨13, _⟩ => ⟨S295040x512, .i32⟩
  | .hbm, ⟨14, _⟩ => ⟨S295040x512, .f32⟩
  | .hbm, ⟨15, _⟩ => ⟨S295040x1024, .f32⟩
  | .hbm, ⟨16, _⟩ => ⟨S640, .i32⟩
  | .hbm, ⟨17, _⟩ => ⟨S1x640, .i32⟩
  | .hbm, ⟨18, _⟩ => ⟨S461x1, .i32⟩
  | .hbm, ⟨19, _⟩ => ⟨S461x640, .i32⟩
  | .hbm, ⟨20, _⟩ => ⟨S461x640, .i32⟩
  | .hbm, ⟨21, _⟩ => ⟨S461x640, .i1⟩
  | .hbm, ⟨22, _⟩ => ⟨S461, .i32⟩
  | .hbm, ⟨23, _⟩ => ⟨S461x1, .i32⟩
  | .hbm, ⟨24, _⟩ => ⟨S_, .i32⟩
  | .hbm, ⟨25, _⟩ => ⟨S461x1, .i32⟩
  | .hbm, ⟨26, _⟩ => ⟨S461x1, .i1⟩
  | .hbm, ⟨27, _⟩ => ⟨S461x640, .i1⟩
  | .hbm, ⟨28, _⟩ => ⟨S461x640, .i1⟩
  | .hbm, ⟨29, _⟩ => ⟨S461x640x1, .i1⟩
  | .hbm, ⟨30, _⟩ => ⟨S461x640x1024, .f32⟩
  | .hbm, ⟨31, _⟩ => ⟨S_, .f32⟩
  | .hbm, ⟨32, _⟩ => ⟨S_, .f32⟩
  | .hbm, ⟨33, _⟩ => ⟨S461x640x1024, .i1⟩
  | .hbm, ⟨34, _⟩ => ⟨S461x640x1024, .f32⟩
  | .hbm, ⟨35, _⟩ => ⟨S461x640x1024, .f32⟩
  | .hbm, ⟨36, _⟩ => ⟨S461x1, .i32⟩
  | .hbm, ⟨37, _⟩ => ⟨S461x1024x256, .f32⟩
  | .hbm, ⟨38, _⟩ => ⟨S461x640x256, .f32⟩
  | .hbm, ⟨39, _⟩ => ⟨S461x1, .i32⟩
  | .hbm, ⟨40, _⟩ => ⟨S461x1024x256, .f32⟩
  | .hbm, ⟨41, _⟩ => ⟨S461x640x256, .f32⟩
  | .hbm, ⟨42, _⟩ => ⟨S461x640x256, .f32⟩
  | .hbm, ⟨43, _⟩ => ⟨S461x640x256, .f32⟩
  | .hbm, ⟨44, _⟩ => ⟨S_, .f32⟩
  | .hbm, ⟨45, _⟩ => ⟨S461x640x256, .f32⟩
  | .hbm, ⟨46, _⟩ => ⟨S461x640x256, .f32⟩
  | .hbm, ⟨47, _⟩ => ⟨S_, .f32⟩
  | .hbm, ⟨48, _⟩ => ⟨S461x640x256, .f32⟩
  | .hbm, ⟨49, _⟩ => ⟨S461x640x256, .f32⟩
  | .hbm, ⟨50, _⟩ => ⟨S461x640x256, .f32⟩
  | .hbm, ⟨51, _⟩ => ⟨S461x640x256, .f32⟩
  | .hbm, ⟨52, _⟩ => ⟨S461x1, .i32⟩
  | .hbm, ⟨53, _⟩ => ⟨S461x256x1024, .f32⟩
  | .hbm, ⟨54, _⟩ => ⟨S461x640x1024, .f32⟩
  | .hbm, ⟨55, _⟩ => ⟨S461x640x1024, .bf16⟩
  | _, _ => ⟨S295040x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_call2_v0 : Ref sig .tc := ⟨.hbm, 39, rfl⟩
abbrev main_v25 : Ref sig .tc := ⟨.hbm, 40, rfl⟩
abbrev main_v26 : Ref sig .tc := ⟨.hbm, 41, rfl⟩
abbrev main_call3_v0 : Ref sig .tc := ⟨.hbm, 42, rfl⟩
abbrev main_call3_v1 : Ref sig .tc := ⟨.hbm, 43, rfl⟩
abbrev main_call3_cst : Ref sig .tc := ⟨.hbm, 44, rfl⟩
abbrev main_call3_v2 : Ref sig .tc := ⟨.hbm, 45, rfl⟩
abbrev main_call3_v3 : Ref sig .tc := ⟨.hbm, 46, rfl⟩
abbrev main_call3_cst_0 : Ref sig .tc := ⟨.hbm, 47, rfl⟩
abbrev main_call3_v4 : Ref sig .tc := ⟨.hbm, 48, rfl⟩
abbrev main_call3_v5 : Ref sig .tc := ⟨.hbm, 49, rfl⟩
abbrev main_v27 : Ref sig .tc := ⟨.hbm, 50, rfl⟩
abbrev main_v28 : Ref sig .tc := ⟨.hbm, 51, rfl⟩
abbrev main_call4_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== Kernel5.lean ====
abbrev S32x8x128x512 : Shape := ⟨4, ![32, 8, 128, 512]⟩
abbrev S16384x8 : Shape := ⟨2, ![16384, 8]⟩
abbrev S16384x1024 : Shape := ⟨2, ![16384, 1024]⟩
abbrev S16384x512 : Shape := ⟨2, ![16384, 512]⟩
abbrev S8x6x1024 : Shape := ⟨3, ![8, 6, 1024]⟩
abbrev S1024 : Shape := ⟨1, ![1024]⟩
abbrev S1x1024 : Shape := ⟨2, ![1, 1024]⟩
abbrev S8192x1024 : Shape := ⟨2, ![8192, 1024]⟩
abbrev S1x8x128x512 : Shape := ⟨4, ![1, 8, 128, 512]⟩
abbrev S128x8 : Shape := ⟨2, ![128, 8]⟩
abbrev S128x1024 : Shape := ⟨2, ![128, 1024]⟩
abbrev S128x512 : Shape := ⟨2, ![128, 512]⟩
abbrev S1x6x1024 : Shape := ⟨3, ![1, 6, 1024]⟩
abbrev S1x1x128x512 : Shape := ⟨4, ![1, 1, 128, 512]⟩
abbrev S128x1 : Shape := ⟨2, ![128, 1]⟩
abbrev S1x1x1024 : Shape := ⟨3, ![1, 1, 1024]⟩
abbrev S128 : Shape := ⟨1, ![128]⟩
abbrev S32x256x1024 : Shape := ⟨3, ![32, 256, 1024]⟩
abbrev S4x2048x1024 : Shape := ⟨3, ![4, 2048, 1024]⟩

abbrev nBuf : Space → Nat
  | .hbm => 19
  | .vmem => 52
  | .smem => 0
  | _ => 0

abbrev bufTy : (tb : Table) → Fin (tcTables nBuf tb) → BufTy
  | .hbm, ⟨0, _⟩ => ⟨S32x8x128x512, .i32⟩
  | .hbm, ⟨1, _⟩ => ⟨S32x8x128x512, .i32⟩
  | .hbm, ⟨2, _⟩ => ⟨S32x8x128x512, .i32⟩
  | .hbm, ⟨3, _⟩ => ⟨S32x8x128x512, .i32⟩
  | .hbm, ⟨4, _⟩ => ⟨S16384x8, .f32⟩
  | .hbm, ⟨5, _⟩ => ⟨S16384x1024, .f32⟩
  | .hbm, ⟨6, _⟩ => ⟨S16384x512, .i32⟩
  | .hbm, ⟨7, _⟩ => ⟨S8x6x1024, .f32⟩
  | .hbm, ⟨8, _⟩ => ⟨S1024, .f32⟩
  | .hbm, ⟨9, _⟩ => ⟨S1x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S32x256x1024, .f32⟩
  | .hbm, ⟨18, _⟩ => ⟨S4x2048x1024, .f32⟩
  | .local _ .vmem, ⟨0, _⟩ => ⟨S1x8x128x512, .i32⟩
  | .local _ .vmem, ⟨1, _⟩ => ⟨S1x8x128x512, .i32⟩
  | .local _ .vmem, ⟨2, _⟩ => ⟨S128x8, .f32⟩
  | .local _ .vmem, ⟨3, _⟩ => ⟨S128x8, .f32⟩
  | .local _ .vmem, ⟨4, _⟩ => ⟨S128x1024, .f32⟩
  | .local _ .vmem, ⟨5, _⟩ => ⟨S128x1024, .f32⟩
  | .local _ .vmem, ⟨6, _⟩ => ⟨S128x512, .i32⟩
  | .local _ .vmem, ⟨7, _⟩ => ⟨S128x512, .i32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S128x1024, .f32⟩
  | .local _ .vmem, ⟨12, _⟩ => ⟨S128x1024, .f32⟩
  | .local _ .vmem, ⟨13, _⟩ => ⟨S1x8x128x512, .i32⟩
  | .local _ .vmem, ⟨14, _⟩ => ⟨S1x8x128x512, .i32⟩
  | .local _ .vmem, ⟨15, _⟩ => ⟨S128x8, .f32⟩
  | .local _ .vmem, ⟨16, _⟩ => ⟨S128x8, .f32⟩
  | .local _ .vmem, ⟨17, _⟩ => ⟨S128x1024, .f32⟩
  | .local _ .vmem, ⟨18, _⟩ => ⟨S128x1024, .f32⟩
  | .local _ .vmem, ⟨19, _⟩ => ⟨S128x512, .i32⟩
  | .local _ .vmem, ⟨20, _⟩ => ⟨S128x512, .i32⟩
  | .local _ .vmem, ⟨21, _⟩ => ⟨S1x6x1024, .f32⟩
  | .local _ .vmem, ⟨22, _⟩ => ⟨S1x6x1024, .f32⟩
  | .local _ .vmem, ⟨23, _⟩ => ⟨S1x1024, .f32⟩
  | .local _ .vmem, ⟨24, _⟩ => ⟨S128x1024, .f32⟩
  | .local _ .vmem, ⟨25, _⟩ => ⟨S128x1024, .f32⟩
  | .local _ .vmem, ⟨26, _⟩ => ⟨S1x8x128x512, .i32⟩
  | .local _ .vmem, ⟨27, _⟩ => ⟨S1x8x128x512, .i32⟩
  | .local _ .vmem, ⟨28, _⟩ => ⟨S128x8, .f32⟩
  | .local _ .vmem, ⟨29, _⟩ => ⟨S128x8, .f32⟩
  | .local _ .vmem, ⟨30, _⟩ => ⟨S128x1024, .f32⟩
  | .local _ .vmem, ⟨31, _⟩ => ⟨S128x1024, .f32⟩
  | .local _ .vmem, ⟨32, _⟩ => ⟨S128x512, .i32⟩
  | .local _ .vmem, ⟨33, _⟩ => ⟨S128x512, .i32⟩
  | .local _ .vmem, ⟨34, _⟩ => ⟨S1x6x1024, .f32⟩
  | .local _ .vmem, ⟨35, _⟩ => ⟨S1x6x1024, .f32⟩
  | .local _ .vmem, ⟨36, _⟩ => ⟨S1x1024, .f32⟩
  | .local _ .vmem, ⟨37, _⟩ => ⟨S128x1024, .f32⟩
  | .local _ .vmem, ⟨38, _⟩ => ⟨S128x1024, .f32⟩
  | .local _ .vmem, ⟨39, _⟩ => ⟨S1x8x128x512, .i32⟩
  | .local _ .vmem, ⟨40, _⟩ => ⟨S1x8x128x512, .i32⟩
  | .local _ .vmem, ⟨41, _⟩ => ⟨S128x8, .f32⟩
  | .local _ .vmem, ⟨42, _⟩ => ⟨S128x8, .f32⟩
  | .local _ .vmem, ⟨43, _⟩ => ⟨S128x1024, .f32⟩
  | .local _ .vmem, ⟨44, _⟩ => ⟨S128x1024, .f32⟩
  | .local _ .vmem, ⟨45, _⟩ => ⟨S128x512, .i32⟩
  | .local _ .vmem, ⟨46, _⟩ => ⟨S128x512, .i32⟩
  | .local _ .vmem, ⟨47, _⟩ => ⟨S1x6x1024, .f32⟩
  | .local _ .vmem, ⟨48, _⟩ => ⟨S1x6x1024, .f32⟩
  | .local _ .vmem, ⟨49, _⟩ => ⟨S1x1024, .f32⟩
  | .local _ .vmem, ⟨50, _⟩ => ⟨S128x1024, .f32⟩
  | .local _ .vmem, ⟨51, _⟩ => ⟨S128x1024, .f32⟩
  | _, _ => ⟨S32x8x128x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg6_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg4_1 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg6_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem6_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem6_0 : DmaSem sig := 37
abbrev cc2_sem6_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem4_1 : DmaSem sig := 48
abbrev cc3_sem5_0 : DmaSem sig := 49
abbrev cc3_sem6_0 : DmaSem sig := 50
abbrev cc3_sem6_1 : DmaSem sig := 51

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let c0_i32 : BitVec 32 := 0#32
  let v0 : BitVec 32 := Scalar.addi c0_i32 arg0
  let c128_i32 : BitVec 32 := 128#32
  let v1 : BitVec 32 := Scalar.muli v0 c128_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c2048_i32 : BitVec 32 := 2048#32
  let v4 : BitVec 32 := Scalar.divsi v3 c2048_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32 c0_i32_3
  let v11 : BitVec 32 := Scalar.extui v10
  let c0_i32_4 : BitVec 32 := 0#32
  let v12 : BitVec 1 := Scalar.cmpi .slt c2048_i32 c0_i32_4
  let v13 : BitVec 32 := Scalar.extui v12
  let v14 : BitVec 32 := Scalar.subi v11 v13
  let v15 : BitVec 1 := Scalar.cmpi .ne v9 v14
  let v16 : BitVec 32 := Scalar.remsi v3 c2048_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v2 c0_i32_7 v21
  let c0_i32_8 : BitVec 32 := 0#32
  let c0_i32_9 : BitVec 32 := 0#32
  let c0_i32_10 : BitVec 32 := 0#32
  ![v22.toNat, c0_i32_8.toNat, c0_i32_9.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1x8x128x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc1_transform_4 (i : grid1.Coords) : Fin 3 → Nat :=
  let arg0 : BitVec 32 := BitVec.ofNat 32 (i 0).val
  let c32_i32 : BitVec 32 := 32#32
  let v0 : BitVec 32 := Scalar.addi c32_i32 arg0
  let c128_i32 : BitVec 32 := 128#32
  let v1 : BitVec 32 := Scalar.muli v0 c128_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c1_i32_5 : BitVec 32 := 1#32
  let v21 : BitVec 32 := Scalar.addi c1_i32_5 v20
  let c0_i32_6 : BitVec 32 := 0#32
  let v22 : BitVec 32 := Scalar.select v2 c0_i32_6 v21
  let c0_i32_7 : BitVec 32 := 0#32
  let c0_i32_8 : BitVec 32 := 0#32
  let c0_i32_9 : BitVec 32 := 0#32
  ![v22.toNat, c0_i32_7.toNat, c0_i32_8.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

abbrev stage1_0 : Fin 2 → Memref sig .tc .vmem S1x8x128x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x6x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc2_transform_4 (i : grid2.Coords) : Fin 3 → Nat :=
  let arg0 : BitVec 32 := BitVec.ofNat 32 (i 0).val
  let c64_i32 : BitVec 32 := 64#32
  let v0 : BitVec 32 := Scalar.addi c64_i32 arg0
  let c128_i32 : BitVec 32 := 128#32
  let v1 : BitVec 32 := Scalar.muli v0 c128_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c1_i32_5 : BitVec 32 := 1#32
  let v21 : BitVec 32 := Scalar.addi c1_i32_5 v20
  let c0_i32_6 : BitVec 32 := 0#32
  let v22 : BitVec 32 := Scalar.select v2 c0_i32_6 v21
  let c0_i32_7 : BitVec 32 := 0#32
  let c0_i32_8 : BitVec 32 := 0#32
  let c0_i32_9 : BitVec 32 := 0#32
  ![v22.toNat, c0_i32_7.toNat, c0_i32_8.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage2_0 : Fin 2 → Memref sig .tc .vmem S1x8x128x512 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x512 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x6x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S128x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![32], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let c0_i32_0 : BitVec 32 := 0#32
  ![v0.toNat, c0_i32.toNat]

def cc3_transform_4 (i : grid3.Coords) : Fin 3 → Nat :=
  let arg0 : BitVec 32 := BitVec.ofNat 32 (i 0).val
  let c96_i32 : BitVec 32 := 96#32
  let v0 : BitVec 32 := Scalar.addi c96_i32 arg0
  let c128_i32 : BitVec 32 := 128#32
  let v1 : BitVec 32 := Scalar.muli v0 c128_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c1_i32_5 : BitVec 32 := 1#32
  let v21 : BitVec 32 := Scalar.addi c1_i32_5 v20
  let c0_i32_6 : BitVec 32 := 0#32
  let v22 : BitVec 32 := Scalar.select v2 c0_i32_6 v21
  let c0_i32_7 : BitVec 32 := 0#32
  let c0_i32_8 : BitVec 32 := 0#32
  let c0_i32_9 : BitVec 32 := 0#32
  ![v22.toNat, c0_i32_7.toNat, c0_i32_8.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

abbrev stage3_0 : Fin 2 → Memref sig .tc .vmem S1x8x128x512 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x512 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x6x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S128x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== Reference5Ideal.lean ====
abbrev S32x8x128x512 : Shape := ⟨4, ![32, 8, 128, 512]⟩
abbrev S16384x8 : Shape := ⟨2, ![16384, 8]⟩
abbrev S16384x1024 : Shape := ⟨2, ![16384, 1024]⟩
abbrev S16384x512 : Shape := ⟨2, ![16384, 512]⟩
abbrev S8x6x1024 : Shape := ⟨3, ![8, 6, 1024]⟩
abbrev S1024 : Shape := ⟨1, ![1024]⟩
abbrev S8192x8 : Shape := ⟨2, ![8192, 8]⟩
abbrev S8192x1024 : Shape := ⟨2, ![8192, 1024]⟩
abbrev S32x256x1024 : Shape := ⟨3, ![32, 256, 1024]⟩
abbrev S8192x512 : Shape := ⟨2, ![8192, 512]⟩
abbrev S1x1x1024 : Shape := ⟨3, ![1, 1, 1024]⟩
abbrev S64x8x128x512 : Shape := ⟨4, ![64, 8, 128, 512]⟩
abbrev S_ : Shape := ⟨0, ![]⟩
abbrev S64x8x128x1024 : Shape := ⟨4, ![64, 8, 128, 1024]⟩
abbrev S64x128x8 : Shape := ⟨3, ![64, 128, 8]⟩
abbrev S64x8x128 : Shape := ⟨3, ![64, 8, 128]⟩
abbrev S64x8x128x1 : Shape := ⟨4, ![64, 8, 128, 1]⟩
abbrev S64x128x1024 : Shape := ⟨3, ![64, 128, 1024]⟩
abbrev S32x256 : Shape := ⟨2, ![32, 256]⟩
abbrev S32x256x1 : Shape := ⟨3, ![32, 256, 1]⟩
abbrev S4x2048x1024 : Shape := ⟨3, ![4, 2048, 1024]⟩
abbrev S4x1x1024 : Shape := ⟨3, ![4, 1, 1024]⟩
abbrev S4x2048 : Shape := ⟨2, ![4, 2048]⟩
abbrev S4x2048x1 : Shape := ⟨3, ![4, 2048, 1]⟩

abbrev nBuf : Space → Nat
  | .hbm => 115
  | .vmem => 0
  | .smem => 0
  | _ => 0

abbrev bufTy : (tb : Table) → Fin (tcTables nBuf tb) → BufTy
  | .hbm, ⟨0, _⟩ => ⟨S32x8x128x512, .i32⟩
  | .hbm, ⟨1, _⟩ => ⟨S32x8x128x512, .i32⟩
  | .hbm, ⟨2, _⟩ => ⟨S32x8x128x512, .i32⟩
  | .hbm, ⟨3, _⟩ => ⟨S32x8x128x512, .i32⟩
  | .hbm, ⟨4, _⟩ => ⟨S16384x8, .f32⟩
  | .hbm, ⟨5, _⟩ => ⟨S16384x1024, .f32⟩
  | .hbm, ⟨6, _⟩ => ⟨S16384x512, .i32⟩
  | .hbm, ⟨7, _⟩ => ⟨S8x6x1024, .f32⟩
  | .hbm, ⟨8, _⟩ => ⟨S1024, .f32⟩
  | .hbm, ⟨9, _⟩ => ⟨S8192x8, .f32⟩
  | .hbm, ⟨10, _⟩ => ⟨S8192x1024, .f32⟩
  | .hbm, ⟨11, _⟩ => ⟨S32x256x1024, .f32⟩
  | .hbm, ⟨12, _⟩ => ⟨S8192x512, .i32⟩
  | .hbm, ⟨13, _⟩ => ⟨S1x1x1024, .f32⟩
  | .hbm, ⟨14, _⟩ => ⟨S64x8x128x512, .i32⟩
  | .hbm, ⟨15, _⟩ => ⟨S_, .i32⟩
  | .hbm, ⟨16, _⟩ => ⟨S64x8x128x512, .i32⟩
  | .hbm, ⟨17, _⟩ => ⟨S64x8x128x512, .i32⟩
  | .hbm, ⟨18, _⟩ => ⟨S64x8x128x512, .f32⟩
  | .hbm, ⟨19, _⟩ => ⟨S_, .i32⟩
  | .hbm, ⟨20, _⟩ => ⟨S64x8x128x512, .i32⟩
  | .hbm, ⟨21, _⟩ => ⟨S64x8x128x512, .i32⟩
  | .hbm, ⟨22, _⟩ => ⟨S64x8x128x512, .f32⟩
  | .hbm, ⟨23, _⟩ => ⟨S64x8x128x1024, .f32⟩
  | .hbm, ⟨24, _⟩ => ⟨S64x128x8, .f32⟩
  | .hbm, ⟨25, _⟩ => ⟨S64x8x128, .f32⟩
  | .hbm, ⟨26, _⟩ => ⟨S64x8x128x1, .f32⟩
  | .hbm, ⟨27, _⟩ => ⟨S64x8x128x1024, .f32⟩
  | .hbm, ⟨28, _⟩ => ⟨S64x8x128x1024, .f32⟩
  | .hbm, ⟨29, _⟩ => ⟨S_, .f32⟩
  | .hbm, ⟨30, _⟩ => ⟨S64x128x1024, .f32⟩
  | .hbm, ⟨31, _⟩ => ⟨S32x256x1024, .f32⟩
  | .hbm, ⟨32, _⟩ => ⟨S_, .i32⟩
  | .hbm, ⟨33, _⟩ => ⟨S8192x512, .i32⟩
  | .hbm, ⟨34, _⟩ => ⟨S8192x512, .i32⟩
  | .hbm, ⟨35, _⟩ => ⟨S8192x512, .f32⟩
  | .hbm, ⟨36, _⟩ => ⟨S_, .i32⟩
  | .hbm, ⟨37, _⟩ => ⟨S8192x512, .i32⟩
  | .hbm, ⟨38, _⟩ => ⟨S8192x512, .i32⟩
  | .hbm, ⟨39, _⟩ => ⟨S8192x512, .f32⟩
  | .hbm, ⟨40, _⟩ => ⟨S8192x1024, .f32⟩
  | .hbm, ⟨41, _⟩ => ⟨S32x256x1024, .f32⟩
  | .hbm, ⟨42, _⟩ => ⟨S32x256x1024, .f32⟩
  | .hbm, ⟨43, _⟩ => ⟨S32x256x1024, .f32⟩
  | .hbm, ⟨44, _⟩ => ⟨S32x256x1024, .f32⟩
  | .hbm, ⟨45, _⟩ => ⟨S32x256x1024, .f32⟩
  | .hbm, ⟨46, _⟩ => ⟨S32x256x1024, .f32⟩
  | .hbm, ⟨47, _⟩ => ⟨S_, .f32⟩
  | .hbm, ⟨48, _⟩ => ⟨S32x256, .f32⟩
  | .hbm, ⟨49, _⟩ => ⟨S32x256x1, .f32⟩
  | .hbm, ⟨50, _⟩ => ⟨S_, .f32⟩
  | .hbm, ⟨51, _⟩ => ⟨S32x256x1, .f32⟩
  | .hbm, ⟨52, _⟩ => ⟨S32x256x1, .f32⟩
  | .hbm, ⟨53, _⟩ => ⟨S_, .f32⟩
  | .hbm, ⟨54, _⟩ => ⟨S32x256x1, .f32⟩
  | .hbm, ⟨55, _⟩ => ⟨S32x256x1, .f32⟩
  | .hbm, ⟨56, _⟩ => ⟨S32x256x1, .f32⟩
  | .hbm, ⟨57, _⟩ => ⟨S32x256x1024, .f32⟩
  | .hbm, ⟨58, _⟩ => ⟨S32x256x1024, .f32⟩
  | .hbm, ⟨59, _⟩ => ⟨S1x1x1024, .f32⟩
  | .hbm, ⟨60, _⟩ => ⟨S32x256x1024, .f32⟩
  | .hbm, ⟨61, _⟩ => ⟨S32x256x1024, .f32⟩
  | .hbm, ⟨62, _⟩ => ⟨S8192x8, .f32⟩
  | .hbm, ⟨63, _⟩ => ⟨S8192x1024, .f32⟩
  | .hbm, ⟨64, _⟩ => ⟨S4x2048x1024, .f32⟩
  | .hbm, ⟨65, _⟩ => ⟨S8192x512, .i32⟩
  | .hbm, ⟨66, _⟩ => ⟨S4x1x1024, .f32⟩
  | .hbm, ⟨67, _⟩ => ⟨S64x8x128x512, .i32⟩
  | .hbm, ⟨68, _⟩ => ⟨S_, .i32⟩
  | .hbm, ⟨69, _⟩ => ⟨S64x8x128x512, .i32⟩
  | .hbm, ⟨70, _⟩ => ⟨S64x8x128x512, .i32⟩
  | .hbm, ⟨71, _⟩ => ⟨S64x8x128x512, .f32⟩
  | .hbm, ⟨72, _⟩ => ⟨S_, .i32⟩
  | .hbm, ⟨73, _⟩ => ⟨S64x8x128x512, .i32⟩
  | .hbm, ⟨74, _⟩ => ⟨S64x8x128x512, .i32⟩
  | .hbm, ⟨75, _⟩ => ⟨S64x8x128x512, .f32⟩
  | .hbm, ⟨76, _⟩ => ⟨S64x8x128x1024, .f32⟩
  | .hbm, ⟨77, _⟩ => ⟨S64x128x8, .f32⟩
  | .hbm, ⟨78, _⟩ => ⟨S64x8x128, .f32⟩
  | .hbm, ⟨79, _⟩ => ⟨S64x8x128x1, .f32⟩
  | .hbm, ⟨80, _⟩ => ⟨S64x8x128x1024, .f32⟩
  | .hbm, ⟨81, _⟩ => ⟨S64x8x128x1024, .f32⟩
  | .hbm, ⟨82, _⟩ => ⟨S_, .f32⟩
  | .hbm, ⟨83, _⟩ => ⟨S64x128x1024, .f32⟩
  | .hbm, ⟨84, _⟩ => ⟨S4x2048x1024, .f32⟩
  | .hbm, ⟨85, _⟩ => ⟨S_, .i32⟩
  | .hbm, ⟨86, _⟩ => ⟨S8192x512, .i32⟩
  | .hbm, ⟨87, _⟩ => ⟨S8192x512, .i32⟩
  | .hbm, ⟨88, _⟩ => ⟨S8192x512, .f32⟩
  | .hbm, ⟨89, _⟩ => ⟨S_, .i32⟩
  | .hbm, ⟨90, _⟩ => ⟨S8192x512, .i32⟩
  | .hbm, ⟨91, _⟩ => ⟨S8192x512, .i32⟩
  | .hbm, ⟨92, _⟩ => ⟨S8192x512, .f32⟩
  | .hbm, ⟨93, _⟩ => ⟨S8192x1024, .f32⟩
  | .hbm, ⟨94, _⟩ => ⟨S4x2048x1024, .f32⟩
  | .hbm, ⟨95, _⟩ => ⟨S4x2048x1024, .f32⟩
  | .hbm, ⟨96, _⟩ => ⟨S4x2048x1024, .f32⟩
  | .hbm, ⟨97, _⟩ => ⟨S4x2048x1024, .f32⟩
  | .hbm, ⟨98, _⟩ => ⟨S4x2048x1024, .f32⟩
  | .hbm, ⟨99, _⟩ => ⟨S4x2048x1024, .f32⟩
  | .hbm, ⟨100, _⟩ => ⟨S_, .f32⟩
  | .hbm, ⟨101, _⟩ => ⟨S4x2048, .f32⟩
  | .hbm, ⟨102, _⟩ => ⟨S4x2048x1, .f32⟩
  | .hbm, ⟨103, _⟩ => ⟨S_, .f32⟩
  | .hbm, ⟨104, _⟩ => ⟨S4x2048x1, .f32⟩
  | .hbm, ⟨105, _⟩ => ⟨S4x2048x1, .f32⟩
  | .hbm, ⟨106, _⟩ => ⟨S_, .f32⟩
  | .hbm, ⟨107, _⟩ => ⟨S4x2048x1, .f32⟩
  | .hbm, ⟨108, _⟩ => ⟨S4x2048x1, .f32⟩
  | .hbm, ⟨109, _⟩ => ⟨S4x2048x1, .f32⟩
  | .hbm, ⟨110, _⟩ => ⟨S4x2048x1024, .f32⟩
  | .hbm, ⟨111, _⟩ => ⟨S4x2048x1024, .f32⟩
  | .hbm, ⟨112, _⟩ => ⟨S1x1x1024, .f32⟩
  | .hbm, ⟨113, _⟩ => ⟨S4x2048x1024, .f32⟩
  | .hbm, ⟨114, _⟩ => ⟨S4x2048x1024, .f32⟩
  | _, _ => ⟨S32x8x128x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_7 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_c_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_cst_13 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== Kernel6.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x6144 : Shape := ⟨2, ![1, 6144]⟩
abbrev S8x6144 : Shape := ⟨2, ![8, 6144]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S1x6144 : Shape := ⟨2, ![1, 6144]⟩
abbrev S4x6144 : Shape := ⟨2, ![4, 6144]⟩
abbrev S3x6144 : Shape := ⟨2, ![3, 6144]⟩
abbrev S8x6144 : Shape := ⟨2, ![8, 6144]⟩

abbrev nBuf : Space → Nat
  | .hbm => 35
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S6144, .f32⟩
  | .hbm, ⟨14, _⟩ => ⟨S6144, .f32⟩
  | .hbm, ⟨15, _⟩ => ⟨S1x6144, .f32⟩
  | .hbm, ⟨16, _⟩ => ⟨S4x1024, .f32⟩
  | .hbm, ⟨17, _⟩ => ⟨S4x1024, .f32⟩
  | .hbm, ⟨18, _⟩ => ⟨S_, .f32⟩
  | .hbm, ⟨19, _⟩ => ⟨S4x1024, .f32⟩
  | .hbm, ⟨20, _⟩ => ⟨S4x1024, .f32⟩
  | .hbm, ⟨21, _⟩ => ⟨S_, .f32⟩
  | .hbm, ⟨22, _⟩ => ⟨S4x1024, .f32⟩
  | .hbm, ⟨23, _⟩ => ⟨S4x1024, .f32⟩
  | .hbm, ⟨24, _⟩ => ⟨S4x1024, .f32⟩
  | .hbm, ⟨25, _⟩ => ⟨S4x6144, .f32⟩
  | .hbm, ⟨26, _⟩ => ⟨S1x6144, .f32⟩
  | .hbm, ⟨27, _⟩ => ⟨S4x6144, .f32⟩
  | .hbm, ⟨28, _⟩ => ⟨S4x6144, .f32⟩
  | .hbm, ⟨29, _⟩ => ⟨S_, .f32⟩
  | .hbm, ⟨30, _⟩ => ⟨S3x6144, .f32⟩
  | .hbm, ⟨31, _⟩ => ⟨S1x6144, .f32⟩
  | .hbm, ⟨32, _⟩ => ⟨S3x6144, .f32⟩
  | .hbm, ⟨33, _⟩ => ⟨S3x6144, .f32⟩
  | .hbm, ⟨34, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩

abbrev nD : Nat := 1
abbrev τ : Topo := Topo.v7x

variable {F : FTy → Type} [FloatOps F]
-- ==== Kernel7.lean ====
abbrev S16384x512 : Shape := ⟨2, ![16384, 512]⟩
abbrev S4x128x128 : Shape := ⟨3, ![4, 128, 128]⟩
abbrev S512 : Shape := ⟨1, ![512]⟩
abbrev S1x512 : Shape := ⟨2, ![1, 512]⟩
abbrev S8192x512 : Shape := ⟨2, ![8192, 512]⟩
abbrev S256x512 : Shape := ⟨2, ![256, 512]⟩
abbrev S256x256 : Shape := ⟨2, ![256, 256]⟩
abbrev S256x1 : Shape := ⟨2, ![256, 1]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S4x128x128, .bf16⟩
  | .local _ .vmem, ⟨3, _⟩ => ⟨S1x512, .f32⟩
  | .local _ .vmem, ⟨4, _⟩ => ⟨S256x512, .f32⟩
  | .local _ .vmem, ⟨5, _⟩ => ⟨S256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16384x512 : Shape := ⟨2, ![16384, 512]⟩
abbrev S4x128x128 : Shape := ⟨3, ![4, 128, 128]⟩
abbrev S512 : Shape := ⟨1, ![512]⟩
abbrev S8192x512 : Shape := ⟨2, ![8192, 512]⟩
abbrev S32x256x512 : Shape := ⟨3, ![32, 256, 512]⟩
abbrev S32x256x128 : Shape := ⟨3, ![32, 256, 128]⟩
abbrev S_ : Shape := ⟨0, ![]⟩
abbrev S32x1x128 : Shape := ⟨3, ![32, 1, 128]⟩
abbrev S32x257x128 : Shape := ⟨3, ![32, 257, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x256x1 : Shape := ⟨3, ![1, 256, 1]⟩
abbrev S1x128x128 : Shape := ⟨3, ![1, 128, 128]⟩
abbrev S128x128 : Shape := ⟨2, ![128, 128]⟩
abbrev S1x1x512 : Shape := ⟨3, ![1, 1, 512]⟩

abbrev nBuf : Space → Nat
  | .hbm => 370
  | .vmem => 0
  | .smem => 0
  | _ => 0

abbrev hbmTy0_0 (i : Nat) : BufTy := match i % 128 with
  | 0 => ⟨S16384x512, .f32⟩
  | 1 => ⟨S4x128x128, .f32⟩
  | 2 => ⟨S512, .f32⟩
  | 3 => ⟨S8192x512, .f32⟩
  | 4 => ⟨S32x256x512, .f32⟩
  | 5 => ⟨S32x256x128, .f32⟩
  | 6 => ⟨S_, .f32⟩
  | 7 => ⟨S_, .f32⟩
  | 8 => ⟨S32x256x128, .f32⟩
  | 9 => ⟨S32x1x128, .f32⟩
  | 10 => ⟨S_, .f32⟩
  | 11 => ⟨S32x1x128, .f32⟩
  | 12 => ⟨S32x257x128, .f32⟩
  | 13 => ⟨S256, .i32⟩
  | 14 => ⟨S_, .i32⟩
  | 15 => ⟨S256, .i32⟩
  | 16 => ⟨S256, .i32⟩
  | 17 => ⟨S_, .i32⟩
  | 18 => ⟨S_, .i32⟩
  | 19 => ⟨S_, .i32⟩
  | 20 => ⟨S256, .i32⟩
  | 21 => ⟨S256, .i32⟩
  | 22 => ⟨S_, .i32⟩
  | 23 => ⟨S256, .i32⟩
  | 24 => ⟨S256, .i32⟩
  | 25 => ⟨S_, .i32⟩
  | 26 => ⟨S256, .i32⟩
  | 27 => ⟨S256, .i32⟩
  | 28 => ⟨S_, .i32⟩
  | 29 => ⟨S256, .i32⟩
  | 30 => ⟨S256, .i32⟩
  | 31 => ⟨S_, .i32⟩
  | 32 => ⟨S_, .i32⟩
  | 33 => ⟨S_, .i32⟩
  | 34 => ⟨S256, .i32⟩
  | 35 => ⟨S256, .i32⟩
  | 36 => ⟨S_, .i32⟩
  | 37 => ⟨S256, .i32⟩
  | 38 => ⟨S256, .i32⟩
  | 39 => ⟨S_, .i32⟩
  | 40 => ⟨S256, .i32⟩
  | 41 => ⟨S256, .i1⟩
  | 42 => ⟨S_, .i32⟩
  | 43 => ⟨S256, .i32⟩
  | 44 => ⟨S256, .i32⟩
  | 45 => ⟨S256, .i32⟩
  | 46 => ⟨S256x1, .i32⟩
  | 47 => ⟨S1, .i32⟩
  | 48 => ⟨S_, .i32⟩
  | 49 => ⟨S256x1, .i32⟩
  | 50 => ⟨S256x1, .i1⟩
  | 51 => ⟨S1x1, .i32⟩
  | 52 => ⟨S256x1, .i32⟩
  | 53 => ⟨S256x1, .i1⟩
  | 54 => ⟨S256x1, .i1⟩
  | 55 => ⟨S_, .i1⟩
  | 56 => ⟨S256, .i1⟩
  | 57 => ⟨S32x256x128, .f32⟩
  | 58 => ⟨S32x256x128, .i1⟩
  | 59 => ⟨S_, .f32⟩
  | 60 => ⟨S32x256x128, .f32⟩
  | 61 => ⟨S32x256x128, .f32⟩
  | 62 => ⟨S_, .i32⟩
  | 63 => ⟨S256, .i32⟩
  | 64 => ⟨S256, .i1⟩
  | 65 => ⟨S_, .i32⟩
  | 66 => ⟨S256, .i32⟩
  | 67 => ⟨S256, .i32⟩
  | 68 => ⟨S256, .i32⟩
  | 69 => ⟨S256x1, .i32⟩
  | 70 => ⟨S1, .i32⟩
  | 71 => ⟨S_, .i32⟩
  | 72 => ⟨S256x1, .i32⟩
  | 73 => ⟨S256x1, .i1⟩
  | 74 => ⟨S1x1, .i32⟩
  | 75 => ⟨S256x1, .i32⟩
  | 76 => ⟨S256x1, .i1⟩
  | 77 => ⟨S256x1, .i1⟩
  | 78 => ⟨S_, .i1⟩
  | 79 => ⟨S256, .i1⟩
  | 80 => ⟨S32x256x128, .f32⟩
  | 81 => ⟨S32x256x128, .i1⟩
  | 82 => ⟨S_, .f32⟩
  | 83 => ⟨S32x256x128, .f32⟩
  | 84 => ⟨S32x256x128, .f32⟩
  | 85 => ⟨S32x256x128, .f32⟩
  | 86 => ⟨S256, .i32⟩
  | 87 => ⟨S256, .f32⟩
  | 88 => ⟨S1x256x1, .f32⟩
  | 89 => ⟨S32x256x128, .f32⟩
  | 90 => ⟨S32x256x128, .f32⟩
  | 91 => ⟨S32x256x128, .f32⟩
  | 92 => ⟨S1x128x128, .f32⟩
  | 93 => ⟨S128x128, .f32⟩
  | 94 => ⟨S32x256x128, .f32⟩
  | 95 => ⟨S32x256x128, .f32⟩
  | 96 => ⟨S_, .f32⟩
  | 97 => ⟨S_, .f32⟩
  | 98 => ⟨S32x256x128, .f32⟩
  | 99 => ⟨S32x1x128, .f32⟩
  | 100 => ⟨S_, .f32⟩
  | 101 => ⟨S32x1x128, .f32⟩
  | 102 => ⟨S32x257x128, .f32⟩
  | 103 => ⟨S256, .i32⟩
  | 104 => ⟨S_, .i32⟩
  | 105 => ⟨S256, .i32⟩
  | 106 => ⟨S256, .i32⟩
  | 107 => ⟨S_, .i32⟩
  | 108 => ⟨S_, .i32⟩
  | 109 => ⟨S_, .i32⟩
  | 110 => ⟨S256, .i32⟩
  | 111 => ⟨S256, .i32⟩
  | 112 => ⟨S_, .i32⟩
  | 113 => ⟨S256, .i32⟩
  | 114 => ⟨S256, .i32⟩
  | 115 => ⟨S_, .i32⟩
  | 116 => ⟨S256, .i32⟩
  | 117 => ⟨S256, .i32⟩
  | 118 => ⟨S_, .i32⟩
  | 119 => ⟨S256, .i32⟩
  | 120 => ⟨S256, .i32⟩
  | 121 => ⟨S_, .i32⟩
  | 122 => ⟨S_, .i32⟩
  | 123 => ⟨S_, .i32⟩
  | 124 => ⟨S256, .i32⟩
  | 125 => ⟨S256, .i32⟩
  | 126 => ⟨S_, .i32⟩
  | 127 => ⟨S256, .i32⟩
  | _ => ⟨S16384x512, .f32⟩

abbrev hbmTy0_1 (i : Nat) : BufTy := match i % 128 with
  | 0 => ⟨S256, .i32⟩
  | 1 => ⟨S_, .i32⟩
  | 2 => ⟨S256, .i32⟩
  | 3 => ⟨S256, .i1⟩
  | 4 => ⟨S_, .i32⟩
  | 5 => ⟨S256, .i32⟩
  | 6 => ⟨S256, .i32⟩
  | 7 => ⟨S256, .i32⟩
  | 8 => ⟨S256x1, .i32⟩
  | 9 => ⟨S1, .i32⟩
  | 10 => ⟨S_, .i32⟩
  | 11 => ⟨S256x1, .i32⟩
  | 12 => ⟨S256x1, .i1⟩
  | 13 => ⟨S1x1, .i32⟩
  | 14 => ⟨S256x1, .i32⟩
  | 15 => ⟨S256x1, .i1⟩
  | 16 => ⟨S256x1, .i1⟩
  | 17 => ⟨S_, .i1⟩
  | 18 => ⟨S256, .i1⟩
  | 19 => ⟨S32x256x128, .f32⟩
  | 20 => ⟨S32x256x128, .i1⟩
  | 21 => ⟨S_, .f32⟩
  | 22 => ⟨S32x256x128, .f32⟩
  | 23 => ⟨S32x256x128, .f32⟩
  | 24 => ⟨S_, .i32⟩
  | 25 => ⟨S256, .i32⟩
  | 26 => ⟨S256, .i1⟩
  | 27 => ⟨S_, .i32⟩
  | 28 => ⟨S256, .i32⟩
  | 29 => ⟨S256, .i32⟩
  | 30 => ⟨S256, .i32⟩
  | 31 => ⟨S256x1, .i32⟩
  | 32 => ⟨S1, .i32⟩
  | 33 => ⟨S_, .i32⟩
  | 34 => ⟨S256x1, .i32⟩
  | 35 => ⟨S256x1, .i1⟩
  | 36 => ⟨S1x1, .i32⟩
  | 37 => ⟨S256x1, .i32⟩
  | 38 => ⟨S256x1, .i1⟩
  | 39 => ⟨S256x1, .i1⟩
  | 40 => ⟨S_, .i1⟩
  | 41 => ⟨S256, .i1⟩
  | 42 => ⟨S32x256x128, .f32⟩
  | 43 => ⟨S32x256x128, .i1⟩
  | 44 => ⟨S_, .f32⟩
  | 45 => ⟨S32x256x128, .f32⟩
  | 46 => ⟨S32x256x128, .f32⟩
  | 47 => ⟨S32x256x128, .f32⟩
  | 48 => ⟨S256, .i32⟩
  | 49 => ⟨S256, .f32⟩
  | 50 => ⟨S1x256x1, .f32⟩
  | 51 => ⟨S32x256x128, .f32⟩
  | 52 => ⟨S32x256x128, .f32⟩
  | 53 => ⟨S32x256x128, .f32⟩
  | 54 => ⟨S1x128x128, .f32⟩
  | 55 => ⟨S128x128, .f32⟩
  | 56 => ⟨S32x256x128, .f32⟩
  | 57 => ⟨S32x256x128, .f32⟩
  | 58 => ⟨S_, .f32⟩
  | 59 => ⟨S_, .f32⟩
  | 60 => ⟨S32x256x128, .f32⟩
  | 61 => ⟨S32x1x128, .f32⟩
  | 62 => ⟨S_, .f32⟩
  | 63 => ⟨S32x1x128, .f32⟩
  | 64 => ⟨S32x257x128, .f32⟩
  | 65 => ⟨S256, .i32⟩
  | 66 => ⟨S_, .i32⟩
  | 67 => ⟨S256, .i32⟩
  | 68 => ⟨S256, .i32⟩
  | 69 => ⟨S_, .i32⟩
  | 70 => ⟨S_, .i32⟩
  | 71 => ⟨S_, .i32⟩
  | 72 => ⟨S256, .i32⟩
  | 73 => ⟨S256, .i32⟩
  | 74 => ⟨S_, .i32⟩
  | 75 => ⟨S256, .i32⟩
  | 76 => ⟨S256, .i32⟩
  | 77 => ⟨S_, .i32⟩
  | 78 => ⟨S256, .i32⟩
  | 79 => ⟨S256, .i32⟩
  | 80 => ⟨S_, .i32⟩
  | 81 => ⟨S256, .i32⟩
  | 82 => ⟨S256, .i32⟩
  | 83 => ⟨S_, .i32⟩
  | 84 => ⟨S_, .i32⟩
  | 85 => ⟨S_, .i32⟩
  | 86 => ⟨S256, .i32⟩
  | 87 => ⟨S256, .i32⟩
  | 88 => ⟨S_, .i32⟩
  | 89 => ⟨S256, .i32⟩
  | 90 => ⟨S256, .i32⟩
  | 91 => ⟨S_, .i32⟩
  | 92 => ⟨S256, .i32⟩
  | 93 => ⟨S256, .i1⟩
  | 94 => ⟨S_, .i32⟩
  | 95 => ⟨S256, .i32⟩
  | 96 => ⟨S256, .i32⟩
  | 97 => ⟨S256, .i32⟩
  | 98 => ⟨S256x1, .i32⟩
  | 99 => ⟨S1, .i32⟩
  | 100 => ⟨S_, .i32⟩
  | 101 => ⟨S256x1, .i32⟩
  | 102 => ⟨S256x1, .i1⟩
  | 103 => ⟨S1x1, .i32⟩
  | 104 => ⟨S256x1, .i32⟩
  | 105 => ⟨S256x1, .i1⟩
  | 106 => ⟨S256x1, .i1⟩
  | 107 => ⟨S_, .i1⟩
  | 108 => ⟨S256, .i1⟩
  | 109 => ⟨S32x256x128, .f32⟩
  | 110 => ⟨S32x256x128, .i1⟩
  | 111 => ⟨S_, .f32⟩
  | 112 => ⟨S32x256x128, .f32⟩
  | 113 => ⟨S32x256x128, .f32⟩
  | 114 => ⟨S_, .i32⟩
  | 115 => ⟨S256, .i32⟩
  | 116 => ⟨S256, .i1⟩
  | 117 => ⟨S_, .i32⟩
  | 118 => ⟨S256, .i32⟩
  | 119 => ⟨S256, .i32⟩
  | 120 => ⟨S256, .i32⟩
  | 121 => ⟨S256x1, .i32⟩
  | 122 => ⟨S1, .i32⟩
  | 123 => ⟨S_, .i32⟩
  | 124 => ⟨S256x1, .i32⟩
  | 125 => ⟨S256x1, .i1⟩
  | 126 => ⟨S1x1, .i32⟩
  | 127 => ⟨S256x1, .i32⟩
  | _ => ⟨S16384x512, .f32⟩

abbrev hbmTy0_2 (i : Nat) : BufTy := match i % 128 with
  | 0 => ⟨S256x1, .i1⟩
  | 1 => ⟨S256x1, .i1⟩
  | 2 => ⟨S_, .i1⟩
  | 3 => ⟨S256, .i1⟩
  | 4 => ⟨S32x256x128, .f32⟩
  | 5 => ⟨S32x256x128, .i1⟩
  | 6 => ⟨S_, .f32⟩
  | 7 => ⟨S32x256x128, .f32⟩
  | 8 => ⟨S32x256x128, .f32⟩
  | 9 => ⟨S32x256x128, .f32⟩
  | 10 => ⟨S256, .i32⟩
  | 11 => ⟨S256, .f32⟩
  | 12 => ⟨S1x256x1, .f32⟩
  | 13 => ⟨S32x256x128, .f32⟩
  | 14 => ⟨S32x256x128, .f32⟩
  | 15 => ⟨S32x256x128, .f32⟩
  | 16 => ⟨S1x128x128, .f32⟩
  | 17 => ⟨S128x128, .f32⟩
  | 18 => ⟨S32x256x128, .f32⟩
  | 19 => ⟨S32x256x128, .f32⟩
  | 20 => ⟨S_, .f32⟩
  | 21 => ⟨S_, .f32⟩
  | 22 => ⟨S32x256x128, .f32⟩
  | 23 => ⟨S32x1x128, .f32⟩
  | 24 => ⟨S_, .f32⟩
  | 25 => ⟨S32x1x128, .f32⟩
  | 26 => ⟨S32x257x128, .f32⟩
  | 27 => ⟨S256, .i32⟩
  | 28 => ⟨S_, .i32⟩
  | 29 => ⟨S256, .i32⟩
  | 30 => ⟨S256, .i32⟩
  | 31 => ⟨S_, .i32⟩
  | 32 => ⟨S_, .i32⟩
  | 33 => ⟨S_, .i32⟩
  | 34 => ⟨S256, .i32⟩
  | 35 => ⟨S256, .i32⟩
  | 36 => ⟨S_, .i32⟩
  | 37 => ⟨S256, .i32⟩
  | 38 => ⟨S256, .i32⟩
  | 39 => ⟨S_, .i32⟩
  | 40 => ⟨S256, .i32⟩
  | 41 => ⟨S256, .i32⟩
  | 42 => ⟨S_, .i32⟩
  | 43 => ⟨S256, .i32⟩
  | 44 => ⟨S256, .i32⟩
  | 45 => ⟨S_, .i32⟩
  | 46 => ⟨S_, .i32⟩
  | 47 => ⟨S_, .i32⟩
  | 48 => ⟨S256, .i32⟩
  | 49 => ⟨S256, .i32⟩
  | 50 => ⟨S_, .i32⟩
  | 51 => ⟨S256, .i32⟩
  | 52 => ⟨S256, .i32⟩
  | 53 => ⟨S_, .i32⟩
  | 54 => ⟨S256, .i32⟩
  | 55 => ⟨S256, .i1⟩
  | 56 => ⟨S_, .i32⟩
  | 57 => ⟨S256, .i32⟩
  | 58 => ⟨S256, .i32⟩
  | 59 => ⟨S256, .i32⟩
  | 60 => ⟨S256x1, .i32⟩
  | 61 => ⟨S1, .i32⟩
  | 62 => ⟨S_, .i32⟩
  | 63 => ⟨S256x1, .i32⟩
  | 64 => ⟨S256x1, .i1⟩
  | 65 => ⟨S1x1, .i32⟩
  | 66 => ⟨S256x1, .i32⟩
  | 67 => ⟨S256x1, .i1⟩
  | 68 => ⟨S256x1, .i1⟩
  | 69 => ⟨S_, .i1⟩
  | 70 => ⟨S256, .i1⟩
  | 71 => ⟨S32x256x128, .f32⟩
  | 72 => ⟨S32x256x128, .i1⟩
  | 73 => ⟨S_, .f32⟩
  | 74 => ⟨S32x256x128, .f32⟩
  | 75 => ⟨S32x256x128, .f32⟩
  | 76 => ⟨S_, .i32⟩
  | 77 => ⟨S256, .i32⟩
  | 78 => ⟨S256, .i1⟩
  | 79 => ⟨S_, .i32⟩
  | 80 => ⟨S256, .i32⟩
  | 81 => ⟨S256, .i32⟩
  | 82 => ⟨S256, .i32⟩
  | 83 => ⟨S256x1, .i32⟩
  | 84 => ⟨S1, .i32⟩
  | 85 => ⟨S_, .i32⟩
  | 86 => ⟨S256x1, .i32⟩
  | 87 => ⟨S256x1, .i1⟩
  | 88 => ⟨S1x1, .i32⟩
  | 89 => ⟨S256x1, .i32⟩
  | 90 => ⟨S256x1, .i1⟩
  | 91 => ⟨S256x1, .i1⟩
  | 92 => ⟨S_, .i1⟩
  | 93 => ⟨S256, .i1⟩
  | 94 => ⟨S32x256x128, .f32⟩
  | 95 => ⟨S32x256x128, .i1⟩
  | 96 => ⟨S_, .f32⟩
  | 97 => ⟨S32x256x128, .f32⟩
  | 98 => ⟨S32x256x128, .f32⟩
  | 99 => ⟨S32x256x128, .f32⟩
  | 100 => ⟨S256, .i32⟩
  | 101 => ⟨S256, .f32⟩
  | 102 => ⟨S1x256x1, .f32⟩
  | 103 => ⟨S32x256x128, .f32⟩
  | 104 => ⟨S32x256x128, .f32⟩
  | 105 => ⟨S32x256x128, .f32⟩
  | 106 => ⟨S1x128x128, .f32⟩
  | 107 => ⟨S128x128, .f32⟩
  | 108 => ⟨S32x256x128, .f32⟩
  | 109 => ⟨S32x256x512, .f32⟩
  | 110 => ⟨S1x1x512, .f32⟩
  | 111 => ⟨S32x256x512, .f32⟩
  | 112 => ⟨S32x256x512, .f32⟩
  | 113 => ⟨S8192x512, .f32⟩
  | _ => ⟨S16384x512, .f32⟩

abbrev hbmTy (i : Nat) : BufTy := match i / 128 with
  | 0 => hbmTy0_0 i
  | 1 => hbmTy0_1 i
  | 2 => hbmTy0_2 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_c_5 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v15 : Ref sig .tc := ⟨.hbm, 38, rfl⟩
abbrev main_call3_c : Ref sig .tc := ⟨.hbm, 39, rfl⟩
abbrev main_call3_v0 : Ref sig .tc := ⟨.hbm, 40, rfl⟩
abbrev main_call3_v1 : Ref sig .tc := ⟨.hbm, 41, rfl⟩
abbrev main_call3_c_0 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_c_1 : Ref sig .tc := ⟨.hbm, 47, rfl⟩
abbrev main_call3_c_2 : Ref sig .tc := ⟨.hbm, 48, rfl⟩
abbrev main_call3_v6 : Ref sig .tc := ⟨.hbm, 49, rfl⟩
abbrev main_call3_v7 : Ref sig .tc := ⟨.hbm, 50, rfl⟩
abbrev main_call3_v8 : Ref sig .tc := ⟨.hbm, 51, rfl⟩
abbrev main_call3_v9 : Ref sig .tc := ⟨.hbm, 52, rfl⟩
abbrev main_call3_v10 : Ref sig .tc := ⟨.hbm, 53, rfl⟩
abbrev main_call3_v11 : Ref sig .tc := ⟨.hbm, 54, rfl⟩
abbrev main_call3_c_3 : Ref sig .tc := ⟨.hbm, 55, rfl⟩
abbrev main_call3_v12 : Ref sig .tc := ⟨.hbm, 56, rfl⟩
abbrev main_call3_v13 : Ref sig .tc := ⟨.hbm, 57, rfl⟩
abbrev main_call3_v14 : Ref sig .tc := ⟨.hbm, 58, rfl⟩
abbrev main_call3_cst : Ref sig .tc := ⟨.hbm, 59, rfl⟩
abbrev main_call3_v15 : Ref sig .tc := ⟨.hbm, 60, rfl⟩
abbrev main_v16 : Ref sig .tc := ⟨.hbm, 61, rfl⟩
abbrev main_call4_c : Ref sig .tc := ⟨.hbm, 62, rfl⟩
abbrev main_call4_v0 : Ref sig .tc := ⟨.hbm, 63, rfl⟩
abbrev main_call4_v1 : Ref sig .tc := ⟨.hbm, 64, rfl⟩
abbrev main_call4_c_0 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_call4_v5 : Ref sig .tc := ⟨.hbm, 69, rfl⟩
abbrev main_call4_c_1 : Ref sig .tc := ⟨.hbm, 70, rfl⟩
abbrev main_call4_c_2 : Ref sig .tc := ⟨.hbm, 71, rfl⟩
abbrev main_call4_v6 : Ref sig .tc := ⟨.hbm, 72, rfl⟩
abbrev main_call4_v7 : Ref sig .tc := ⟨.hbm, 73, rfl⟩
abbrev main_call4_v8 : Ref sig .tc := ⟨.hbm, 74, rfl⟩
abbrev main_call4_v9 : Ref sig .tc := ⟨.hbm, 75, rfl⟩
abbrev main_call4_v10 : Ref sig .tc := ⟨.hbm, 76, rfl⟩
abbrev main_call4_v11 : Ref sig .tc := ⟨.hbm, 77, rfl⟩
abbrev main_call4_c_3 : Ref sig .tc := ⟨.hbm, 78, rfl⟩
abbrev main_call4_v12 : Ref sig .tc := ⟨.hbm, 79, rfl⟩
abbrev main_call4_v13 : Ref sig .tc := ⟨.hbm, 80, rfl⟩
abbrev main_call4_v14 : Ref sig .tc := ⟨.hbm, 81, rfl⟩
abbrev main_call4_cst : Ref sig .tc := ⟨.hbm, 82, rfl⟩
abbrev main_call4_v15 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_call5_call0_cst : Ref sig .tc := ⟨.hbm, 96, rfl⟩
abbrev main_call5_call0_v0 : Ref sig .tc := ⟨.hbm, 97, rfl⟩
abbrev main_v29 : Ref sig .tc := ⟨.hbm, 98, rfl⟩
abbrev main_v30 : Ref sig .tc := ⟨.hbm, 99, rfl⟩
abbrev main_cst_6 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_c_7 : Ref sig .tc := ⟨.hbm, 104, rfl⟩
abbrev main_v34 : Ref sig .tc := ⟨.hbm, 105, rfl⟩
abbrev main_v35 : Ref sig .tc := ⟨.hbm, 106, rfl⟩
abbrev main_c_8 : Ref sig .tc := ⟨.hbm, 107, rfl⟩
abbrev main_c_9 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_v36 : Ref sig .tc := ⟨.hbm, 114, rfl⟩
abbrev main_c_10 : Ref sig .tc := ⟨.hbm, 115, rfl⟩
abbrev main_v37 : Ref sig .tc := ⟨.hbm, 116, rfl⟩
abbrev main_v38 : Ref sig .tc := ⟨.hbm, 117, rfl⟩
abbrev main_c_11 : Ref sig .tc := ⟨.hbm, 118, rfl⟩
abbrev main_v39 : Ref sig .tc := ⟨.hbm, 119, rfl⟩
abbrev main_v40 : Ref sig .tc := ⟨.hbm, 120, rfl⟩
abbrev main_c_12 : Ref sig .tc := ⟨.hbm, 121, rfl⟩
abbrev main_c_13 : Ref sig .tc := ⟨.hbm, 122, rfl⟩
abbrev main_call7_v0 : Ref sig .tc := ⟨.hbm, 123, rfl⟩
abbrev main_call7_v1 : Ref sig .tc := ⟨.hbm, 124, rfl⟩
abbrev main_call7_v2 : Ref sig .tc := ⟨.hbm, 125, rfl⟩
abbrev main_call7_v3 : Ref sig .tc := ⟨.hbm, 126, rfl⟩
abbrev main_call7_v4 : Ref sig .tc := ⟨.hbm, 127, rfl⟩
abbrev main_v41 : Ref sig .tc := ⟨.hbm, 128, rfl⟩
abbrev main_call8_c : Ref sig .tc := ⟨.hbm, 129, rfl⟩
abbrev main_call8_v0 : Ref sig .tc := ⟨.hbm, 130, rfl⟩
abbrev main_call8_v1 : Ref sig .tc := ⟨.hbm, 131, rfl⟩
abbrev main_call8_c_0 : Ref sig .tc := ⟨.hbm, 132, rfl⟩
abbrev main_call8_v2 : Ref sig .tc := ⟨.hbm, 133, rfl⟩
abbrev main_call8_v3 : Ref sig .tc := ⟨.hbm, 134, rfl⟩
abbrev main_call8_v4 : Ref sig .tc := ⟨.hbm, 135, rfl⟩
abbrev main_call8_v5 : Ref sig .tc := ⟨.hbm, 136, rfl⟩
abbrev main_call8_c_1 : Ref sig .tc := ⟨.hbm, 137, rfl⟩
abbrev main_call8_c_2 : Ref sig .tc := ⟨.hbm, 138, rfl⟩
abbrev main_call8_v6 : Ref sig .tc := ⟨.hbm, 139, rfl⟩
abbrev main_call8_v7 : Ref sig .tc := ⟨.hbm, 140, rfl⟩
abbrev main_call8_v8 : Ref sig .tc := ⟨.hbm, 141, rfl⟩
abbrev main_call8_v9 : Ref sig .tc := ⟨.hbm, 142, rfl⟩
abbrev main_call8_v10 : Ref sig .tc := ⟨.hbm, 143, rfl⟩
abbrev main_call8_v11 : Ref sig .tc := ⟨.hbm, 144, rfl⟩
abbrev main_call8_c_3 : Ref sig .tc := ⟨.hbm, 145, rfl⟩
abbrev main_call8_v12 : Ref sig .tc := ⟨.hbm, 146, rfl⟩
abbrev main_call8_v13 : Ref sig .tc := ⟨.hbm, 147, rfl⟩
abbrev main_call8_v14 : Ref sig .tc := ⟨.hbm, 148, rfl⟩
abbrev main_call8_cst : Ref sig .tc := ⟨.hbm, 149, rfl⟩
abbrev main_call8_v15 : Ref sig .tc := ⟨.hbm, 150, rfl⟩
abbrev main_v42 : Ref sig .tc := ⟨.hbm, 151, rfl⟩
abbrev main_call9_c : Ref sig .tc := ⟨.hbm, 152, rfl⟩
abbrev main_call9_v0 : Ref sig .tc := ⟨.hbm, 153, rfl⟩
abbrev main_call9_v1 : Ref sig .tc := ⟨.hbm, 154, rfl⟩
abbrev main_call9_c_0 : Ref sig .tc := ⟨.hbm, 155, rfl⟩
abbrev main_call9_v2 : Ref sig .tc := ⟨.hbm, 156, rfl⟩
abbrev main_call9_v3 : Ref sig .tc := ⟨.hbm, 157, rfl⟩
abbrev main_call9_v4 : Ref sig .tc := ⟨.hbm, 158, rfl⟩
abbrev main_call9_v5 : Ref sig .tc := ⟨.hbm, 159, rfl⟩
abbrev main_call9_c_1 : Ref sig .tc := ⟨.hbm, 160, rfl⟩
abbrev main_call9_c_2 : Ref sig .tc := ⟨.hbm, 161, rfl⟩
abbrev main_call9_v6 : Ref sig .tc := ⟨.hbm, 162, rfl⟩
abbrev main_call9_v7 : Ref sig .tc := ⟨.hbm, 163, rfl⟩
abbrev main_call9_v8 : Ref sig .tc := ⟨.hbm, 164, rfl⟩
abbrev main_call9_v9 : Ref sig .tc := ⟨.hbm, 165, rfl⟩
abbrev main_call9_v10 : Ref sig .tc := ⟨.hbm, 166, rfl⟩
abbrev main_call9_v11 : Ref sig .tc := ⟨.hbm, 167, rfl⟩
abbrev main_call9_c_3 : Ref sig .tc := ⟨.hbm, 168, rfl⟩
abbrev main_call9_v12 : Ref sig .tc := ⟨.hbm, 169, rfl⟩
abbrev main_call9_v13 : Ref sig .tc := ⟨.hbm, 170, rfl⟩
abbrev main_call9_v14 : Ref sig .tc := ⟨.hbm, 171, rfl⟩
abbrev main_call9_cst : Ref sig .tc := ⟨.hbm, 172, rfl⟩
abbrev main_call9_v15 : Ref sig .tc := ⟨.hbm, 173, rfl⟩
abbrev main_v43 : Ref sig .tc := ⟨.hbm, 174, rfl⟩
abbrev main_v44 : Ref sig .tc := ⟨.hbm, 175, rfl⟩
abbrev main_v45 : Ref sig .tc := ⟨.hbm, 176, rfl⟩
abbrev main_v46 : Ref sig .tc := ⟨.hbm, 177, rfl⟩
abbrev main_v47 : Ref sig .tc := ⟨.hbm, 178, rfl⟩
abbrev main_v48 : Ref sig .tc := ⟨.hbm, 179, rfl⟩
abbrev main_v49 : Ref sig .tc := ⟨.hbm, 180, rfl⟩
abbrev main_v50 : Ref sig .tc := ⟨.hbm, 181, rfl⟩
abbrev main_v51 : Ref sig .tc := ⟨.hbm, 182, rfl⟩
abbrev main_v52 : Ref sig .tc := ⟨.hbm, 183, rfl⟩
abbrev main_v53 : Ref sig .tc := ⟨.hbm, 184, rfl⟩
abbrev main_v54 : Ref sig .tc := ⟨.hbm, 185, rfl⟩
abbrev main_call10_call0_cst : Ref sig .tc := ⟨.hbm, 186, rfl⟩
abbrev main_call10_call0_v0 : Ref sig .tc := ⟨.hbm, 187, rfl⟩
abbrev main_v55 : Ref sig .tc := ⟨.hbm, 188, rfl⟩
abbrev main_v56 : Ref sig .tc := ⟨.hbm, 189, rfl⟩
abbrev main_cst_14 : Ref sig .tc := ⟨.hbm, 190, rfl⟩
abbrev main_v57 : Ref sig .tc := ⟨.hbm, 191, rfl⟩
abbrev main_v58 : Ref sig .tc := ⟨.hbm, 192, rfl⟩
abbrev main_v59 : Ref sig .tc := ⟨.hbm, 193, rfl⟩
abbrev main_c_15 : Ref sig .tc := ⟨.hbm, 194, rfl⟩
abbrev main_v60 : Ref sig .tc := ⟨.hbm, 195, rfl⟩
abbrev main_v61 : Ref sig .tc := ⟨.hbm, 196, rfl⟩
abbrev main_c_16 : Ref sig .tc := ⟨.hbm, 197, rfl⟩
abbrev main_c_17 : Ref sig .tc := ⟨.hbm, 198, rfl⟩
abbrev main_call11_v0 : Ref sig .tc := ⟨.hbm, 199, rfl⟩
abbrev main_call11_v1 : Ref sig .tc := ⟨.hbm, 200, rfl⟩
abbrev main_call11_v2 : Ref sig .tc := ⟨.hbm, 201, rfl⟩
abbrev main_call11_v3 : Ref sig .tc := ⟨.hbm, 202, rfl⟩
abbrev main_call11_v4 : Ref sig .tc := ⟨.hbm, 203, rfl⟩
abbrev main_v62 : Ref sig .tc := ⟨.hbm, 204, rfl⟩
abbrev main_c_18 : Ref sig .tc := ⟨.hbm, 205, rfl⟩
abbrev main_v63 : Ref sig .tc := ⟨.hbm, 206, rfl⟩
abbrev main_v64 : Ref sig .tc := ⟨.hbm, 207, rfl⟩
abbrev main_c_19 : Ref sig .tc := ⟨.hbm, 208, rfl⟩
abbrev main_v65 : Ref sig .tc := ⟨.hbm, 209, rfl⟩
abbrev main_v66 : Ref sig .tc := ⟨.hbm, 210, rfl⟩
abbrev main_c_20 : Ref sig .tc := ⟨.hbm, 211, rfl⟩
abbrev main_c_21 : Ref sig .tc := ⟨.hbm, 212, rfl⟩
abbrev main_call12_v0 : Ref sig .tc := ⟨.hbm, 213, rfl⟩
abbrev main_call12_v1 : Ref sig .tc := ⟨.hbm, 214, rfl⟩
abbrev main_call12_v2 : Ref sig .tc := ⟨.hbm, 215, rfl⟩
abbrev main_call12_v3 : Ref sig .tc := ⟨.hbm, 216, rfl⟩
abbrev main_call12_v4 : Ref sig .tc := ⟨.hbm, 217, rfl⟩
abbrev main_v67 : Ref sig .tc := ⟨.hbm, 218, rfl⟩
abbrev main_call13_c : Ref sig .tc := ⟨.hbm, 219, rfl⟩
abbrev main_call13_v0 : Ref sig .tc := ⟨.hbm, 220, rfl⟩
abbrev main_call13_v1 : Ref sig .tc := ⟨.hbm, 221, rfl⟩
abbrev main_call13_c_0 : Ref sig .tc := ⟨.hbm, 222, rfl⟩
abbrev main_call13_v2 : Ref sig .tc := ⟨.hbm, 223, rfl⟩
abbrev main_call13_v3 : Ref sig .tc := ⟨.hbm, 224, rfl⟩
abbrev main_call13_v4 : Ref sig .tc := ⟨.hbm, 225, rfl⟩
abbrev main_call13_v5 : Ref sig .tc := ⟨.hbm, 226, rfl⟩
abbrev main_call13_c_1 : Ref sig .tc := ⟨.hbm, 227, rfl⟩
abbrev main_call13_c_2 : Ref sig .tc := ⟨.hbm, 228, rfl⟩
abbrev main_call13_v6 : Ref sig .tc := ⟨.hbm, 229, rfl⟩
abbrev main_call13_v7 : Ref sig .tc := ⟨.hbm, 230, rfl⟩
abbrev main_call13_v8 : Ref sig .tc := ⟨.hbm, 231, rfl⟩
abbrev main_call13_v9 : Ref sig .tc := ⟨.hbm, 232, rfl⟩
abbrev main_call13_v10 : Ref sig .tc := ⟨.hbm, 233, rfl⟩
abbrev main_call13_v11 : Ref sig .tc := ⟨.hbm, 234, rfl⟩
abbrev main_call13_c_3 : Ref sig .tc := ⟨.hbm, 235, rfl⟩
abbrev main_call13_v12 : Ref sig .tc := ⟨.hbm, 236, rfl⟩
abbrev main_call13_v13 : Ref sig .tc := ⟨.hbm, 237, rfl⟩
abbrev main_call13_v14 : Ref sig .tc := ⟨.hbm, 238, rfl⟩
abbrev main_call13_cst : Ref sig .tc := ⟨.hbm, 239, rfl⟩
abbrev main_call13_v15 : Ref sig .tc := ⟨.hbm, 240, rfl⟩
abbrev main_v68 : Ref sig .tc := ⟨.hbm, 241, rfl⟩
abbrev main_call14_c : Ref sig .tc := ⟨.hbm, 242, rfl⟩
abbrev main_call14_v0 : Ref sig .tc := ⟨.hbm, 243, rfl⟩
abbrev main_call14_v1 : Ref sig .tc := ⟨.hbm, 244, rfl⟩
abbrev main_call14_c_0 : Ref sig .tc := ⟨.hbm, 245, rfl⟩
abbrev main_call14_v2 : Ref sig .tc := ⟨.hbm, 246, rfl⟩
abbrev main_call14_v3 : Ref sig .tc := ⟨.hbm, 247, rfl⟩
abbrev main_call14_v4 : Ref sig .tc := ⟨.hbm, 248, rfl⟩
abbrev main_call14_v5 : Ref sig .tc := ⟨.hbm, 249, rfl⟩
abbrev main_call14_c_1 : Ref sig .tc := ⟨.hbm, 250, rfl⟩
abbrev main_call14_c_2 : Ref sig .tc := ⟨.hbm, 251, rfl⟩
abbrev main_call14_v6 : Ref sig .tc := ⟨.hbm, 252, rfl⟩
abbrev main_call14_v7 : Ref sig .tc := ⟨.hbm, 253, rfl⟩
abbrev main_call14_v8 : Ref sig .tc := ⟨.hbm, 254, rfl⟩
abbrev main_call14_v9 : Ref sig .tc := ⟨.hbm, 255, rfl⟩
abbrev main_call14_v10 : Ref sig .tc := ⟨.hbm, 256, rfl⟩
abbrev main_call14_v11 : Ref sig .tc := ⟨.hbm, 257, rfl⟩
abbrev main_call14_c_3 : Ref sig .tc := ⟨.hbm, 258, rfl⟩
abbrev main_call14_v12 : Ref sig .tc := ⟨.hbm, 259, rfl⟩
abbrev main_call14_v13 : Ref sig .tc := ⟨.hbm, 260, rfl⟩
abbrev main_call14_v14 : Ref sig .tc := ⟨.hbm, 261, rfl⟩
abbrev main_call14_cst : Ref sig .tc := ⟨.hbm, 262, rfl⟩
abbrev main_call14_v15 : Ref sig .tc := ⟨.hbm, 263, rfl⟩
abbrev main_v69 : Ref sig .tc := ⟨.hbm, 264, rfl⟩
abbrev main_v70 : Ref sig .tc := ⟨.hbm, 265, rfl⟩
abbrev main_v71 : Ref sig .tc := ⟨.hbm, 266, rfl⟩
abbrev main_v72 : Ref sig .tc := ⟨.hbm, 267, rfl⟩
abbrev main_v73 : Ref sig .tc := ⟨.hbm, 268, rfl⟩
abbrev main_v74 : Ref sig .tc := ⟨.hbm, 269, rfl⟩
abbrev main_v75 : Ref sig .tc := ⟨.hbm, 270, rfl⟩
abbrev main_v76 : Ref sig .tc := ⟨.hbm, 271, rfl⟩
abbrev main_v77 : Ref sig .tc := ⟨.hbm, 272, rfl⟩
abbrev main_v78 : Ref sig .tc := ⟨.hbm, 273, rfl⟩
abbrev main_v79 : Ref sig .tc := ⟨.hbm, 274, rfl⟩
abbrev main_v80 : Ref sig .tc := ⟨.hbm, 275, rfl⟩
abbrev main_call15_call0_cst : Ref sig .tc := ⟨.hbm, 276, rfl⟩
abbrev main_call15_call0_v0 : Ref sig .tc := ⟨.hbm, 277, rfl⟩
abbrev main_v81 : Ref sig .tc := ⟨.hbm, 278, rfl⟩
abbrev main_v82 : Ref sig .tc := ⟨.hbm, 279, rfl⟩
abbrev main_cst_22 : Ref sig .tc := ⟨.hbm, 280, rfl⟩
abbrev main_v83 : Ref sig .tc := ⟨.hbm, 281, rfl⟩
abbrev main_v84 : Ref sig .tc := ⟨.hbm, 282, rfl⟩
abbrev main_v85 : Ref sig .tc := ⟨.hbm, 283, rfl⟩
abbrev main_c_23 : Ref sig .tc := ⟨.hbm, 284, rfl⟩
abbrev main_v86 : Ref sig .tc := ⟨.hbm, 285, rfl⟩
abbrev main_v87 : Ref sig .tc := ⟨.hbm, 286, rfl⟩
abbrev main_c_24 : Ref sig .tc := ⟨.hbm, 287, rfl⟩
abbrev main_c_25 : Ref sig .tc := ⟨.hbm, 288, rfl⟩
abbrev main_call16_v0 : Ref sig .tc := ⟨.hbm, 289, rfl⟩
abbrev main_call16_v1 : Ref sig .tc := ⟨.hbm, 290, rfl⟩
abbrev main_call16_v2 : Ref sig .tc := ⟨.hbm, 291, rfl⟩
abbrev main_call16_v3 : Ref sig .tc := ⟨.hbm, 292, rfl⟩
abbrev main_call16_v4 : Ref sig .tc := ⟨.hbm, 293, rfl⟩
abbrev main_v88 : Ref sig .tc := ⟨.hbm, 294, rfl⟩
abbrev main_c_26 : Ref sig .tc := ⟨.hbm, 295, rfl⟩
abbrev main_v89 : Ref sig .tc := ⟨.hbm, 296, rfl⟩
abbrev main_v90 : Ref sig .tc := ⟨.hbm, 297, rfl⟩
abbrev main_c_27 : Ref sig .tc := ⟨.hbm, 298, rfl⟩
abbrev main_v91 : Ref sig .tc := ⟨.hbm, 299, rfl⟩
abbrev main_v92 : Ref sig .tc := ⟨.hbm, 300, rfl⟩
abbrev main_c_28 : Ref sig .tc := ⟨.hbm, 301, rfl⟩
abbrev main_c_29 : Ref sig .tc := ⟨.hbm, 302, rfl⟩
abbrev main_call17_v0 : Ref sig .tc := ⟨.hbm, 303, rfl⟩
abbrev main_call17_v1 : Ref sig .tc := ⟨.hbm, 304, rfl⟩
abbrev main_call17_v2 : Ref sig .tc := ⟨.hbm, 305, rfl⟩
abbrev main_call17_v3 : Ref sig .tc := ⟨.hbm, 306, rfl⟩
abbrev main_call17_v4 : Ref sig .tc := ⟨.hbm, 307, rfl⟩
abbrev main_v93 : Ref sig .tc := ⟨.hbm, 308, rfl⟩
abbrev main_call18_c : Ref sig .tc := ⟨.hbm, 309, rfl⟩
abbrev main_call18_v0 : Ref sig .tc := ⟨.hbm, 310, rfl⟩
abbrev main_call18_v1 : Ref sig .tc := ⟨.hbm, 311, rfl⟩
abbrev main_call18_c_0 : Ref sig .tc := ⟨.hbm, 312, rfl⟩
abbrev main_call18_v2 : Ref sig .tc := ⟨.hbm, 313, rfl⟩
abbrev main_call18_v3 : Ref sig .tc := ⟨.hbm, 314, rfl⟩
abbrev main_call18_v4 : Ref sig .tc := ⟨.hbm, 315, rfl⟩
abbrev main_call18_v5 : Ref sig .tc := ⟨.hbm, 316, rfl⟩
abbrev main_call18_c_1 : Ref sig .tc := ⟨.hbm, 317, rfl⟩
abbrev main_call18_c_2 : Ref sig .tc := ⟨.hbm, 318, rfl⟩
abbrev main_call18_v6 : Ref sig .tc := ⟨.hbm, 319, rfl⟩
abbrev main_call18_v7 : Ref sig .tc := ⟨.hbm, 320, rfl⟩
abbrev main_call18_v8 : Ref sig .tc := ⟨.hbm, 321, rfl⟩
abbrev main_call18_v9 : Ref sig .tc := ⟨.hbm, 322, rfl⟩
abbrev main_call18_v10 : Ref sig .tc := ⟨.hbm, 323, rfl⟩
abbrev main_call18_v11 : Ref sig .tc := ⟨.hbm, 324, rfl⟩
abbrev main_call18_c_3 : Ref sig .tc := ⟨.hbm, 325, rfl⟩
abbrev main_call18_v12 : Ref sig .tc := ⟨.hbm, 326, rfl⟩
abbrev main_call18_v13 : Ref sig .tc := ⟨.hbm, 327, rfl⟩
abbrev main_call18_v14 : Ref sig .tc := ⟨.hbm, 328, rfl⟩
abbrev main_call18_cst : Ref sig .tc := ⟨.hbm, 329, rfl⟩
abbrev main_call18_v15 : Ref sig .tc := ⟨.hbm, 330, rfl⟩
abbrev main_v94 : Ref sig .tc := ⟨.hbm, 331, rfl⟩
abbrev main_call19_c : Ref sig .tc := ⟨.hbm, 332, rfl⟩
abbrev main_call19_v0 : Ref sig .tc := ⟨.hbm, 333, rfl⟩
abbrev main_call19_v1 : Ref sig .tc := ⟨.hbm, 334, rfl⟩
abbrev main_call19_c_0 : Ref sig .tc := ⟨.hbm, 335, rfl⟩
abbrev main_call19_v2 : Ref sig .tc := ⟨.hbm, 336, rfl⟩
abbrev main_call19_v3 : Ref sig .tc := ⟨.hbm, 337, rfl⟩
abbrev main_call19_v4 : Ref sig .tc := ⟨.hbm, 338, rfl⟩
abbrev main_call19_v5 : Ref sig .tc := ⟨.hbm, 339, rfl⟩
abbrev main_call19_c_1 : Ref sig .tc := ⟨.hbm, 340, rfl⟩
abbrev main_call19_c_2 : Ref sig .tc := ⟨.hbm, 341, rfl⟩
abbrev main_call19_v6 : Ref sig .tc := ⟨.hbm, 342, rfl⟩
abbrev main_call19_v7 : Ref sig .tc := ⟨.hbm, 343, rfl⟩
abbrev main_call19_v8 : Ref sig .tc := ⟨.hbm, 344, rfl⟩
abbrev main_call19_v9 : Ref sig .tc := ⟨.hbm, 345, rfl⟩
abbrev main_call19_v10 : Ref sig .tc := ⟨.hbm, 346, rfl⟩
abbrev main_call19_v11 : Ref sig .tc := ⟨.hbm, 347, rfl⟩
abbrev main_call19_c_3 : Ref sig .tc := ⟨.hbm, 348, rfl⟩
abbrev main_call19_v12 : Ref sig .tc := ⟨.hbm, 349, rfl⟩
abbrev main_call19_v13 : Ref sig .tc := ⟨.hbm, 350, rfl⟩
abbrev main_call19_v14 : Ref sig .tc := ⟨.hbm, 351, rfl⟩
abbrev main_call19_cst : Ref sig .tc := ⟨.hbm, 352, rfl⟩
abbrev main_call19_v15 : Ref sig .tc := ⟨.hbm, 353, rfl⟩
abbrev main_v95 : Ref sig .tc := ⟨.hbm, 354, rfl⟩
abbrev main_v96 : Ref sig .tc := ⟨.hbm, 355, rfl⟩
abbrev main_v97 : Ref sig .tc := ⟨.hbm, 356, rfl⟩
abbrev main_v98 : Ref sig .tc := ⟨.hbm, 357, rfl⟩
abbrev main_v99 : Ref sig .tc := ⟨.hbm, 358, rfl⟩
abbrev main_v100 : Ref sig .tc := ⟨.hbm, 359, rfl⟩
abbrev main_v101 : Ref sig .tc := ⟨.hbm, 360, rfl⟩
abbrev main_v102 : Ref sig .tc := ⟨.hbm, 361, rfl⟩
abbrev main_v103 : Ref sig .tc := ⟨.hbm, 362, rfl⟩
abbrev main_v104 : Ref sig .tc := ⟨.hbm, 363, rfl⟩
abbrev main_v105 : Ref sig .tc := ⟨.hbm, 364, rfl⟩
abbrev main_v106 : Ref sig .tc := ⟨.hbm, 365, rfl⟩
abbrev main_v107 : Ref sig .tc := ⟨.hbm, 366, rfl⟩
abbrev main_v108 : Ref sig .tc := ⟨.hbm, 367, rfl⟩
abbrev main_v109 : Ref sig .tc := ⟨.hbm, 368, rfl⟩
abbrev main_v110 : Ref sig .tc := ⟨.hbm, 369, rfl⟩

abbrev nD : Nat := 1
abbrev τ : Topo := Topo.v7x

variable {F : FTy → Type} [FloatOps F]
-- ==== Proof.Tokens.lean ====
module

public import Idealize.ShloMosaic.Lib.Claim
public import Idealize.ShloMosaic.Lib.Pointwise

@[expose] public section

set_option maxRecDepth 100000

noncomputable section

/-! The token array and its normalised rows, over plain functions: row `r` of the token array is a context token below
    8192 and a latent token from there on. -/

namespace Cert.Tokens

open Idealize.ShloMosaic

/-- The normalised and modulated row: RMS norm of `x` with gain `g`, times one plus the scale, plus the shift. -/
def hid (x g sc sh : Fin 1024 → EReal) (k : Fin 1024) : EReal :=
  x k * Ideal.rsqrt (Ideal.div (∑ l, x l * x l) (Ideal.ofBits .f32 0x44800000#32) + Ideal.ofBits .f32 0x358637BD#32)
    * g k * (1 + sc k) + sh k

/-- Token row `r` of the two parts laid one after the other. -/
def tok (X0 : FVec Ideal ⟨3, ![32, 256, 1024]⟩ .f32) (X1 : FVec Ideal ⟨3, ![4, 2048, 1024]⟩ .f32)
    (r : Fin 16384) (k : Fin 1024) : EReal :=
  if h : (r : ℕ) < 8192 then X0 (ix3 (⟨r / 256, by omega⟩ : Fin 32) (⟨r % 256, by omega⟩ : Fin 256) k)
  else X1 (ix3 (⟨(r - 8192) / 2048, by omega⟩ : Fin 4) (⟨(r - 8192) % 2048, by omega⟩ : Fin 2048) k)

/-- The row of the modulation table a token reads: 0 for the context, one more than the sample for a latent. -/
def mrow (r : Fin 16384) : Fin 8 :=
  if h : (r : ℕ) < 8192 then 0 else ⟨1 + (r - 8192) / 2048, by omega⟩

end Cert.Tokens
-- ==== Proof.InprojRef.lean ====
module

public import proofs.«01_k».proof.Proof.Gen.Reference2Ideal.Run
public import proofs.«01_k».proof.Proof.Tokens
public import Idealize.ShloMosaic.Lib.Claim
public import Idealize.ShloMosaic.Lib.Pointwise

@[expose] public section

set_option maxRecDepth 100000

noncomputable section

/-! The input projection, written once over plain functions of the arguments. -/

namespace Cert.Inproj

open Idealize.ShloMosaic Cert.Tokens

/-- Column `n` of the projection of token `r`. -/
def proj (X0 : FVec Ideal ⟨3, ![32, 256, 1024]⟩ .f32) (X1 : FVec Ideal ⟨3, ![4, 2048, 1024]⟩ .f32)
    (M : FVec Ideal ⟨3, ![8, 6, 1024]⟩ .f32) (g : FVec Ideal ⟨1, ![1024]⟩ .f32) (W : FVec Ideal ⟨2, ![1024, 2576]⟩ .f32)
    (r : Fin 16384) (n : Fin 2576) : EReal :=
  ∑ k : Fin 1024, hid (tok X0 X1 r) (fun k => g (ix1 k)) (fun k => M (ix3 (mrow r) (1 : Fin 6) k))
    (fun k => M (ix3 (mrow r) (0 : Fin 6) k)) k * W (ix2 k n)

/-- `N` columns of a projection from column `o` on, as an array. -/
def colsAt {N : ℕ} (o : ℕ) (h : o + N ≤ 2576) (p : Fin 16384 → Fin 2576 → EReal) : FVec Ideal ⟨2, ![16384, N]⟩ .f32 :=
  fun j => p (j 0) ⟨o + (j 1 : ℕ), lt_of_lt_of_le (Nat.add_lt_add_left (j 1).isLt o) h⟩

/-- The sixteen gate columns of a projection, zero from column 16 on. -/
def colsPad (p : Fin 16384 → Fin 2576 → EReal) : FVec Ideal ⟨2, ![16384, 128]⟩ .f32 :=
  fun j => if h : (j 1 : ℕ) < 16 then p (j 0) ⟨2048 + (j 1 : ℕ), by omega⟩ else 0

/-- The integer zero as a number. -/
theorem sitofp_zero : FloatOps.sitofp (F := Ideal) FTy.f32 (0#32) = (0 : EReal) := by
  show (((0#32 : BitVec 32).toInt : ℝ) : EReal) = 0
  simp

end Cert.Inproj

namespace Cert.Reference2Ideal.Proj

open Cert.Reference2Ideal Cert.Reference2Ideal.Gen Idealize.ShloMosaic Idealize.ShloMosaic.TcCoe Idealize.SL.Sem
open Cert.Inproj Cert.Tokens

variable (m : (ℓ : Loc nD τ sig) → Buf (Elt Ideal) ℓ) (ρ : Dev nD → PrngReg)

/-- Token `r`'s projection at column `n`, over the reference's arguments. -/
abbrev pr (c : Dev nD) : Fin 16384 → Fin 2576 → EReal :=
  proj (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

set_option maxHeartbeats 2000000 in
/-- What the reference leaves in its four results. -/
theorem run : θ_run defs (onTc (τ := τ) (main (F := Ideal))) ⟨m, fun _ => 0, ρ⟩ fun r => ∀ c : Dev nD,
      r.2.mem ((c.tc : Thread nD τ).loc main_v58) = colsAt (N := 1536) 0 (by omega) (pr m c)
      ∧ r.2.mem ((c.tc : Thread nD τ).loc main_v59) = colsAt (N := 512) 1536 (by omega) (pr m c)
      ∧ r.2.mem ((c.tc : Thread nD τ).loc main_v60) = colsPad (pr m c)
      ∧ r.2.mem ((c.tc : Thread nD τ).loc main_v61) = colsAt (N := 512) 2064 (by omega) (pr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run (F := Ideal) m ρ)
  obtain ⟨h1, h2, h3, h4, h5⟩ := h c
  refine ⟨h1.trans ?_, h2.trans ?_, h3.trans ?_, h4.trans ?_, h5⟩
  · clear h1 h2 h3 h4 h5
    funext j
    idx_vars j
    by_cases hj : (j0 : ℕ) < 8192
    · pointwise [colsAt, pr, proj, hid, tok, mrow, hj]
    · pointwise [colsAt, pr, proj, hid, tok, mrow, hj]
  · clear h1 h2 h3 h4 h5
    funext j
    idx_vars j
    by_cases hj : (j0 : ℕ) < 8192
    · pointwise [colsAt, pr, proj, hid, tok, mrow, hj]
    · pointwise [colsAt, pr, proj, hid, tok, mrow, hj]
  · clear h1 h2 h3 h4 h5
    funext j
    idx_vars j
    by_cases hj : (j0 : ℕ) < 8192
    · pointwise [colsPad, pr, proj, hid, tok, mrow, hj]
      exact dite_congr rfl (fun _ => rfl) fun _ => sitofp_zero
    · pointwise [colsPad, pr, proj, hid, tok, mrow, hj]
      exact dite_congr (propext ⟨fun h => h.2, fun h => ⟨by omega, h⟩⟩) (fun _ => rfl) fun _ => sitofp_zero
  · clear h1 h2 h3 h4 h5
    funext j
    idx_vars j
    by_cases hj : (j0 : ℕ) < 8192
    · pointwise [colsAt, pr, proj, hid, tok, mrow, hj]
    · pointwise [colsAt, pr, proj, hid, tok, mrow, hj]

end Cert.Reference2Ideal.Proj
-- ==== Proof.InprojKer.lean ====
module

public import proofs.«01_k».proof.Proof.Gen.Kernel2Ideal.Value
public import proofs.«01_k».proof.Proof.InprojRef
public import Idealize.ShloMosaic.Lib.Pipeline.ValueKit
public import Idealize.ShloMosaic.Lib.Claim
public import Idealize.ShloMosaic.Lib.Pointwise

@[expose] public section

set_option maxRecDepth 100000

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat)
open Cert.Inproj Cert.Tokens

variable (m : (ℓ : Loc nD τ sig) → Buf (Elt Ideal) ℓ) (ρ : Dev nD → PrngReg)

/-- Token `r`'s projection at column `n`, over the kernel's arguments. -/
abbrev pr (c : Dev nD) : Fin 16384 → Fin 2576 → EReal :=
  proj (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- Which block each window stages at a point, for the context tiles and for the latent tiles. -/
theorem idx : ∀ t : Fin cfg0.N, t.val < 32 ∧ (grid0.coords t 0).val = t.val
    ∧ (t.val < 16 → win0_0.index t = ![t.val, 0] ∧ win0_2.index t = ![0, 0, 0])
    ∧ (16 ≤ t.val → win0_1.index t = ![t.val - 16, 0] ∧ win0_2.index t = ![1 + (t.val - 16) / 4, 0, 0])
    ∧ win0_3.index t = ![0, 0] ∧ win0_4.index t = ![0, 0] ∧ win0_5.index t = ![0, 0]
    ∧ win0_6.index t = ![0, 0] ∧ win0_7.index t = ![0, 0]
    ∧ win0_8.index t = ![t.val, 0] ∧ win0_9.index t = ![t.val, 0] ∧ win0_10.index t = ![t.val, 0] ∧ win0_11.index t = ![t.val, 0] :=
  (by decide +kernel : ∀ t : Fin grid0.N, _)

/-- Token row `t * 512 + a`. -/
def rw (t : Fin cfg0.N) (a : Fin 512) : Fin 16384 := ⟨t.val * 512 + a.val, by have := (idx t).1; omega⟩

theorem sc0 (x : FVec Ideal S32x256x1024 .f32) (r : Fin 8192) (k : Fin 1024) :
    shapeCast S8192x1024 x shapeCasts_S32x256x1024_S8192x1024 (ix2 r k) = x (ix3 (⟨r.val / 256, by omega⟩ : Fin 32) (⟨r.val % 256, by omega⟩ : Fin 256) k) := by
  pointwise

theorem sc1 (x : FVec Ideal S4x2048x1024 .f32) (r : Fin 8192) (k : Fin 1024) :
    shapeCast S8192x1024 x shapeCasts_S4x2048x1024_S8192x1024 (ix2 r k) = x (ix3 (⟨r.val / 2048, by omega⟩ : Fin 4) (⟨r.val % 2048, by omega⟩ : Fin 2048) k) := by
  pointwise

/-! What the host operations put in the operands the windows read. -/

theorem V0 (c : Dev nD) : V m c main_v0 = (shapeCast S8192x1024 (m ((c.tc : Thread nD τ).loc main_arg0)) shapeCasts_S32x256x1024_S8192x1024 : FVec Ideal S8192x1024 .f32) := by
  simp only [V, hostOps0, hostOps0_1, hostOps0_2, List.flatten_cons, List.flatten_nil, List.append_nil, List.cons_append, List.nil_append]
  entry_read
  rfl

theorem V1 (c : Dev nD) : V m c main_v1 = (shapeCast S8192x1024 (m ((c.tc : Thread nD τ).loc main_arg1)) shapeCasts_S4x2048x1024_S8192x1024 : FVec Ideal S8192x1024 .f32) := by
  simp only [V, hostOps0, hostOps0_1, hostOps0_2, List.flatten_cons, List.flatten_nil, List.append_nil, List.cons_append, List.nil_append]
  entry_read
  rfl

theorem V3 (c : Dev nD) : V m c main_v3 = (truncf .bf16 (extractStridedSlice S1024x1536 ![0, 0] (m ((c.tc : Thread nD τ).loc main_arg4) : FVec Ideal S1024x2576 .f32) slices_S1024x2576_S1024x1536_0_0) bitsLt_bf16_f32 : FVec Ideal S1024x1536 .bf16) := by
  simp only [V, hostOps0, hostOps0_1, hostOps0_2, List.flatten_cons, List.flatten_nil, List.append_nil, List.cons_append, List.nil_append]
  entry_read
  rfl

theorem V5 (c : Dev nD) : V m c main_v5 = (truncf .bf16 (extractStridedSlice S1024x512 ![0, 1536] (m ((c.tc : Thread nD τ).loc main_arg4) : FVec Ideal S1024x2576 .f32) slices_S1024x2576_S1024x512_0_1536) bitsLt_bf16_f32 : FVec Ideal S1024x512 .bf16) := by
  simp only [V, hostOps0, hostOps0_1, hostOps0_2, List.flatten_cons, List.flatten_nil, List.append_nil, List.cons_append, List.nil_append]
  entry_read
  rfl

theorem V8 (c : Dev nD) : V m c main_v8 = (truncf .bf16 (pad S1024x128 ![0, 0] ![0, 112] ![0, 0] (extractStridedSlice S1024x16 ![0, 2048] (m ((c.tc : Thread nD τ).loc main_arg4) : FVec Ideal S1024x2576 .f32) slices_S1024x2576_S1024x16_0_2048) (sitofp .f32 (constantI S_ 32 0#32)) pads_S1024x16_S1024x128_000_01120 h_S_) bitsLt_bf16_f32 : FVec Ideal S1024x128 .bf16) := by
  simp only [V, hostOps0, hostOps0_1, hostOps0_2, List.flatten_cons, List.flatten_nil, List.append_nil, List.cons_append, List.nil_append]
  entry_read
  rfl

theorem V10 (c : Dev nD) : V m c main_v10 = (truncf .bf16 (extractStridedSlice S1024x512 ![0, 2064] (m ((c.tc : Thread nD τ).loc main_arg4) : FVec Ideal S1024x2576 .f32) slices_S1024x2576_S1024x512_0_2064) bitsLt_bf16_f32 : FVec Ideal S1024x512 .bf16) := by
  simp only [V, hostOps0, hostOps0_1, hostOps0_2, List.flatten_cons, List.flatten_nil, List.append_nil, List.cons_append, List.nil_append]
  entry_read
  rfl

theorem V11 (c : Dev nD) : V m c main_v11 = (shapeCast S1x1024 (m ((c.tc : Thread nD τ).loc main_arg3)) shapeCasts_S1024_S1x1024 : FVec Ideal S1x1024 .f32) := by
  simp only [V, hostOps0, hostOps0_1, hostOps0_2, List.flatten_cons, List.flatten_nil, List.append_nil, List.cons_append, List.nil_append]
  entry_read
  rfl

theorem V0_at (c : Dev nD) (r : Fin 8192) (k : Fin 1024) :
    V m c main_v0 (ix2 r k : S8192x1024.Idx) = m ((c.tc : Thread nD τ).loc main_arg0) (ix3 (⟨r.val / 256, by omega⟩ : Fin 32) (⟨r.val % 256, by omega⟩ : Fin 256) k) := by
  exact (congrFun (V0 m c) _).trans (sc0 _ r k)

theorem V1_at (c : Dev nD) (r : Fin 8192) (k : Fin 1024) :
    V m c main_v1 (ix2 r k : S8192x1024.Idx) = m ((c.tc : Thread nD τ).loc main_arg1) (ix3 (⟨r.val / 2048, by omega⟩ : Fin 4) (⟨r.val % 2048, by omega⟩ : Fin 2048) k) := by
  exact (congrFun (V1 m c) _).trans (sc1 _ r k)

theorem read0 (c : Dev nD) (t : Fin cfg0.N) (h : t.val < 16) (a : Fin 512) (k : Fin 1024) :
    iblk m c 0 t (ix2 a k : S512x1024.Idx) = tok (m ((c.tc : Thread nD τ).loc main_arg0)) (m ((c.tc : Thread nD τ).loc main_arg1)) (rw t a) k := by
  obtain ⟨ht, hc, hlt, hge, i3, i4, i5, i6, i7, i8, i9, i10, i11⟩ := idx t
  obtain ⟨i0, i2⟩ := hlt h
  have hr : (rw t a : ℕ) < 8192 := by simp only [rw]; omega
  have e : ((win0_0.blk t).view.emb (ix2 a k : S512x1024.Idx)) = (ix2 (⟨rw t a, hr⟩ : Fin 8192) k : S8192x1024.Idx) := by
    refine funext (Fin.forall_fin_two.2 ⟨Fin.ext ?_, Fin.ext ?_⟩) <;> blk_simp [i0, rw] <;> omega
  rw [tok, dif_pos hr]
  exact (congrArg (V m c main_v0) e).trans (V0_at m c _ k)

theorem read1 (c : Dev nD) (t : Fin cfg0.N) (h : ¬ t.val < 16) (a : Fin 512) (k : Fin 1024) :
    iblk m c 1 t (ix2 a k : S512x1024.Idx) = tok (m ((c.tc : Thread nD τ).loc main_arg0)) (m ((c.tc : Thread nD τ).loc main_arg1)) (rw t a) k := by
  obtain ⟨ht, hc, hlt, hge, i3, i4, i5, i6, i7, i8, i9, i10, i11⟩ := idx t
  obtain ⟨i1, i2⟩ := hge (by omega)
  have hr : ¬ (rw t a : ℕ) < 8192 := by simp only [rw]; omega
  have e : ((win0_1.blk t).view.emb (ix2 a k : S512x1024.Idx)) = (ix2 (⟨rw t a - 8192, by omega⟩ : Fin 8192) k : S8192x1024.Idx) := by
    refine funext (Fin.forall_fin_two.2 ⟨Fin.ext ?_, Fin.ext ?_⟩) <;> blk_simp [i1, rw] <;> first | omega | (show _ = t.val * 512 + a.val - 8192; omega)
  rw [tok, dif_neg hr]
  exact (congrArg (V m c main_v1) e).trans (V1_at m c _ k)

theorem read2 (c : Dev nD) (t : Fin cfg0.N) (a : Fin 512) (q : Fin 6) (k : Fin 1024) :
    iblk m c 2 t (ix3 0 q k : S1x6x1024.Idx) = m ((c.tc : Thread nD τ).loc main_arg2) (ix3 (mrow (rw t a)) q k) := by
  obtain ⟨ht, hc, hlt, hge, i3, i4, i5, i6, i7, i8, i9, i10, i11⟩ := idx t
  by_cases h : t.val < 16
  · obtain ⟨i0, i2⟩ := hlt h
    have hr : (rw t a : ℕ) < 8192 := by simp only [rw]; omega
    rw [mrow, dif_pos hr]
    blk_point [iblk, V, i2]
  · obtain ⟨i1, i2⟩ := hge (by omega)
    have hr : ¬ (rw t a : ℕ) < 8192 := by simp only [rw]; omega
    rw [mrow, dif_neg hr]
    simp only [rw]
    blk_point [iblk, V, i2]

theorem read3 (c : Dev nD) (t : Fin cfg0.N) (k : Fin 1024) :
    iblk m c 3 t (ix2 0 k : S1x1024.Idx) = m ((c.tc : Thread nD τ).loc main_arg3) (ix1 k) := by
  obtain ⟨ht, hc, hlt, hge, i3, i4, i5, i6, i7, i8, i9, i10, i11⟩ := idx t
  have e : ((win0_3.blk t).view.emb (ix2 0 k : S1x1024.Idx)) = (ix2 0 k : S1x1024.Idx) := by
    refine funext (Fin.forall_fin_two.2 ⟨Fin.ext ?_, Fin.ext ?_⟩) <;> blk_simp [i3] <;> omega
  refine (congrArg (V m c main_v11) e).trans ?_
  rw [V11]
  pointwise

/-- The normalised row the body computes for its row `a`. -/
theorem hid_at (c : Dev nD) (t : Fin cfg0.N) (a : Fin 512) (k : Fin 1024)
    (v1 v3 : FVec Ideal S512x1024 .f32) (v16 : FVec Ideal S1x1024 .f32) (v20 v26 : FVec Ideal S1x1x1024 .f32)
    (h1 : t.val < 16 → ∀ k, v1 (ix2 a k) = tok (m ((c.tc : Thread nD τ).loc main_arg0)) (m ((c.tc : Thread nD τ).loc main_arg1)) (rw t a) k)
    (h3 : ¬ t.val < 16 → ∀ k, v3 (ix2 a k) = tok (m ((c.tc : Thread nD τ).loc main_arg0)) (m ((c.tc : Thread nD τ).loc main_arg1)) (rw t a) k)
    (h16 : ∀ k, v16 (ix2 0 k) = m ((c.tc : Thread nD τ).loc main_arg3) (ix1 k))
    (h20 : ∀ k, v20 (ix3 0 0 k) = m ((c.tc : Thread nD τ).loc main_arg2) (ix3 (mrow (rw t a)) (1 : Fin 6) k))
    (h26 : ∀ k, v26 (ix3 0 0 k) = m ((c.tc : Thread nD τ).loc main_arg2) (ix3 (mrow (rw t a)) (0 : Fin 6) k)) :
    k0_pay4 (F := Ideal) (grid0.coords t) v1 v3 v16 v20 v26 (ix2 a k) =
      hid (tok (m ((c.tc : Thread nD τ).loc main_arg0)) (m ((c.tc : Thread nD τ).loc main_arg1)) (rw t a))
        (fun k => m ((c.tc : Thread nD τ).loc main_arg3) (ix1 k))
        (fun k => m ((c.tc : Thread nD τ).loc main_arg2) (ix3 (mrow (rw t a)) (1 : Fin 6) k))
        (fun k => m ((c.tc : Thread nD τ).loc main_arg2) (ix3 (mrow (rw t a)) (0 : Fin 6) k)) k := by
  obtain ⟨ht, hc, -⟩ := idx t
  pointwise [k0_pay4, hid, h16, h20, h26, hc]
  by_cases h : t.val < 16
  · have e : Scalar.cmpi CmpIPredicate.slt (BitVec.ofNat 32 t.val) 16#32 = 1#1 := by
      have := t.isLt
      revert h ht; generalize t.val = n; intro hn h
      interval_cases n <;> rfl
    simp only [e, Scalar.select, h1 h]
    rfl
  · have e : Scalar.cmpi CmpIPredicate.slt (BitVec.ofNat 32 t.val) 16#32 = 0#1 := by
      have := t.isLt
      revert h ht; generalize t.val = n; intro hn h
      interval_cases n <;> first | omega | rfl
    simp only [e, Scalar.select, h3 h]
    rfl

/-- The row the body computes, read off the point's blocks. -/
theorem hid_blk (c : Dev nD) (t : Fin cfg0.N) (a : Fin 512) (k : Fin 1024) (r : Fin 16384) (hr : r = rw t a) :
    k0_pay4 (F := Ideal) (grid0.coords t) (iblk m c 0 t) (iblk m c 1 t) (iblk m c 3 t) (View.ld (iblk m c 2 t) r0_2)
        (View.ld (iblk m c 2 t) r0_3) (ix2 a k : S512x1024.Idx) =
      hid (tok (m ((c.tc : Thread nD τ).loc main_arg0)) (m ((c.tc : Thread nD τ).loc main_arg1)) r)
        (fun k => m ((c.tc : Thread nD τ).loc main_arg3) (ix1 k))
        (fun k => m ((c.tc : Thread nD τ).loc main_arg2) (ix3 (mrow r) (1 : Fin 6) k))
        (fun k => m ((c.tc : Thread nD τ).loc main_arg2) (ix3 (mrow r) (0 : Fin 6) k)) k := by
  subst hr
  refine hid_at m c t a k _ _ _ _ _ (fun h k => read0 m c t h a k) (fun h k => read1 m c t h a k) (fun k => read3 m c t k)
    (fun k => Eq.trans ?_ (read2 m c t a 1 k)) (fun k => Eq.trans ?_ (read2 m c t a 0 k))
  · pointwise
  · pointwise

theorem hid_blk' (c : Dev nD) (t : Fin cfg0.N) (a : Fin 512) (k : Fin 1024) (r : Fin 16384) (hr : r = rw t a) :
    k0_pay6 (F := Ideal) (grid0.coords t) (iblk m c 0 t) (iblk m c 1 t) (iblk m c 2 t) (iblk m c 3 t) (iblk m c 4 t) (iblk m c 5 t)
        (iblk m c 6 t) (iblk m c 7 t) (ix2 a k : S512x1024.Idx) =
      hid (tok (m ((c.tc : Thread nD τ).loc main_arg0)) (m ((c.tc : Thread nD τ).loc main_arg1)) r)
        (fun k => m ((c.tc : Thread nD τ).loc main_arg3) (ix1 k))
        (fun k => m ((c.tc : Thread nD τ).loc main_arg2) (ix3 (mrow r) (1 : Fin 6) k))
        (fun k => m ((c.tc : Thread nD τ).loc main_arg2) (ix3 (mrow r) (0 : Fin 6) k)) k := by
  refine Eq.trans ?_ (hid_blk m c t a k r hr)
  have e0 : View.ld (iblk m c 0 t) r0_0 = iblk m c 0 t := by funext y; idx_vars y; pointwise
  have e1 : View.ld (iblk m c 1 t) r0_0 = iblk m c 1 t := by funext y; idx_vars y; pointwise
  have e3 : View.ld (iblk m c 3 t) r0_1 = iblk m c 3 t := by
    funext y; idx_vars y; obtain rfl : y0 = 0 := Subsingleton.elim _ _; pointwise
  rw [k0_pay6]
  exact congrFun (congr (congr (congrArg (k0_pay4 (F := Ideal) (grid0.coords t)) e0) e1) e3 |> fun h => congrFun (congrFun h _) _) _

theorem read4 (c : Dev nD) (t : Fin cfg0.N) (k : Fin 1024) (j : Fin 1536) :
    iblk m c 4 t (ix2 k j : S1024x1536.Idx) = m ((c.tc : Thread nD τ).loc main_arg4) (ix2 k (⟨0 + j.val, by omega⟩ : Fin 2576)) := by
  obtain ⟨ht, hc, hlt, hge, i3, i4, i5, i6, i7, i8, i9, i10, i11⟩ := idx t
  have e : ((win0_4.blk t).view.emb (ix2 k j : S1024x1536.Idx)) = (ix2 k j : S1024x1536.Idx) := by
    refine funext (Fin.forall_fin_two.2 ⟨Fin.ext ?_, Fin.ext ?_⟩) <;> blk_simp [i4] <;> omega
  refine (congrArg (V m c main_v3) e).trans ?_
  rw [V3]
  pointwise

theorem read5 (c : Dev nD) (t : Fin cfg0.N) (k : Fin 1024) (j : Fin 512) :
    iblk m c 5 t (ix2 k j : S1024x512.Idx) = m ((c.tc : Thread nD τ).loc main_arg4) (ix2 k (⟨1536 + j.val, by omega⟩ : Fin 2576)) := by
  obtain ⟨ht, hc, hlt, hge, i3, i4, i5, i6, i7, i8, i9, i10, i11⟩ := idx t
  have e : ((win0_5.blk t).view.emb (ix2 k j : S1024x512.Idx)) = (ix2 k j : S1024x512.Idx) := by
    refine funext (Fin.forall_fin_two.2 ⟨Fin.ext ?_, Fin.ext ?_⟩) <;> blk_simp [i5] <;> omega
  refine (congrArg (V m c main_v5) e).trans ?_
  rw [V5]
  pointwise

theorem read7 (c : Dev nD) (t : Fin cfg0.N) (k : Fin 1024) (j : Fin 512) :
    iblk m c 7 t (ix2 k j : S1024x512.Idx) = m ((c.tc : Thread nD τ).loc main_arg4) (ix2 k (⟨2064 + j.val, by omega⟩ : Fin 2576)) := by
  obtain ⟨ht, hc, hlt, hge, i3, i4, i5, i6, i7, i8, i9, i10, i11⟩ := idx t
  have e : ((win0_7.blk t).view.emb (ix2 k j : S1024x512.Idx)) = (ix2 k j : S1024x512.Idx) := by
    refine funext (Fin.forall_fin_two.2 ⟨Fin.ext ?_, Fin.ext ?_⟩) <;> blk_simp [i7] <;> omega
  refine (congrArg (V m c main_v10) e).trans ?_
  rw [V10]
  pointwise

theorem read6 (c : Dev nD) (t : Fin cfg0.N) (k : Fin 1024) (j : Fin 128) :
    iblk m c 6 t (ix2 k j : S1024x128.Idx) = @dite EReal (j.val < 16) _ (fun h => m ((c.tc : Thread nD τ).loc main_arg4) (ix2 k (⟨2048 + j.val, by omega⟩ : Fin 2576))) (fun _ => 0) := by
  obtain ⟨ht, hc, hlt, hge, i3, i4, i5, i6, i7, i8, i9, i10, i11⟩ := idx t
  have e : ((win0_6.blk t).view.emb (ix2 k j : S1024x128.Idx)) = (ix2 k j : S1024x128.Idx) := by
    refine funext (Fin.forall_fin_two.2 ⟨Fin.ext ?_, Fin.ext ?_⟩) <;> blk_simp [i6] <;> omega
  refine (congrArg (V m c main_v8) e).trans ?_
  rw [V8]
  by_cases h : j.val < 16
  · rw [dif_pos h]; pointwise [h]
  · rw [dif_neg h]; pointwise [h, sitofp_zero]

/-- The array of output window 8 after the run. -/
theorem final8 (c : Dev nD) : (dats m 0 c).arrAt 8 cfg0.N = colsAt (N := 1536) 0 (by omega) (pr m c) := by
  refine (dats m 0 c).arrAt_eq_of_covers 8 _ (by decide +kernel) fun t _ y => ?_
  obtain ⟨ht, hc, hlt, hge, i3, i4, i5, i6, i7, i8, i9, i10, i11⟩ := idx t
  have hr : ((View.whole main_v12_0).slice (win0_8.rect t)).emb y 0 = rw t (y 0) := Fin.ext (by blk_simp [i8, rw])
  have hj : ((View.whole main_v12_0).slice (win0_8.rect t)).emb y 1 = y 1 := Fin.ext (by blk_simp [i8])
  blk_simp [i8]
  rw [after0_8]
  frame_out
  pointwise [k0_pay5, colsAt, pr, proj]
  rw [hr]
  show @Eq EReal _ _
  refine Finset.sum_congr rfl fun k _ => ?_
  refine (Ideal.mul_congr (hid_blk m c t _ k _ rfl) ((read4 m c t k (y 1)).trans ?_))
  congr 2
  exact Fin.ext (by simp only [hj] <;> omega)

/-- The array of output window 9 after the run. -/
theorem final9 (c : Dev nD) : (dats m 0 c).arrAt 9 cfg0.N = colsAt (N := 512) 1536 (by omega) (pr m c) := by
  refine (dats m 0 c).arrAt_eq_of_covers 9 _ (by decide +kernel) fun t _ y => ?_
  obtain ⟨ht, hc, hlt, hge, i3, i4, i5, i6, i7, i8, i9, i10, i11⟩ := idx t
  have hr : ((View.whole main_v12_1).slice (win0_9.rect t)).emb y 0 = rw t (y 0) := Fin.ext (by blk_simp [i9, rw])
  have hj : ((View.whole main_v12_1).slice (win0_9.rect t)).emb y 1 = y 1 := Fin.ext (by blk_simp [i9])
  blk_simp [i9]
  rw [after0_9]
  frame_out
  pointwise [k0_pay1, colsAt, pr, proj]
  rw [hr]
  show @Eq EReal _ _
  refine Finset.sum_congr rfl fun k _ => ?_
  refine (Ideal.mul_congr (hid_blk' m c t _ k _ rfl) ((read5 m c t k (y 1)).trans ?_))
  congr 2
  exact Fin.ext (by simp only [hj] <;> omega)

/-- The array of output window 11 after the run. -/
theorem final11 (c : Dev nD) : (dats m 0 c).arrAt 11 cfg0.N = colsAt (N := 512) 2064 (by omega) (pr m c) := by
  refine (dats m 0 c).arrAt_eq_of_covers 11 _ (by decide +kernel) fun t _ y => ?_
  obtain ⟨ht, hc, hlt, hge, i3, i4, i5, i6, i7, i8, i9, i10, i11⟩ := idx t
  have hr : ((View.whole main_v12_3).slice (win0_11.rect t)).emb y 0 = rw t (y 0) := Fin.ext (by blk_simp [i11, rw])
  have hj : ((View.whole main_v12_3).slice (win0_11.rect t)).emb y 1 = y 1 := Fin.ext (by blk_simp [i11])
  blk_simp [i11]
  rw [after0_11]
  frame_out
  pointwise [k0_pay3, colsAt, pr, proj]
  rw [hr]
  show @Eq EReal _ _
  refine Finset.sum_congr rfl fun k _ => ?_
  refine (Ideal.mul_congr (hid_blk' m c t _ k _ rfl) ((read7 m c t k (y 1)).trans ?_))
  congr 2
  exact Fin.ext (by simp only [hj] <;> omega)

/-- The array of output window 10 after the run: the gate columns and the zero padding. -/
theorem final10 (c : Dev nD) : (dats m 0 c).arrAt 10 cfg0.N = colsPad (pr m c) := by
  refine (dats m 0 c).arrAt_eq_of_covers 10 _ (by decide +kernel) fun t _ y => ?_
  obtain ⟨ht, hc, hlt, hge, i3, i4, i5, i6, i7, i8, i9, i10, i11⟩ := idx t
  have hr : ((View.whole main_v12_2).slice (win0_10.rect t)).emb y 0 = rw t (y 0) := Fin.ext (by blk_simp [i10, rw])
  have hj : ((View.whole main_v12_2).slice (win0_10.rect t)).emb y 1 = y 1 := Fin.ext (by blk_simp [i10])
  blk_simp [i10]
  rw [after0_10]
  frame_out
  pointwise [k0_pay2, colsPad, pr, proj]
  rw [hr]
  show @Eq EReal _ _
  by_cases h : (y 1).val < 16
  · rw [dif_pos (by rw [hj]; exact h)]
    refine Finset.sum_congr rfl fun k _ => ?_
    refine (Ideal.mul_congr (hid_blk' m c t _ k _ rfl) ((read6 m c t k (y 1)).trans ?_))
    rw [dif_pos h]
    congr 2
    exact Fin.ext (by simp only [hj] <;> omega)
  · rw [dif_neg (by rw [hj]; exact h)]
    refine Finset.sum_eq_zero fun k _ => ?_
    refine (Ideal.mul_congr rfl ((read6 m c t k (y 1)).trans (dif_neg h))).trans ?_
    exact mul_zero _

/-- The run of the kernel with its four results named. -/
theorem run : θ_run defs (onTc (τ := τ) (main (F := Ideal))) ⟨m, fun _ => 0, ρ⟩ fun r => ∀ c : Dev nD,
      r.2.mem ((c.tc : Thread nD τ).loc main_v12_0) = colsAt (N := 1536) 0 (by omega) (pr m c)
      ∧ r.2.mem ((c.tc : Thread nD τ).loc main_v12_1) = colsAt (N := 512) 1536 (by omega) (pr m c)
      ∧ r.2.mem ((c.tc : Thread nD τ).loc main_v12_2) = colsPad (pr m c)
      ∧ r.2.mem ((c.tc : Thread nD τ).loc main_v12_3) = colsAt (N := 512) 2064 (by omega) (pr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run_blocks (F := Ideal) m ρ)
  obtain ⟨h1, h2, h3, h4, h5⟩ := h c
  exact ⟨h1.trans (final8 m c), h2.trans (final9 m c), h3.trans (final10 m c), h4.trans (final11 m c), h5⟩

end Cert.Kernel2Ideal.Proj
-- ==== Proof.InprojClaim.lean ====
module

public import proofs.«01_k».proof.Defs
public import proofs.«01_k».proof.Proof.InprojKer
public import proofs.«01_k».proof.Proof.InprojRef
public import Idealize.ShloMosaic.Lib.Claim

@[expose] public section

noncomputable section

/-! The two claims about the input projection that read both texts: the reference's run, and equal results. -/

namespace Cert.Inproj

open Idealize.ShloMosaic Idealize.SL.Sem

theorem frame : Cert.quiescent_Reference2Ideal (hReference2Ideal := Cert.Reference2Ideal.Gen.facts) := fun m g _ =>
  (θ_run _ _ _).mono (fun r h => ⟨fun c => (h c).2.2.2.2, sem_eq_zero_of_no_sems (by decide) r.2⟩)
    (Cert.Reference2Ideal.Proj.run m g)

theorem value : Cert.algebraic_Kernel2Ideal_Reference2Ideal (hKernel2Ideal := Cert.Kernel2Ideal.Gen.facts)
    (hReference2Ideal := Cert.Reference2Ideal.Gen.facts) := by
  intro m g m' g' _ hagree
  refine ⟨fun c => colsAt (N := 1536) 0 (by omega) (Cert.Kernel2Ideal.Proj.pr m c),
    fun c => colsAt (N := 512) 1536 (by omega) (Cert.Kernel2Ideal.Proj.pr m c), fun c => colsPad (Cert.Kernel2Ideal.Proj.pr m c),
    fun c => colsAt (N := 512) 2064 (by omega) (Cert.Kernel2Ideal.Proj.pr m c), Cert.Kernel2Ideal.Proj.run m g, ?_⟩
  refine (θ_run _ _ _).mono (fun r h c => ?_) (Cert.Reference2Ideal.Proj.run m' g')
  obtain ⟨a0, a1, a2, a3, a4⟩ := hagree c
  have e : Cert.Reference2Ideal.Proj.pr m' c = Cert.Kernel2Ideal.Proj.pr m c := by
    simp only [Cert.Reference2Ideal.Proj.pr, Cert.Kernel2Ideal.Proj.pr]
    rw [a0, a1, a2, a3, a4]
  have hc := h c
  rw [e] at hc
  exact hc

end Cert.Inproj
-- ==== Proof.OutprojRef.lean ====
module

public import proofs.«01_k».proof.Proof.Gen.Reference3Ideal.Run
public import proofs.«01_k».proof.Proof.Tokens
public import Idealize.ShloMosaic.Lib.Claim
public import Idealize.ShloMosaic.Lib.Pointwise

@[expose] public section

set_option maxRecDepth 100000

noncomputable section

/-! The output projection, the residual, the second norm, the router's logits and the shared expert, written once over
    plain functions of the arguments. -/

namespace Cert.Outproj

open Idealize.ShloMosaic Cert.Tokens

/-- Row `r` of two halves laid one after the other. -/
def half (A B : FVec Ideal ⟨2, ![8192, 512]⟩ .f32) (r : Fin 16384) (l : Fin 512) : EReal :=
  if h : (r : ℕ) < 8192 then A (ix2 (⟨r, h⟩ : Fin 8192) l) else B (ix2 (⟨r - 8192, by omega⟩ : Fin 8192) l)

/-- Two rows of 512 laid side by side. -/
def side (a p : Fin 512 → EReal) (l : Fin 1024) : EReal :=
  if h : (l : ℕ) < 512 then a ⟨l, h⟩ else p ⟨l - 512, by omega⟩

/-- The residual row: the token plus the gate times the mixed heads' projection. -/
def res (X0 : FVec Ideal ⟨3, ![32, 256, 1024]⟩ .f32) (X1 : FVec Ideal ⟨3, ![4, 2048, 1024]⟩ .f32)
    (A0 A1 P0 P1 : FVec Ideal ⟨2, ![8192, 512]⟩ .f32) (M : FVec Ideal ⟨3, ![8, 6, 1024]⟩ .f32)
    (W : FVec Ideal ⟨2, ![1024, 1024]⟩ .f32) (r : Fin 16384) (k : Fin 1024) : EReal :=
  tok X0 X1 r k + M (ix3 (mrow r) (2 : Fin 6) k) * ∑ l : Fin 1024, side (half A0 A1 r) (half P0 P1 r) l * W (ix2 l k)

/-- The second norm's row, modulated. -/
def hrow (M : FVec Ideal ⟨3, ![8, 6, 1024]⟩ .f32) (g : FVec Ideal ⟨1, ![1024]⟩ .f32) (x : Fin 16384 → Fin 1024 → EReal)
    (r : Fin 16384) (k : Fin 1024) : EReal :=
  hid (x r) (fun k => g (ix1 k)) (fun k => M (ix3 (mrow r) (4 : Fin 6) k)) (fun k => M (ix3 (mrow r) (3 : Fin 6) k)) k

/-- A row times a column of 256. -/
def col (W : FVec Ideal ⟨2, ![1024, 256]⟩ .f32) (h : Fin 16384 → Fin 1024 → EReal) (r : Fin 16384) (e : Fin 256) : EReal :=
  ∑ k : Fin 1024, h r k * W (ix2 k e)

/-- The shared expert's row. -/
def shared (SG SU : FVec Ideal ⟨2, ![1024, 256]⟩ .f32) (SD : FVec Ideal ⟨2, ![256, 1024]⟩ .f32)
    (h : Fin 16384 → Fin 1024 → EReal) (r : Fin 16384) (k : Fin 1024) : EReal :=
  ∑ e : Fin 256, col SG h r e * Ideal.logistic (col SG h r e) * col SU h r e * SD (ix2 e k)

/-- Rows as an array. -/
def arr {N : ℕ} (φ : FTy) (f : Fin 16384 → Fin N → EReal) : FVec Ideal ⟨2, ![16384, N]⟩ φ := fun j => f (j 0) (j 1)

end Cert.Outproj

namespace Cert.Reference3Ideal.Proj

open Cert.Reference3Ideal Cert.Reference3Ideal.Gen Idealize.ShloMosaic Idealize.ShloMosaic.TcCoe Idealize.SL.Sem
open Cert.Outproj Cert.Tokens

variable (m : (ℓ : Loc nD τ sig) → Buf (Elt Ideal) ℓ) (ρ : Dev nD → PrngReg)

/-! The reference's stages for the two parts of the tokens. -/

abbrev xC (arg0 : FVec Ideal S32x256x1024 .f32) (arg2 arg4 : FVec Ideal S8192x512 .f32) (arg6 : FVec Ideal S8x6x1024 .f32)
    (arg8 : FVec Ideal S1024x1024 .f32) : FVec Ideal S32x256x1024 .f32 :=
  (addf arg0 (mulf (broadcastInDim S32x256x1024 ![0, 1, 2] bcast_S1x1x1024_S32x256x1024_0_1_2 (extractStridedSlice S1x1x1024 ![0, 2, 0] (extractStridedSlice S1x6x1024 ![0, 0, 0] arg6 slices_S8x6x1024_S1x6x1024_0_0_0) slices_S1x6x1024_S1x1x1024_0_2_0)) (shapeCast _ (Host.dotGeneral dot_S8192x1024_S1024x1024_S8192x1024_1_0_0_1_n_n none (concatenate S8192x1024 1 [⟨S8192x512, arg2⟩, ⟨S8192x512, arg4⟩] concatenates_S8192x512_S8192x512_S8192x1024_d1) arg8) shapeCasts_S8192x1024_S32x256x1024)))

abbrev xL (arg1 : FVec Ideal S4x2048x1024 .f32) (arg3 arg5 : FVec Ideal S8192x512 .f32) (arg6 : FVec Ideal S8x6x1024 .f32)
    (arg8 : FVec Ideal S1024x1024 .f32) : FVec Ideal S4x2048x1024 .f32 :=
  (addf arg1 (mulf (broadcastInDim S4x2048x1024 ![0, 1, 2] bcast_S4x1x1024_S4x2048x1024_0_1_2 (extractStridedSlice S4x1x1024 ![0, 2, 0] (extractStridedSlice S4x6x1024 ![1, 0, 0] arg6 slices_S8x6x1024_S4x6x1024_1_0_0) slices_S4x6x1024_S4x1x1024_0_2_0)) (shapeCast _ (Host.dotGeneral dot_S8192x1024_S1024x1024_S8192x1024_1_0_0_1_n_n none (concatenate S8192x1024 1 [⟨S8192x512, arg3⟩, ⟨S8192x512, arg5⟩] concatenates_S8192x512_S8192x512_S8192x1024_d1) arg8) shapeCasts_S8192x1024_S4x2048x1024)))

abbrev hC (x : FVec Ideal S32x256x1024 .f32) (arg6 : FVec Ideal S8x6x1024 .f32) (arg7 : FVec Ideal S1024 .f32) :
    FVec Ideal S8192x1024 .f32 :=
  (shapeCast _ (addf (mulf (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 arg7))) (broadcastInDim S32x256x1024 ![0, 1, 2] bcast_S1x1x1024_S32x256x1024_0_1_2 (addf (broadcastInDim S1x1x1024 ![] bcast_S_S1x1x1024 (constant S_ .f32 0x3F800000#32)) (extractStridedSlice S1x1x1024 ![0, 4, 0] (extractStridedSlice S1x6x1024 ![0, 0, 0] arg6 slices_S8x6x1024_S1x6x1024_0_0_0) slices_S1x6x1024_S1x1x1024_0_4_0)))) (broadcastInDim S32x256x1024 ![0, 1, 2] bcast_S1x1x1024_S32x256x1024_0_1_2 (extractStridedSlice S1x1x1024 ![0, 3, 0] (extractStridedSlice S1x6x1024 ![0, 0, 0] arg6 slices_S8x6x1024_S1x6x1024_0_0_0) slices_S1x6x1024_S1x1x1024_0_3_0))) shapeCasts_S32x256x1024_S8192x1024)

abbrev hL (y : FVec Ideal S4x2048x1024 .f32) (arg6 : FVec Ideal S8x6x1024 .f32) (arg7 : FVec Ideal S1024 .f32) :
    FVec Ideal S8192x1024 .f32 :=
  (shapeCast _ (addf (mulf (mulf (mulf y (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf y y) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 arg7))) (broadcastInDim S4x2048x1024 ![0, 1, 2] bcast_S4x1x1024_S4x2048x1024_0_1_2 (addf (broadcastInDim S4x1x1024 ![] bcast_S_S4x1x1024 (constant S_ .f32 0x3F800000#32)) (extractStridedSlice S4x1x1024 ![0, 4, 0] (extractStridedSlice S4x6x1024 ![1, 0, 0] arg6 slices_S8x6x1024_S4x6x1024_1_0_0) slices_S4x6x1024_S4x1x1024_0_4_0)))) (broadcastInDim S4x2048x1024 ![0, 1, 2] bcast_S4x1x1024_S4x2048x1024_0_1_2 (extractStridedSlice S4x1x1024 ![0, 3, 0] (extractStridedSlice S4x6x1024 ![1, 0, 0] arg6 slices_S8x6x1024_S4x6x1024_1_0_0) slices_S4x6x1024_S4x1x1024_0_3_0))) shapeCasts_S4x2048x1024_S8192x1024)

abbrev gX (h : FVec Ideal S8192x1024 .f32) (w : FVec Ideal S1024x256 .f32) : FVec Ideal S8192x256 .f32 :=
  Host.dotGeneral dot_S8192x1024_S1024x256_S8192x256_1_0_0_1_n_n none h w

abbrev sX (g u : FVec Ideal S8192x256 .f32) (w : FVec Ideal S256x1024 .f32) : FVec Ideal S8192x1024 .f32 :=
  Host.dotGeneral dot_S8192x256_S256x1024_S8192x1024_1_0_0_1_n_n none (mulf (mulf g (Host.divf (broadcastInDim S8192x256 ![] bcast_S_S8192x256 (constant S_ .f32 0x3F800000#32)) (addf (broadcastInDim S8192x256 ![] bcast_S_S8192x256 (constant S_ .f32 0x3F800000#32)) (Host.exp (Host.negf g))))) u) w

/-- A context token's place. -/
abbrev rC (b : Fin 32) (l : Fin 256) : Fin 16384 := ⟨b.val * 256 + l.val, by omega⟩
/-- A latent token's place. -/
abbrev rL (b : Fin 4) (l : Fin 2048) : Fin 16384 := ⟨8192 + (b.val * 2048 + l.val), by omega⟩

theorem xC_at (X0 : FVec Ideal S32x256x1024 .f32) (X1 : FVec Ideal S4x2048x1024 .f32) (A0 A1 P0 P1 : FVec Ideal S8192x512 .f32)
    (M : FVec Ideal S8x6x1024 .f32) (W : FVec Ideal S1024x1024 .f32) (b : Fin 32) (l : Fin 256) (k : Fin 1024) :
    xC X0 A0 P0 M W (ix3 b l k) = res X0 X1 A0 A1 P0 P1 M W (rC b l) k := by
  have h : (rC b l : ℕ) < 8192 := by show b.val * 256 + l.val < 8192; omega
  have e1 : (⟨(rC b l : ℕ) / 256, by omega⟩ : Fin 32) = b := Fin.ext (by show (b.val * 256 + l.val) / 256 = _; omega)
  have e2 : (⟨(rC b l : ℕ) % 256, by omega⟩ : Fin 256) = l := Fin.ext (by show (b.val * 256 + l.val) % 256 = _; omega)
  rw [res, tok, dif_pos h, e1, e2, mrow, dif_pos h]
  pointwise [side, half, h]

theorem xL_at (X0 : FVec Ideal S32x256x1024 .f32) (X1 : FVec Ideal S4x2048x1024 .f32) (A0 A1 P0 P1 : FVec Ideal S8192x512 .f32)
    (M : FVec Ideal S8x6x1024 .f32) (W : FVec Ideal S1024x1024 .f32) (b : Fin 4) (l : Fin 2048) (k : Fin 1024) :
    xL X1 A1 P1 M W (ix3 b l k) = res X0 X1 A0 A1 P0 P1 M W (rL b l) k := by
  have h : ¬ (rL b l : ℕ) < 8192 := by show ¬ 8192 + (b.val * 2048 + l.val) < 8192; omega
  have e1 : (⟨((rL b l : ℕ) - 8192) / 2048, by omega⟩ : Fin 4) = b := Fin.ext (by show (8192 + (b.val * 2048 + l.val) - 8192) / 2048 = _; omega)
  have e2 : (⟨((rL b l : ℕ) - 8192) % 2048, by omega⟩ : Fin 2048) = l := Fin.ext (by show (8192 + (b.val * 2048 + l.val) - 8192) % 2048 = _; omega)
  have e3 : (⟨1 + ((rL b l : ℕ) - 8192) / 2048, by omega⟩ : Fin 8) = ⟨1 + b.val, by omega⟩ := Fin.ext (by show 1 + (8192 + (b.val * 2048 + l.val) - 8192) / 2048 = _; simp only []; omega)
  rw [res, tok, dif_neg h, e1, e2, mrow, dif_neg h, e3]
  pointwise [side, half, h]

theorem hC_at (x : FVec Ideal S32x256x1024 .f32) (M : FVec Ideal S8x6x1024 .f32) (g : FVec Ideal S1024 .f32)
    (f : Fin 16384 → Fin 1024 → EReal) (hx : ∀ b l k, x (ix3 b l k) = f (rC b l) k) (r : Fin 8192) (k : Fin 1024) :
    hC x M g (ix2 r k) = hrow M g f ⟨r, by omega⟩ k := by
  have h : r.val < 8192 := r.isLt
  have e : rC ⟨r.val / 256, by omega⟩ ⟨r.val % 256, by omega⟩ = ⟨r.val, by omega⟩ := Fin.ext (by show r.val / 256 * 256 + r.val % 256 = _; simp only []; omega)
  pointwise [hrow, hid, mrow, hx, e, h]

theorem hL_at (x : FVec Ideal S4x2048x1024 .f32) (M : FVec Ideal S8x6x1024 .f32) (g : FVec Ideal S1024 .f32)
    (f : Fin 16384 → Fin 1024 → EReal) (hx : ∀ b l k, x (ix3 b l k) = f (rL b l) k) (r : Fin 8192) (k : Fin 1024) :
    hL x M g (ix2 r k) = hrow M g f ⟨8192 + r.val, by omega⟩ k := by
  have h : ¬ (8192 + r.val) < 8192 := by omega
  have e : rL ⟨r.val / 2048, by omega⟩ ⟨r.val % 2048, by omega⟩ = ⟨8192 + r.val, by omega⟩ := Fin.ext (by show 8192 + (r.val / 2048 * 2048 + r.val % 2048) = _; simp only []; omega)
  pointwise [hrow, hid, mrow, hx, e, h]

theorem gX_at (h : FVec Ideal S8192x1024 .f32) (W : FVec Ideal S1024x256 .f32) (f : Fin 16384 → Fin 1024 → EReal)
    (q : Fin 8192 → Fin 16384) (hh : ∀ r k, h (ix2 r k) = f (q r) k) (r : Fin 8192) (e : Fin 256) :
    gX h W (ix2 r e) = col W f (q r) e := by
  pointwise [col, hh]

theorem sX_at (g u : FVec Ideal S8192x256 .f32) (SG SU : FVec Ideal S1024x256 .f32) (SD : FVec Ideal S256x1024 .f32)
    (f : Fin 16384 → Fin 1024 → EReal) (q : Fin 8192 → Fin 16384) (hg : ∀ r e, g (ix2 r e) = col SG f (q r) e)
    (hu : ∀ r e, u (ix2 r e) = col SU f (q r) e) (r : Fin 8192) (k : Fin 1024) :
    sX g u SD (ix2 r k) = shared SG SU SD f (q r) k := by
  pointwise [shared, hg, hu, Ideal.logistic]

theorem join1024 (φ : FTy) (a b : FVec Ideal S8192x1024 φ) (f : Fin 16384 → Fin 1024 → EReal)
    (ha : ∀ r k, a (ix2 r k) = f ⟨r.val, by omega⟩ k) (hb : ∀ r k, b (ix2 r k) = f ⟨8192 + r.val, by omega⟩ k) :
    concatenate S16384x1024 0 [⟨S8192x1024, a⟩, ⟨S8192x1024, b⟩] concatenates_S8192x1024_S8192x1024_S16384x1024_d0 = arr φ f := by
  funext j
  idx_vars j
  by_cases hj : (j0 : ℕ) < 8192
  · pointwise [arr, ha, hb, hj]
  · pointwise [arr, ha, hb, hj]
    congr 1
    exact Fin.ext (by simp only []; omega)

theorem join256 (a b : FVec Ideal S8192x256 .f32) (f : Fin 16384 → Fin 256 → EReal)
    (ha : ∀ r k, a (ix2 r k) = f ⟨r.val, by omega⟩ k) (hb : ∀ r k, b (ix2 r k) = f ⟨8192 + r.val, by omega⟩ k) :
    concatenate S16384x256 0 [⟨S8192x256, a⟩, ⟨S8192x256, b⟩] concatenates_S8192x256_S8192x256_S16384x256_d0 = arr .f32 f := by
  funext j
  idx_vars j
  by_cases hj : (j0 : ℕ) < 8192
  · pointwise [arr, ha, hb, hj]
  · pointwise [arr, ha, hb, hj]
    congr 1
    exact Fin.ext (by simp only []; omega)

theorem fC_at (x : FVec Ideal S32x256x1024 .f32) (f : Fin 16384 → Fin 1024 → EReal)
    (hx : ∀ b l k, x (ix3 b l k) = f (rC b l) k) (r : Fin 8192) (k : Fin 1024) :
    shapeCast S8192x1024 x shapeCasts_S32x256x1024_S8192x1024 (ix2 r k) = f ⟨r, by omega⟩ k := by
  have e : rC ⟨r.val / 256, by omega⟩ ⟨r.val % 256, by omega⟩ = ⟨r.val, by omega⟩ := Fin.ext (by show r.val / 256 * 256 + r.val % 256 = _; simp only []; omega)
  pointwise [hx, e]

theorem fL_at (x : FVec Ideal S4x2048x1024 .f32) (f : Fin 16384 → Fin 1024 → EReal)
    (hx : ∀ b l k, x (ix3 b l k) = f (rL b l) k) (r : Fin 8192) (k : Fin 1024) :
    shapeCast S8192x1024 x shapeCasts_S4x2048x1024_S8192x1024 (ix2 r k) = f ⟨8192 + r.val, by omega⟩ k := by
  have e : rL ⟨r.val / 2048, by omega⟩ ⟨r.val % 2048, by omega⟩ = ⟨8192 + r.val, by omega⟩ := Fin.ext (by show 8192 + (r.val / 2048 * 2048 + r.val % 2048) = _; simp only []; omega)
  pointwise [hx, e]

/-- Token `r`'s residual row, over the arguments. -/
abbrev xr (c : Dev nD) : Fin 16384 → Fin 1024 → EReal :=
  res (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg8))
/-- Its second norm. -/
abbrev hr (c : Dev nD) : Fin 16384 → Fin 1024 → EReal :=
  hrow (m ((c.tc : Thread nD τ).loc main_arg6)) (m ((c.tc : Thread nD τ).loc main_arg7)) (xr m c)
/-- Its logits. -/
abbrev lr (c : Dev nD) : Fin 16384 → Fin 256 → EReal :=
  col (m ((c.tc : Thread nD τ).loc main_arg12)) (hr m c)
/-- Its shared expert's row. -/
abbrev sr (c : Dev nD) : Fin 16384 → Fin 1024 → EReal :=
  shared (m ((c.tc : Thread nD τ).loc main_arg9)) (m ((c.tc : Thread nD τ).loc main_arg10)) (m ((c.tc : Thread nD τ).loc main_arg11)) (hr m c)

set_option maxHeartbeats 2000000 in
/-- What the reference leaves in its four results. -/
theorem run : θ_run defs (onTc (τ := τ) (main (F := Ideal))) ⟨m, fun _ => 0, ρ⟩ fun r => ∀ c : Dev nD,
      r.2.mem ((c.tc : Thread nD τ).loc main_v78) = arr .f32 (xr m c)
      ∧ r.2.mem ((c.tc : Thread nD τ).loc main_v79) = arr .f32 (lr m c)
      ∧ r.2.mem ((c.tc : Thread nD τ).loc main_v80) = arr .bf16 (hr m c)
      ∧ r.2.mem ((c.tc : Thread nD τ).loc main_v81) = arr .bf16 (sr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ?_) (Value.run (F := Ideal) m ρ)
  obtain ⟨h1, h2, h3, h4, h5⟩ := h c
  refine ⟨h1.trans ?_, h2.trans ?_, h3.trans ?_, h4.trans ?_, h5⟩
  all_goals clear h1 h2 h3 h4 h5
  all_goals
    have kc := xC_at (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg8))
    have kl := xL_at (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg8))
    have hc := hC_at _ (m ((c.tc : Thread nD τ).loc main_arg6)) (m ((c.tc : Thread nD τ).loc main_arg7)) _ kc
    have hl := hL_at _ (m ((c.tc : Thread nD τ).loc main_arg6)) (m ((c.tc : Thread nD τ).loc main_arg7)) _ kl
  · exact join1024 .f32 _ _ (xr m c) (fC_at _ _ kc) (fL_at _ _ kl)
  · exact join256 _ _ (lr m c) (gX_at _ _ (hr m c) _ hc) (gX_at _ _ (hr m c) _ hl)
  · exact join1024 .bf16 _ _ (hr m c) hc hl
  · exact join1024 .bf16 _ _ (sr m c) (sX_at _ _ _ _ _ (hr m c) _ (gX_at _ _ _ _ hc) (gX_at _ _ _ _ hc))
      (sX_at _ _ _ _ _ (hr m c) _ (gX_at _ _ _ _ hl) (gX_at _ _ _ _ hl))

end Cert.Reference3Ideal.Proj
-- ==== Proof.OutprojKer.lean ====
module

public import proofs.«01_k».proof.Proof.Gen.Kernel3Ideal.Value
public import proofs.«01_k».proof.Proof.OutprojRef
public import Idealize.ShloMosaic.Lib.Pipeline.ValueKit
public import Idealize.ShloMosaic.Lib.Claim
public import Idealize.ShloMosaic.Lib.Pointwise

@[expose] public section

set_option maxRecDepth 100000

noncomputable section

namespace Cert.Kernel3Ideal.Proj

open Cert.Kernel3Ideal Cert.Kernel3Ideal.Gen Idealize.ShloMosaic Idealize.ShloMosaic.TcCoe Idealize.SL.Sem
open Idealize.ShloMosaic.Pipeline (Dat)
open Cert.Outproj Cert.Tokens

variable (m : (ℓ : Loc nD τ sig) → Buf (Elt Ideal) ℓ) (ρ : Dev nD → PrngReg)

/-- Token `r`'s residual row, over the arguments. -/
abbrev xr (c : Dev nD) : Fin 16384 → Fin 1024 → EReal :=
  res (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg8))
/-- Its second norm. -/
abbrev hr (c : Dev nD) : Fin 16384 → Fin 1024 → EReal :=
  hrow (m ((c.tc : Thread nD τ).loc main_arg6)) (m ((c.tc : Thread nD τ).loc main_arg7)) (xr m c)
/-- Its logits. -/
abbrev lr (c : Dev nD) : Fin 16384 → Fin 256 → EReal :=
  col (m ((c.tc : Thread nD τ).loc main_arg12)) (hr m c)
/-- Its shared expert's row. -/
abbrev sr (c : Dev nD) : Fin 16384 → Fin 1024 → EReal :=
  shared (m ((c.tc : Thread nD τ).loc main_arg9)) (m ((c.tc : Thread nD τ).loc main_arg10)) (m ((c.tc : Thread nD τ).loc main_arg11)) (hr m c)

/-- Which block each window of the tokens stages at a point. -/
theorem idxA : ∀ t : Fin cfg0.N, t.val < 32 ∧ (grid0.coords t 0).val = t.val
    ∧ (t.val < 16 → win0_0.index t = ![t.val, 0] ∧ win0_2.index t = ![t.val, 0] ∧ win0_4.index t = ![t.val, 0] ∧ win0_6.index t = ![0, 0, 0])
    ∧ (16 ≤ t.val → win0_1.index t = ![t.val - 16, 0] ∧ win0_3.index t = ![t.val - 16, 0] ∧ win0_5.index t = ![t.val - 16, 0]
        ∧ win0_6.index t = ![1 + (t.val - 16) / 4, 0, 0]) :=
  (by decide +kernel : ∀ t : Fin grid0.N, _)

/-- Which block each window of the weights and of the results stages at a point. -/
theorem idxB : ∀ t : Fin cfg0.N, win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0]
    ∧ win0_14.index t = ![t.val, 0] ∧ win0_15.index t = ![t.val, 0] ∧ win0_16.index t = ![t.val, 0] ∧ win0_17.index t = ![t.val, 0] :=
  (by decide +kernel : ∀ t : Fin grid0.N, _)

/-- Token row `t * 512 + a`. -/
def rw (t : Fin cfg0.N) (a : Fin 512) : Fin 16384 := ⟨t.val * 512 + a.val, by have := (idxA t).1; omega⟩

theorem sc0 (x : FVec Ideal S32x256x1024 .f32) (r : Fin 8192) (k : Fin 1024) :
    shapeCast S8192x1024 x shapeCasts_S32x256x1024_S8192x1024 (ix2 r k) = x (ix3 (⟨r.val / 256, by omega⟩ : Fin 32) (⟨r.val % 256, by omega⟩ : Fin 256) k) := by
  pointwise

theorem sc1 (x : FVec Ideal S4x2048x1024 .f32) (r : Fin 8192) (k : Fin 1024) :
    shapeCast S8192x1024 x shapeCasts_S4x2048x1024_S8192x1024 (ix2 r k) = x (ix3 (⟨r.val / 2048, by omega⟩ : Fin 4) (⟨r.val % 2048, by omega⟩ : Fin 2048) k) := by
  pointwise

/-! What the host operations put in the operands the windows read. -/

theorem V0 (c : Dev nD) : V m c main_v0 = (shapeCast S8192x1024 (m ((c.tc : Thread nD τ).loc main_arg0)) shapeCasts_S32x256x1024_S8192x1024 : FVec Ideal S8192x1024 .f32) := by
  simp only [V, hostOps0, List.flatten_cons, List.flatten_nil, List.append_nil, List.cons_append, List.nil_append]
  entry_read
  rfl

theorem V1 (c : Dev nD) : V m c main_v1 = (shapeCast S8192x1024 (m ((c.tc : Thread nD τ).loc main_arg1)) shapeCasts_S4x2048x1024_S8192x1024 : FVec Ideal S8192x1024 .f32) := by
  simp only [V, hostOps0, List.flatten_cons, List.flatten_nil, List.append_nil, List.cons_append, List.nil_append]
  entry_read
  rfl

theorem V2 (c : Dev nD) : V m c main_v2 = (truncf .bf16 (m ((c.tc : Thread nD τ).loc main_arg8) : FVec Ideal S1024x1024 .f32) bitsLt_bf16_f32 : FVec Ideal S1024x1024 .bf16) := by
  simp only [V, hostOps0, List.flatten_cons, List.flatten_nil, List.append_nil, List.cons_append, List.nil_append]
  entry_read
  rfl

theorem V3 (c : Dev nD) : V m c main_v3 = (truncf .bf16 (m ((c.tc : Thread nD τ).loc main_arg9) : FVec Ideal S1024x256 .f32) bitsLt_bf16_f32 : FVec Ideal S1024x256 .bf16) := by
  simp only [V, hostOps0, List.flatten_cons, List.flatten_nil, List.append_nil, List.cons_append, List.nil_append]
  entry_read
  rfl

theorem V4 (c : Dev nD) : V m c main_v4 = (truncf .bf16 (m ((c.tc : Thread nD τ).loc main_arg10) : FVec Ideal S1024x256 .f32) bitsLt_bf16_f32 : FVec Ideal S1024x256 .bf16) := by
  simp only [V, hostOps0, List.flatten_cons, List.flatten_nil, List.append_nil, List.cons_append, List.nil_append]
  entry_read
  rfl

theorem V5 (c : Dev nD) : V m c main_v5 = (truncf .bf16 (m ((c.tc : Thread nD τ).loc main_arg11) : FVec Ideal S256x1024 .f32) bitsLt_bf16_f32 : FVec Ideal S256x1024 .bf16) := by
  simp only [V, hostOps0, List.flatten_cons, List.flatten_nil, List.append_nil, List.cons_append, List.nil_append]
  entry_read
  rfl

theorem V6 (c : Dev nD) : V m c main_v6 = (truncf .bf16 (m ((c.tc : Thread nD τ).loc main_arg12) : FVec Ideal S1024x256 .f32) bitsLt_bf16_f32 : FVec Ideal S1024x256 .bf16) := by
  simp only [V, hostOps0, List.flatten_cons, List.flatten_nil, List.append_nil, List.cons_append, List.nil_append]
  entry_read
  rfl

theorem V9 (c : Dev nD) : V m c main_v9 = (truncf .bf16 (subf (m ((c.tc : Thread nD τ).loc main_arg12) : FVec Ideal S1024x256 .f32) (extf .f32 (truncf .bf16 (m ((c.tc : Thread nD τ).loc main_arg12) : FVec Ideal S1024x256 .f32) bitsLt_bf16_f32) bitsLt_bf16_f32)) bitsLt_bf16_f32 : FVec Ideal S1024x256 .bf16) := by
  simp only [V, hostOps0, List.flatten_cons, List.flatten_nil, List.append_nil, List.cons_append, List.nil_append]
  entry_read
  rfl

theorem V10 (c : Dev nD) : V m c main_v10 = (shapeCast S1x1024 (m ((c.tc : Thread nD τ).loc main_arg7)) shapeCasts_S1024_S1x1024 : FVec Ideal S1x1024 .f32) := by
  simp only [V, hostOps0, List.flatten_cons, List.flatten_nil, List.append_nil, List.cons_append, List.nil_append]
  entry_read
  rfl

theorem read0 (c : Dev nD) (t : Fin cfg0.N) (h : t.val < 16) (a : Fin 512) (k : Fin 1024) :
    iblk m c 0 t (ix2 a k : S512x1024.Idx) = tok (m ((c.tc : Thread nD τ).loc main_arg0)) (m ((c.tc : Thread nD τ).loc main_arg1)) (rw t a) k := by
  obtain ⟨ht, hc, hlt, hge⟩ := idxA t
  obtain ⟨i7, i8, i9, i10, i11, i12, i13, i14, i15, i16, i17⟩ := idxB t
  obtain ⟨i0, -, -, i6⟩ := hlt h
  have hr : (rw t a : ℕ) < 8192 := by simp only [rw]; omega
  have e : ((win0_0.blk t).view.emb (ix2 a k : S512x1024.Idx)) = (ix2 (⟨rw t a, hr⟩ : Fin 8192) k : S8192x1024.Idx) := by
    refine funext (Fin.forall_fin_two.2 ⟨Fin.ext ?_, Fin.ext ?_⟩) <;> blk_simp [i0, rw] <;> omega
  rw [tok, dif_pos hr]
  exact ((congrArg (V m c main_v0) e).trans (congrFun (V0 m c) _)).trans (sc0 _ _ k)

theorem read1 (c : Dev nD) (t : Fin cfg0.N) (h : ¬ t.val < 16) (a : Fin 512) (k : Fin 1024) :
    iblk m c 1 t (ix2 a k : S512x1024.Idx) = tok (m ((c.tc : Thread nD τ).loc main_arg0)) (m ((c.tc : Thread nD τ).loc main_arg1)) (rw t a) k := by
  obtain ⟨ht, hc, hlt, hge⟩ := idxA t
  obtain ⟨i7, i8, i9, i10, i11, i12, i13, i14, i15, i16, i17⟩ := idxB t
  obtain ⟨i1, -, -, i6⟩ := hge (by omega)
  have hr : ¬ (rw t a : ℕ) < 8192 := by simp only [rw]; omega
  have e : ((win0_1.blk t).view.emb (ix2 a k : S512x1024.Idx)) = (ix2 (⟨rw t a - 8192, by omega⟩ : Fin 8192) k : S8192x1024.Idx) := by
    refine funext (Fin.forall_fin_two.2 ⟨Fin.ext ?_, Fin.ext ?_⟩) <;> blk_simp [i1, rw] <;> first | omega | (show _ = t.val * 512 + a.val - 8192; omega)
  rw [tok, dif_neg hr]
  exact ((congrArg (V m c main_v1) e).trans (congrFun (V1 m c) _)).trans (sc1 _ _ k)

theorem read2 (c : Dev nD) (t : Fin cfg0.N) (h : t.val < 16) (a : Fin 512) (l : Fin 512) :
    iblk m c 2 t (ix2 a l : S512x512.Idx) = half (m ((c.tc : Thread nD τ).loc main_arg2)) (m ((c.tc : Thread nD τ).loc main_arg3)) (rw t a) l := by
  obtain ⟨ht, hc, hlt, hge⟩ := idxA t
  obtain ⟨i7, i8, i9, i10, i11, i12, i13, i14, i15, i16, i17⟩ := idxB t
  obtain ⟨-, i2, -, -⟩ := hlt h
  have hr : (rw t a : ℕ) < 8192 := by simp only [rw]; omega
  have e : ((win0_2.blk t).view.emb (ix2 a l : S512x512.Idx)) = (ix2 (⟨rw t a, hr⟩ : Fin 8192) l : S8192x512.Idx) := by
    refine funext (Fin.forall_fin_two.2 ⟨Fin.ext ?_, Fin.ext ?_⟩) <;> blk_simp [i2, rw] <;> omega
  rw [half, dif_pos hr]
  exact congrArg (V m c main_arg2) e

theorem read3 (c : Dev nD) (t : Fin cfg0.N) (h : ¬ t.val < 16) (a : Fin 512) (l : Fin 512) :
    iblk m c 3 t (ix2 a l : S512x512.Idx) = half (m ((c.tc : Thread nD τ).loc main_arg2)) (m ((c.tc : Thread nD τ).loc main_arg3)) (rw t a) l := by
  obtain ⟨ht, hc, hlt, hge⟩ := idxA t
  obtain ⟨i7, i8, i9, i10, i11, i12, i13, i14, i15, i16, i17⟩ := idxB t
  obtain ⟨-, i3, -, -⟩ := hge (by omega)
  have hr : ¬ (rw t a : ℕ) < 8192 := by simp only [rw]; omega
  have e : ((win0_3.blk t).view.emb (ix2 a l : S512x512.Idx)) = (ix2 (⟨rw t a - 8192, by omega⟩ : Fin 8192) l : S8192x512.Idx) := by
    refine funext (Fin.forall_fin_two.2 ⟨Fin.ext ?_, Fin.ext ?_⟩) <;> blk_simp [i3, rw] <;> first | omega | (show _ = t.val * 512 + a.val - 8192; omega)
  rw [half, dif_neg hr]
  exact congrArg (V m c main_arg3) e

theorem read4 (c : Dev nD) (t : Fin cfg0.N) (h : t.val < 16) (a : Fin 512) (l : Fin 512) :
    iblk m c 4 t (ix2 a l : S512x512.Idx) = half (m ((c.tc : Thread nD τ).loc main_arg4)) (m ((c.tc : Thread nD τ).loc main_arg5)) (rw t a) l := by
  obtain ⟨ht, hc, hlt, hge⟩ := idxA t
  obtain ⟨i7, i8, i9, i10, i11, i12, i13, i14, i15, i16, i17⟩ := idxB t
  obtain ⟨-, -, i4, -⟩ := hlt h
  have hr : (rw t a : ℕ) < 8192 := by simp only [rw]; omega
  have e : ((win0_4.blk t).view.emb (ix2 a l : S512x512.Idx)) = (ix2 (⟨rw t a, hr⟩ : Fin 8192) l : S8192x512.Idx) := by
    refine funext (Fin.forall_fin_two.2 ⟨Fin.ext ?_, Fin.ext ?_⟩) <;> blk_simp [i4, rw] <;> omega
  rw [half, dif_pos hr]
  exact congrArg (V m c main_arg4) e

theorem read5 (c : Dev nD) (t : Fin cfg0.N) (h : ¬ t.val < 16) (a : Fin 512) (l : Fin 512) :
    iblk m c 5 t (ix2 a l : S512x512.Idx) = half (m ((c.tc : Thread nD τ).loc main_arg4)) (m ((c.tc : Thread nD τ).loc main_arg5)) (rw t a) l := by
  obtain ⟨ht, hc, hlt, hge⟩ := idxA t
  obtain ⟨i7, i8, i9, i10, i11, i12, i13, i14, i15, i16, i17⟩ := idxB t
  obtain ⟨-, -, i5, -⟩ := hge (by omega)
  have hr : ¬ (rw t a : ℕ) < 8192 := by simp only [rw]; omega
  have e : ((win0_5.blk t).view.emb (ix2 a l : S512x512.Idx)) = (ix2 (⟨rw t a - 8192, by omega⟩ : Fin 8192) l : S8192x512.Idx) := by
    refine funext (Fin.forall_fin_two.2 ⟨Fin.ext ?_, Fin.ext ?_⟩) <;> blk_simp [i5, rw] <;> first | omega | (show _ = t.val * 512 + a.val - 8192; omega)
  rw [half, dif_neg hr]
  exact congrArg (V m c main_arg5) e

theorem read6 (c : Dev nD) (t : Fin cfg0.N) (a : Fin 512) (q : Fin 6) (k : Fin 1024) :
    iblk m c 6 t (ix3 0 q k : S1x6x1024.Idx) = m ((c.tc : Thread nD τ).loc main_arg6) (ix3 (mrow (rw t a)) q k) := by
  obtain ⟨ht, hc, hlt, hge⟩ := idxA t
  obtain ⟨i7, i8, i9, i10, i11, i12, i13, i14, i15, i16, i17⟩ := idxB t
  by_cases h : t.val < 16
  · obtain ⟨-, -, -, i6⟩ := hlt h
    have hr : (rw t a : ℕ) < 8192 := by simp only [rw]; omega
    rw [mrow, dif_pos hr]
    blk_point [iblk, V, i6]
  · obtain ⟨-, -, -, i6⟩ := hge (by omega)
    have hr : ¬ (rw t a : ℕ) < 8192 := by simp only [rw]; omega
    rw [mrow, dif_neg hr]
    simp only [rw]
    blk_point [iblk, V, i6]

theorem read7 (c : Dev nD) (t : Fin cfg0.N) (k : Fin 1024) :
    iblk m c 7 t (ix2 0 k : S1x1024.Idx) = m ((c.tc : Thread nD τ).loc main_arg7) (ix1 k) := by
  obtain ⟨ht, hc, hlt, hge⟩ := idxA t
  obtain ⟨i7, i8, i9, i10, i11, i12, i13, i14, i15, i16, i17⟩ := idxB t
  have e : ((win0_7.blk t).view.emb (ix2 0 k : S1x1024.Idx)) = (ix2 0 k : S1x1024.Idx) := by
    refine funext (Fin.forall_fin_two.2 ⟨Fin.ext ?_, Fin.ext ?_⟩) <;> blk_simp [i7] <;> omega
  refine (congrArg (V m c main_v10) e).trans ?_
  rw [V10]
  pointwise

theorem read8 (c : Dev nD) (t : Fin cfg0.N) (k : Fin 1024) (j : Fin 1024) :
    iblk m c 8 t (ix2 k j : S1024x1024.Idx) = m ((c.tc : Thread nD τ).loc main_arg8) (ix2 k j) := by
  obtain ⟨ht, hc, hlt, hge⟩ := idxA t
  obtain ⟨i7, i8, i9, i10, i11, i12, i13, i14, i15, i16, i17⟩ := idxB t
  have e : ((win0_8.blk t).view.emb (ix2 k j : S1024x1024.Idx)) = (ix2 k j : S1024x1024.Idx) := by
    refine funext (Fin.forall_fin_two.2 ⟨Fin.ext ?_, Fin.ext ?_⟩) <;> blk_simp [i8] <;> omega
  refine (congrArg (V m c main_v2) e).trans ?_
  rw [V2]
  pointwise

theorem read9 (c : Dev nD) (t : Fin cfg0.N) (k : Fin 1024) (j : Fin 256) :
    iblk m c 9 t (ix2 k j : S1024x256.Idx) = m ((c.tc : Thread nD τ).loc main_arg9) (ix2 k j) := by
  obtain ⟨ht, hc, hlt, hge⟩ := idxA t
  obtain ⟨i7, i8, i9, i10, i11, i12, i13, i14, i15, i16, i17⟩ := idxB t
  have e : ((win0_9.blk t).view.emb (ix2 k j : S1024x256.Idx)) = (ix2 k j : S1024x256.Idx) := by
    refine funext (Fin.forall_fin_two.2 ⟨Fin.ext ?_, Fin.ext ?_⟩) <;> blk_simp [i9] <;> omega
  refine (congrArg (V m c main_v3) e).trans ?_
  rw [V3]
  pointwise

theorem read10 (c : Dev nD) (t : Fin cfg0.N) (k : Fin 1024) (j : Fin 256) :
    iblk m c 10 t (ix2 k j : S1024x256.Idx) = m ((c.tc : Thread nD τ).loc main_arg10) (ix2 k j) := by
  obtain ⟨ht, hc, hlt, hge⟩ := idxA t
  obtain ⟨i7, i8, i9, i10, i11, i12, i13, i14, i15, i16, i17⟩ := idxB t
  have e : ((win0_10.blk t).view.emb (ix2 k j : S1024x256.Idx)) = (ix2 k j : S1024x256.Idx) := by
    refine funext (Fin.forall_fin_two.2 ⟨Fin.ext ?_, Fin.ext ?_⟩) <;> blk_simp [i10] <;> omega
  refine (congrArg (V m c main_v4) e).trans ?_
  rw [V4]
  pointwise

theorem read11 (c : Dev nD) (t : Fin cfg0.N) (k : Fin 256) (j : Fin 1024) :
    iblk m c 11 t (ix2 k j : S256x1024.Idx) = m ((c.tc : Thread nD τ).loc main_arg11) (ix2 k j) := by
  obtain ⟨ht, hc, hlt, hge⟩ := idxA t
  obtain ⟨i7, i8, i9, i10, i11, i12, i13, i14, i15, i16, i17⟩ := idxB t
  have e : ((win0_11.blk t).view.emb (ix2 k j : S256x1024.Idx)) = (ix2 k j : S256x1024.Idx) := by
    refine funext (Fin.forall_fin_two.2 ⟨Fin.ext ?_, Fin.ext ?_⟩) <;> blk_simp [i11] <;> omega
  refine (congrArg (V m c main_v5) e).trans ?_
  rw [V5]
  pointwise

theorem read12 (c : Dev nD) (t : Fin cfg0.N) (k : Fin 1024) (j : Fin 256) :
    iblk m c 12 t (ix2 k j : S1024x256.Idx) = m ((c.tc : Thread nD τ).loc main_arg12) (ix2 k j) := by
  obtain ⟨ht, hc, hlt, hge⟩ := idxA t
  obtain ⟨i7, i8, i9, i10, i11, i12, i13, i14, i15, i16, i17⟩ := idxB t
  have e : ((win0_12.blk t).view.emb (ix2 k j : S1024x256.Idx)) = (ix2 k j : S1024x256.Idx) := by
    refine funext (Fin.forall_fin_two.2 ⟨Fin.ext ?_, Fin.ext ?_⟩) <;> blk_simp [i12] <;> omega
  refine (congrArg (V m c main_v6) e).trans ?_
  rw [V6]
  pointwise

theorem read13 (c : Dev nD) (t : Fin cfg0.N) (k : Fin 1024) (j : Fin 256) :
    iblk m c 13 t (ix2 k j : S1024x256.Idx) = @HSub.hSub EReal EReal EReal _ (m ((c.tc : Thread nD τ).loc main_arg12) (ix2 k j)) (m ((c.tc : Thread nD τ).loc main_arg12) (ix2 k j)) := by
  obtain ⟨ht, hc, hlt, hge⟩ := idxA t
  obtain ⟨i7, i8, i9, i10, i11, i12, i13, i14, i15, i16, i17⟩ := idxB t
  have e : ((win0_13.blk t).view.emb (ix2 k j : S1024x256.Idx)) = (ix2 k j : S1024x256.Idx) := by
    refine funext (Fin.forall_fin_two.2 ⟨Fin.ext ?_, Fin.ext ?_⟩) <;> blk_simp [i13] <;> omega
  refine (congrArg (V m c main_v9) e).trans ?_
  rw [V9]
  pointwise

/-! The body's values at a row. -/

/-- A sum over two rows laid side by side is the two rows' sums. -/
theorem side_sum (a p : Fin 512 → EReal) (w : Fin 1024 → EReal) :
    ∑ l : Fin 1024, side a p l * w l
      = ∑ l : Fin 512, a l * w ⟨l.val, by omega⟩ + ∑ l : Fin 512, p l * w ⟨512 + l.val, by omega⟩ := by
  have h := Fin.sum_univ_add (M := EReal) (a := 512) (b := 512) fun l => side a p l * w l
  refine h.trans (congrArg₂ _ (Finset.sum_congr rfl fun l _ => ?_) (Finset.sum_congr rfl fun l _ => ?_))
  · exact congrArg₂ _ (dif_pos l.isLt) rfl
  · refine congrArg₂ _ ((dif_neg (by show ¬ 512 + l.val < 512; omega)).trans ?_) rfl
    exact congrArg p (Fin.ext (by show 512 + l.val - 512 = _; omega))

/-- The residual row the body computes for its row `a`. -/
theorem x1_at (c : Dev nD) (t : Fin cfg0.N) (a : Fin 512) (k : Fin 1024)
    (v1 v2 v5 v6 : FVec Ideal S512x512 .f32) (v9 v13 : FVec Ideal S512x1024 .bf16) (v18 v20 : FVec Ideal S512x1024 .f32)
    (v23 : FVec Ideal S1x1x1024 .f32)
    (h1 : t.val < 16 → ∀ l, v1 (ix2 a l) = half (m ((c.tc : Thread nD τ).loc main_arg2)) (m ((c.tc : Thread nD τ).loc main_arg3)) (rw t a) l)
    (h2 : ¬ t.val < 16 → ∀ l, v2 (ix2 a l) = half (m ((c.tc : Thread nD τ).loc main_arg2)) (m ((c.tc : Thread nD τ).loc main_arg3)) (rw t a) l)
    (h5 : t.val < 16 → ∀ l, v5 (ix2 a l) = half (m ((c.tc : Thread nD τ).loc main_arg4)) (m ((c.tc : Thread nD τ).loc main_arg5)) (rw t a) l)
    (h6 : ¬ t.val < 16 → ∀ l, v6 (ix2 a l) = half (m ((c.tc : Thread nD τ).loc main_arg4)) (m ((c.tc : Thread nD τ).loc main_arg5)) (rw t a) l)
    (h9 : ∀ (l : Fin 512) k, v9 (ix2 l k) = m ((c.tc : Thread nD τ).loc main_arg8) (ix2 (⟨l.val, by omega⟩ : Fin 1024) k))
    (h13 : ∀ (l : Fin 512) k, v13 (ix2 l k) = m ((c.tc : Thread nD τ).loc main_arg8) (ix2 (⟨512 + l.val, by omega⟩ : Fin 1024) k))
    (h18 : t.val < 16 → ∀ k, v18 (ix2 a k) = tok (m ((c.tc : Thread nD τ).loc main_arg0)) (m ((c.tc : Thread nD τ).loc main_arg1)) (rw t a) k)
    (h20 : ¬ t.val < 16 → ∀ k, v20 (ix2 a k) = tok (m ((c.tc : Thread nD τ).loc main_arg0)) (m ((c.tc : Thread nD τ).loc main_arg1)) (rw t a) k)
    (h23 : ∀ k, v23 (ix3 0 0 k) = m ((c.tc : Thread nD τ).loc main_arg6) (ix3 (mrow (rw t a)) (2 : Fin 6) k)) :
    k0_pay3 (F := Ideal) (grid0.coords t) v1 v2 v5 v6 v9 v13 v18 v20 v23 (ix2 a k) = xr m c (rw t a) k := by
  obtain ⟨ht, hc, -⟩ := idxA t
  rw [xr, res, side_sum]
  pointwise [k0_pay3, h9, h13, h23, hc]
  by_cases h : t.val < 16
  · have e : Scalar.cmpi CmpIPredicate.slt (BitVec.ofNat 32 t.val) 16#32 = 1#1 := by
      have := t.isLt
      revert h ht; generalize t.val = n; intro hn h
      interval_cases n <;> rfl
    simp only [e, Scalar.select, h1 h, h5 h, h18 h]
    rfl
  · have e : Scalar.cmpi CmpIPredicate.slt (BitVec.ofNat 32 t.val) 16#32 = 0#1 := by
      have := t.isLt
      revert h ht; generalize t.val = n; intro hn h
      interval_cases n <;> first | omega | rfl
    simp only [e, Scalar.select, h2 h, h6 h, h20 h]
    rfl

/-- The sum of squares of the residual row. -/
theorem sq_at (i : grid0.Coords) (v1 v2 v5 v6 : FVec Ideal S512x512 .f32) (v9 v13 : FVec Ideal S512x1024 .bf16)
    (v18 v20 : FVec Ideal S512x1024 .f32) (v23 : FVec Ideal S1x1x1024 .f32) (a : Fin 512) :
    k0_pay4 (F := Ideal) i v1 v2 v5 v6 v9 v13 v18 v20 v23 (ix1 a) = ∑ k : Fin 1024, @HMul.hMul EReal EReal EReal _
      (k0_pay3 (F := Ideal) i v1 v2 v5 v6 v9 v13 v18 v20 v23 (ix2 a k)) (k0_pay3 (F := Ideal) i v1 v2 v5 v6 v9 v13 v18 v20 v23 (ix2 a k)) := by
  pointwise [k0_pay4]

/-- The normalised row from a residual row and its sum of squares. -/
theorem h_at (a : Fin 512) (k : Fin 1024) (v27 : FVec Ideal S512x1024 .f32) (v30 : FVec Ideal S512 .f32)
    (v39 : FVec Ideal S1x1024 .f32) (v43 v49 : FVec Ideal S1x1x1024 .f32) (x g sc sh : Fin 1024 → EReal)
    (h27 : ∀ k, v27 (ix2 a k) = x k) (h30 : v30 (ix1 a) = ∑ k, x k * x k)
    (h39 : ∀ k, v39 (ix2 0 k) = g k) (h43 : ∀ k, v43 (ix3 0 0 k) = sc k) (h49 : ∀ k, v49 (ix3 0 0 k) = sh k) :
    k0_pay5 (F := Ideal) v27 v30 v39 v43 v49 (ix2 a k) = hid x g sc sh k := by
  pointwise [k0_pay5, hid, h27, h30, h39, h43, h49]

/-- The residual row, read off the point's blocks. -/
theorem x1_blk (c : Dev nD) (t : Fin cfg0.N) (a : Fin 512) (k : Fin 1024) :
    k0_pay3 (F := Ideal) (grid0.coords t) (View.ld (iblk m c 2 t) r0_0) (View.ld (iblk m c 3 t) r0_0) (View.ld (iblk m c 4 t) r0_0) (View.ld (iblk m c 5 t) r0_0) (View.ld (iblk m c 8 t) r0_1) (View.ld (iblk m c 8 t) r0_2) (View.ld (iblk m c 0 t) r0_3) (View.ld (iblk m c 1 t) r0_3) (View.ld (iblk m c 6 t) r0_4) (ix2 a k : S512x1024.Idx) = xr m c (rw t a) k := by
  refine x1_at m c t a k _ _ _ _ _ _ _ _ _ (fun h l => Eq.trans ?_ (read2 m c t h a l)) (fun h l => Eq.trans ?_ (read3 m c t h a l))
    (fun h l => Eq.trans ?_ (read4 m c t h a l)) (fun h l => Eq.trans ?_ (read5 m c t h a l))
    (fun l k => Eq.trans ?_ (read8 m c t _ k)) (fun l k => Eq.trans ?_ (read8 m c t _ k))
    (fun h k => Eq.trans ?_ (read0 m c t h a k)) (fun h k => Eq.trans ?_ (read1 m c t h a k))
    (fun k => Eq.trans ?_ (read6 m c t a 2 k))
  all_goals pointwise

/-- The same with the whole blocks read as they are, at any index. -/
theorem x1_blk' (c : Dev nD) (t : Fin cfg0.N) (y : S512x1024.Idx) :
    k0_pay3 (F := Ideal) (grid0.coords t) (iblk m c 2 t) (iblk m c 3 t) (iblk m c 4 t) (iblk m c 5 t) (View.ld (iblk m c 8 t) r0_1)
      (View.ld (iblk m c 8 t) r0_2) (iblk m c 0 t) (iblk m c 1 t) (View.ld (iblk m c 6 t) r0_4) y = xr m c (rw t (y 0)) (y 1) := by
  idx_vars y
  refine x1_at m c t y0 y1 _ _ _ _ _ _ _ _ _ (fun h l => read2 m c t h y0 l) (fun h l => read3 m c t h y0 l)
    (fun h l => read4 m c t h y0 l) (fun h l => read5 m c t h y0 l)
    (fun l k => Eq.trans ?_ (read8 m c t _ k)) (fun l k => Eq.trans ?_ (read8 m c t _ k))
    (fun h k => read0 m c t h y0 k) (fun h k => read1 m c t h y0 k) (fun k => Eq.trans ?_ (read6 m c t y0 2 k))
  all_goals pointwise

/-- The normalised row, read off the point's blocks. -/
theorem h_blk (c : Dev nD) (t : Fin cfg0.N) (y : S512x1024.Idx) :
    k0_pay5 (F := Ideal) (k0_pay11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
      (k0_pay12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
      (iblk m c 7 t) (View.ld (iblk m c 6 t) r0_6) (View.ld (iblk m c 6 t) r0_7) y = hr m c (rw t (y 0)) (y 1) := by
  idx_vars y
  refine h_at y0 y1 _ _ _ _ _ (xr m c (rw t y0)) _ _ _ (fun k => ?_) ?_ (fun k => read7 m c t k)
    (fun k => Eq.trans ?_ (read6 m c t y0 4 k)) (fun k => Eq.trans ?_ (read6 m c t y0 3 k))
  · rw [k0_pay11]; exact x1_blk m c t y0 k
  · rw [k0_pay12]
    exact (sq_at _ _ _ _ _ _ _ _ _ _ y0).trans (Finset.sum_congr rfl fun k _ => Ideal.mul_congr (x1_blk m c t y0 k) (x1_blk m c t y0 k))
  all_goals pointwise

/-- The residual rows after the run. -/
theorem final14 (c : Dev nD) : (dats m 0 c).arrAt 14 cfg0.N = arr .f32 (xr m c) := by
  refine (dats m 0 c).arrAt_eq_of_covers 14 _ (by decide +kernel) fun t _ y => ?_
  obtain ⟨ht, hc, hlt, hge⟩ := idxA t
  obtain ⟨i7, i8, i9, i10, i11, i12, i13, i14, i15, i16, i17⟩ := idxB t
  have hr : ((View.whole main_v11_0).slice (win0_14.rect t)).emb y 0 = rw t (y 0) := Fin.ext (by blk_simp [i14, rw])
  have hj : ((View.whole main_v11_0).slice (win0_14.rect t)).emb y 1 = y 1 := Fin.ext (by blk_simp [i14])
  blk_simp [i14]
  rw [after0_14]
  frame_out
  pointwise [arr]
  rw [hr, hj]
  exact x1_blk' m c t y

/-- The normalised rows after the run. -/
theorem final16 (c : Dev nD) : (dats m 0 c).arrAt 16 cfg0.N = arr .bf16 (hr m c) := by
  refine (dats m 0 c).arrAt_eq_of_covers 16 _ (by decide +kernel) fun t _ y => ?_
  obtain ⟨ht, hc, hlt, hge⟩ := idxA t
  obtain ⟨i7, i8, i9, i10, i11, i12, i13, i14, i15, i16, i17⟩ := idxB t
  have hr' : ((View.whole main_v11_2).slice (win0_16.rect t)).emb y 0 = rw t (y 0) := Fin.ext (by blk_simp [i16, rw])
  have hj : ((View.whole main_v11_2).slice (win0_16.rect t)).emb y 1 = y 1 := Fin.ext (by blk_simp [i16])
  blk_simp [i16]
  rw [after0_16]
  frame_out
  pointwise [arr, k0_pay6]
  rw [hr', hj]
  exact h_blk m c t y

/-- The shared expert's rows after the run. -/
theorem final17 (c : Dev nD) : (dats m 0 c).arrAt 17 cfg0.N = arr .bf16 (sr m c) := by
  refine (dats m 0 c).arrAt_eq_of_covers 17 _ (by decide +kernel) fun t _ y => ?_
  obtain ⟨ht, hc, hlt, hge⟩ := idxA t
  obtain ⟨i7, i8, i9, i10, i11, i12, i13, i14, i15, i16, i17⟩ := idxB t
  have hr' : ((View.whole main_v11_3).slice (win0_17.rect t)).emb y 0 = rw t (y 0) := Fin.ext (by blk_simp [i17, rw])
  have hj : ((View.whole main_v11_3).slice (win0_17.rect t)).emb y 1 = y 1 := Fin.ext (by blk_simp [i17])
  blk_simp [i17]
  rw [after0_17]
  frame_out
  pointwise [arr, k0_pay2, k0_pay7]
  rw [hr', hj]
  simp only [sr, shared, col]
  show @Eq EReal _ _
  have hcol : ∀ (W : FVec Ideal S1024x256 .bf16) (W' : FVec Ideal S1024x256 .f32) (hW : ∀ k e, W (ix2 k e) = W' (ix2 k e)) (e : Fin 256),
      ∑ k : Fin 1024, (k0_pay5 (F := Ideal) (k0_pay11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
        (iblk m c 7 t) (View.ld (iblk m c 6 t) r0_6) (View.ld (iblk m c 6 t) r0_7) (ix2 (y 0) k)) * W (ix2 k e)
        = ∑ k : Fin 1024, hr m c (rw t (y 0)) k * W' (ix2 k e) := fun W W' hW e =>
    Finset.sum_congr rfl fun k _ => Ideal.mul_congr (h_blk m c t (ix2 (y 0) k)) (hW k e)
  have hg := hcol _ _ (read9 m c t)
  have hu := hcol _ _ (read10 m c t)
  refine Finset.sum_congr rfl fun e _ => ?_
  exact Ideal.mul_congr (Ideal.mul_congr (Ideal.mul_congr (hg e) (congrArg Ideal.logistic (hg e))) (hu e)) (read11 m c t e (y 1))

/-- The logits after the run, where the normalised rows and the router's weights are finite. -/
theorem final15 (c : Dev nD) (hh : ∀ r k, hr m c r k - hr m c r k = 0)
    (hw : ∀ k e, @HSub.hSub EReal EReal EReal _ (m ((c.tc : Thread nD τ).loc main_arg12) (ix2 k e)) (m ((c.tc : Thread nD τ).loc main_arg12) (ix2 k e)) = 0) :
    (dats m 0 c).arrAt 15 cfg0.N = arr .f32 (lr m c) := by
  refine (dats m 0 c).arrAt_eq_of_covers 15 _ (by decide +kernel) fun t _ y => ?_
  obtain ⟨ht, hc, hlt, hge⟩ := idxA t
  obtain ⟨i7, i8, i9, i10, i11, i12, i13, i14, i15, i16, i17⟩ := idxB t
  have hr' : ((View.whole main_v11_1).slice (win0_15.rect t)).emb y 0 = rw t (y 0) := Fin.ext (by blk_simp [i15, rw])
  have hj : ((View.whole main_v11_1).slice (win0_15.rect t)).emb y 1 = y 1 := Fin.ext (by blk_simp [i15])
  blk_simp [i15]
  rw [after0_15]
  frame_out
  pointwise [arr, k0_pay1, k0_pay8, k0_pay9, k0_pay10, k0_pay7]
  rw [hr', hj]
  simp only [lr, col]
  show @Eq EReal _ _
  have hb : ∀ k : Fin 1024, _ = hr m c (rw t (y 0)) k := fun k => h_blk m c t (ix2 (y 0) k)
  have e1 : ∀ (A B C D : EReal), A = D → B = 0 → C = 0 → A + (B + C) = D := by
    rintro A B C D rfl rfl rfl; rw [add_zero, add_zero]
  refine e1 _ _ _ _ (Finset.sum_congr rfl fun k _ => Ideal.mul_congr (hb k) (read12 m c t k (y 1)))
    (Finset.sum_eq_zero fun k _ => ?_) (Finset.sum_eq_zero fun k _ => ?_)
  · exact (Ideal.mul_congr rfl ((read13 m c t k (y 1)).trans (hw k (y 1)))).trans (mul_zero _)
  · refine (Ideal.mul_congr (?_ : _ = (0 : EReal)) rfl).trans (zero_mul _)
    exact (congrArg₂ (fun x y : EReal => x - y) (hb k) (hb k)).trans (hh _ k)

/-- The run of the kernel with its four results named. -/
theorem run (hh : ∀ (c : Dev nD) r k, hr m c r k - hr m c r k = 0)
    (hw : ∀ (c : Dev nD) k e, @HSub.hSub EReal EReal EReal _ (m ((c.tc : Thread nD τ).loc main_arg12) (ix2 k e)) (m ((c.tc : Thread nD τ).loc main_arg12) (ix2 k e)) = 0) :
    θ_run defs (onTc (τ := τ) (main (F := Ideal))) ⟨m, fun _ => 0, ρ⟩ fun r => ∀ c : Dev nD,
      r.2.mem ((c.tc : Thread nD τ).loc main_v11_0) = arr .f32 (xr m c)
      ∧ r.2.mem ((c.tc : Thread nD τ).loc main_v11_1) = arr .f32 (lr m c)
      ∧ r.2.mem ((c.tc : Thread nD τ).loc main_v11_2) = arr .bf16 (hr m c)
      ∧ r.2.mem ((c.tc : Thread nD τ).loc main_v11_3) = arr .bf16 (sr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ?_) (Value.run_blocks (F := Ideal) m ρ)
  obtain ⟨h1, h2, h3, h4, h5⟩ := h c
  exact ⟨h1.trans (final14 m c), h2.trans (final15 m c (hh c) (hw c)), h3.trans (final16 m c), h4.trans (final17 m c), h5⟩

end Cert.Kernel3Ideal.Proj
-- ==== Proof.OutprojClaim.lean ====
module

public import proofs.«01_k».proof.Defs
public import proofs.«01_k».proof.Proof.OutprojKer
public import proofs.«01_k».proof.Proof.OutprojRef
public import proofs.«01_k».proof.Proof.Gen.Pre_finite_arrays
public import Idealize.ShloMosaic.Lib.ReduceAll
public import Idealize.ShloMosaic.Lib.Claim

@[expose] public section

set_option maxRecDepth 100000

noncomputable section

/-! The claims about the output projection: what the precondition says of the arrays, that the normalised rows are then finite,
    the reference's run, and equal results. -/

namespace Cert.Outproj

open Idealize.ShloMosaic Idealize.SL.Sem Cert.Tokens

/-- A number that is neither infinity. -/
def IsR (x : EReal) : Prop := ∃ r : ℝ, x = r

theorem IsR.add {x y : EReal} : IsR x → IsR y → IsR (x + y) := by
  rintro ⟨a, rfl⟩ ⟨b, rfl⟩; exact ⟨a + b, (EReal.coe_add a b).symm⟩

theorem IsR.mul {x y : EReal} : IsR x → IsR y → IsR (x * y) := by
  rintro ⟨a, rfl⟩ ⟨b, rfl⟩; exact ⟨a * b, (EReal.coe_mul a b).symm⟩

theorem IsR.sum {n : ℕ} {f : Fin n → EReal} (h : ∀ i, IsR (f i)) : IsR (∑ i, f i) := by
  choose g hg using h
  exact ⟨∑ i, g i, by rw [Finset.sum_congr rfl fun i _ => hg i]; exact (map_sum (⟨⟨Real.toEReal, EReal.coe_zero⟩, EReal.coe_add⟩ : ℝ →+ EReal) g _).symm⟩

theorem IsR.sub_self {x : EReal} : IsR x → x - x = 0 := by
  rintro ⟨a, rfl⟩; rw [← EReal.coe_sub, _root_.sub_self, EReal.coe_zero]

/-- The absolute value below infinity leaves a number. -/
theorem IsR.of_abs_lt {x : EReal} (h : max x (-x) < ⊤) : IsR x := by
  induction x with
  | bot => simp at h
  | coe r => exact ⟨r, rfl⟩
  | top => simp at h

theorem ofBits_1024 : Ideal.ofBits .f32 0x44800000#32 = ((1024 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- The norm's row of finite rows is finite. -/
theorem IsR.hid {x g sc sh : Fin 1024 → EReal} (hx : ∀ k, IsR (x k)) (hg : ∀ k, IsR (g k)) (hc : ∀ k, IsR (sc k))
    (hs : ∀ k, IsR (sh k)) (k : Fin 1024) : IsR (hid x g sc sh k) := by
  have hr : IsR (Ideal.rsqrt (Ideal.div (∑ l, x l * x l) (Ideal.ofBits .f32 0x44800000#32) + Ideal.ofBits .f32 0x358637BD#32)) := by
    choose y hy using hx
    obtain ⟨e, he, hee⟩ := ofBits_eps
    have hsum : ∑ l, x l * x l = ((∑ l, y l * y l : ℝ) : EReal) := by
      rw [Finset.sum_congr rfl fun l _ => show x l * x l = ((y l * y l : ℝ) : EReal) by rw [hy l, EReal.coe_mul]]
      exact (map_sum (⟨⟨Real.toEReal, EReal.coe_zero⟩, EReal.coe_add⟩ : ℝ →+ EReal) (fun l => y l * y l) _).symm
    have hpos : 0 < (∑ l, y l * y l) * (1 / 1024) + e := by
      have : 0 ≤ ∑ l, y l * y l := Finset.sum_nonneg fun l _ => mul_self_nonneg _
      positivity
    rw [hsum, ofBits_1024, Ideal.div_coe (by norm_num), hee, ← EReal.coe_mul, ← EReal.coe_add, Ideal.rsqrt_coe,
      if_neg (not_lt.2 hpos.le), if_neg hpos.ne']
    exact ⟨_, rfl⟩
  exact (((hx k).mul hr |>.mul (hg k)).mul (IsR.add ⟨1, rfl⟩ (hc k))).add (hs k)

/-- `jnp.all(jnp.abs(x) < jnp.inf)`, as printed, says every element is finite. -/
theorem all_finite {s : Shape} (x : FVec Ideal s .f32) {axes : List (Fin s.rank)} (hb : Cert.Pre_finite_arrays.S_.BroadcastsInDim s (![] : Fin 0 → Fin s.rank))
    (hr : s.ReducesTo axes Cert.Pre_finite_arrays.S_) (h0 : 0 < Cert.Pre_finite_arrays.S_.numel) (j : Cert.Pre_finite_arrays.S_.Idx)
    (h : Host.reduce IntOp.andi (cmpf .olt (Host.absf x) (broadcastInDim s ![] hb (constant (F := Ideal) Cert.Pre_finite_arrays.S_ .f32 0x7F800000#32)))
      (constantI Cert.Pre_finite_arrays.S_ 1 1#1) hr h0 j = 1#1) (i : s.Idx) : IsR (x i) := by
  have h1 := Host.reduce_andi_all _ _ _ _ j h i
  have htop : Ideal.ofBits .f32 0x7F800000#32 = ⊤ := by simp [Ideal.ofBits, Ideal.ieee]
  refine IsR.of_abs_lt ?_
  have h2 : Ideal.cmp .olt (max (x i) (-(x i))) (Ideal.ofBits .f32 0x7F800000#32) = 1#1 := h1
  rw [htop] at h2
  by_contra hn
  simp [Ideal.cmp, hn] at h2

theorem and1 {a b : BitVec 1} (h : IntOp.andi a b = 1#1) : a = 1#1 ∧ b = 1#1 := by
  revert a b; decide

open Cert.Pre_finite_arrays in
/-- What the precondition says, array by array. -/
theorem finite_of (x0 : FVec Ideal S32x256x1024 .f32) (x1 : FVec Ideal S4x2048x1024 .f32) (x2 x3 x4 x5 : FVec Ideal S8192x512 .f32)
    (x6 : FVec Ideal S8x6x1024 .f32) (x7 : FVec Ideal S1024 .f32) (x8 : FVec Ideal S1024x1024 .f32) (x9 x10 : FVec Ideal S1024x256 .f32)
    (x11 : FVec Ideal S256x1024 .f32) (x12 : FVec Ideal S1024x256 .f32)
    (h : Cert.Pre_finite_arrays.fn (F := Ideal) x0 x1 x2 x3 x4 x5 x6 x7 x8 x9 x10 x11 x12 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i))
      ∧ (∀ i, IsR (x6 i)) ∧ (∀ i, IsR (x7 i)) ∧ (∀ i, IsR (x8 i)) ∧ (∀ i, IsR (x12 i)) := by
  have h := congrFun h (fun i => i.elim0)
  simp only [fn, fn_part1, fn_part2] at h
  obtain ⟨h, h12⟩ := and1 h
  obtain ⟨h, h8⟩ := and1 h
  obtain ⟨h, h7⟩ := and1 h
  obtain ⟨h, h6⟩ := and1 h
  obtain ⟨h, h5⟩ := and1 h
  obtain ⟨h, h4⟩ := and1 h
  obtain ⟨h, h3⟩ := and1 h
  obtain ⟨h, h2⟩ := and1 h
  obtain ⟨h0, h1⟩ := and1 h
  exact ⟨all_finite _ _ _ _ _ h0, all_finite _ _ _ _ _ h1, all_finite _ _ _ _ _ h2, all_finite _ _ _ _ _ h3, all_finite _ _ _ _ _ h4,
    all_finite _ _ _ _ _ h5, all_finite _ _ _ _ _ h6, all_finite _ _ _ _ _ h7, all_finite _ _ _ _ _ h8, all_finite _ _ _ _ _ h12⟩

theorem IsR.dite {p : Prop} [Decidable p] {f : p → EReal} {g : ¬ p → EReal} (hf : ∀ h, IsR (f h)) (hg : ∀ h, IsR (g h)) :
    IsR (if h : p then f h else g h) := by
  split <;> simp_all

/-- The normalised rows of finite arrays are finite. -/
theorem hr_finite (m : (ℓ : Loc Cert.Kernel3Ideal.nD Cert.Kernel3Ideal.τ Cert.Kernel3Ideal.sig) → Buf (Elt Ideal) ℓ) (c : Dev Cert.Kernel3Ideal.nD)
    (hp : Cert.Pre_Kernel3Ideal_finite_arrays (hPre_finite_arrays := Cert.Pre_finite_arrays.Gen.facts) m) (r : Fin 16384) (k : Fin 1024) :
    IsR (Cert.Kernel3Ideal.Proj.hr m c r k) := by
  obtain ⟨f0, f1, f2, f3, f4, f5, f6, f7, f8, f12⟩ := finite_of _ _ _ _ _ _ _ _ _ _ _ _ _ (hp c)
  refine IsR.hid (fun k => ?_) (fun k => f7 _) (fun k => f6 _) (fun k => f6 _) k
  refine IsR.add (IsR.dite (fun _ => f0 _) fun _ => f1 _) (IsR.mul (f6 _) (IsR.sum fun l => IsR.mul ?_ (f8 _)))
  exact IsR.dite (fun _ => IsR.dite (fun _ => f2 _) fun _ => f3 _) fun _ => IsR.dite (fun _ => f4 _) fun _ => f5 _

theorem frame : Cert.quiescent_Reference3Ideal (hReference3Ideal := Cert.Reference3Ideal.Gen.facts) := fun m g _ =>
  (θ_run _ _ _).mono (fun r h => ⟨fun c => (h c).2.2.2.2, sem_eq_zero_of_no_sems (by decide) r.2⟩)
    (Cert.Reference3Ideal.Proj.run m g)

theorem frame_pre : Cert.quiescent_Reference3Ideal_pre_finite_arrays (hReference3Ideal := Cert.Reference3Ideal.Gen.facts)
    (hPre_finite_arrays := Cert.Pre_finite_arrays.Gen.facts) := fun m g _ =>
  (θ_run _ _ _).mono (fun r h => ⟨fun c => (h c).2.2.2.2, sem_eq_zero_of_no_sems (by decide) r.2⟩)
    (Cert.Reference3Ideal.Proj.run m g)

theorem value : Cert.algebraic_Kernel3Ideal_Reference3Ideal_pre_finite_arrays (hKernel3Ideal := Cert.Kernel3Ideal.Gen.facts)
    (hReference3Ideal := Cert.Reference3Ideal.Gen.facts) (hPre_finite_arrays := Cert.Pre_finite_arrays.Gen.facts) := by
  intro m g m' g' hp hagree
  have hh : ∀ (c : Dev Cert.Kernel3Ideal.nD) r k, Cert.Kernel3Ideal.Proj.hr m c r k - Cert.Kernel3Ideal.Proj.hr m c r k = 0 :=
    fun c r k => (hr_finite m c hp r k).sub_self
  refine ⟨fun c => arr .f32 (Cert.Kernel3Ideal.Proj.xr m c), fun c => arr .f32 (Cert.Kernel3Ideal.Proj.lr m c),
    fun c => arr .bf16 (Cert.Kernel3Ideal.Proj.hr m c), fun c => arr .bf16 (Cert.Kernel3Ideal.Proj.sr m c),
    Cert.Kernel3Ideal.Proj.run m g hh fun c k e => (finite_of _ _ _ _ _ _ _ _ _ _ _ _ _ (hp c)).2.2.2.2.2.2.2.2.2 _ |>.sub_self, ?_⟩
  refine (θ_run _ _ _).mono (fun r h c => ?_) (Cert.Reference3Ideal.Proj.run m' g')
  obtain ⟨a0, a1, a2, a3, a4, a5, a6, a7, a8, a9, a10, a11, a12⟩ := hagree c
  have ex : Cert.Reference3Ideal.Proj.xr m' c = Cert.Kernel3Ideal.Proj.xr m c := by
    simp only [Cert.Reference3Ideal.Proj.xr, Cert.Kernel3Ideal.Proj.xr]
    rw [a0, a1, a2, a3, a4, a5, a6, a8]
  have eh : Cert.Reference3Ideal.Proj.hr m' c = Cert.Kernel3Ideal.Proj.hr m c := by
    show hrow _ _ (Cert.Reference3Ideal.Proj.xr m' c) = hrow _ _ (Cert.Kernel3Ideal.Proj.xr m c)
    rw [ex, a6, a7]
  have el : Cert.Reference3Ideal.Proj.lr m' c = Cert.Kernel3Ideal.Proj.lr m c := by
    show col _ (Cert.Reference3Ideal.Proj.hr m' c) = col _ (Cert.Kernel3Ideal.Proj.hr m c)
    rw [eh, a12]
  have es : Cert.Reference3Ideal.Proj.sr m' c = Cert.Kernel3Ideal.Proj.sr m c := by
    show shared _ _ _ (Cert.Reference3Ideal.Proj.hr m' c) = shared _ _ _ (Cert.Kernel3Ideal.Proj.hr m c)
    rw [eh, a9, a10, a11]
  obtain ⟨h1, h2, h3, h4, h5⟩ := h c
  exact ⟨h1.trans (congrArg (arr .f32) ex), h2.trans (congrArg (arr .f32) el), h3.trans (congrArg (arr .bf16) eh),
    h4.trans (congrArg (arr .bf16) es), h5⟩

end Cert.Outproj
-- ==== Proof.ExpertKit.lean ====
/- What the expert product's certificate stands on: the host lines around the call, the contents of the prefetched
   tables when the call starts, the blocks of the windows at those tables, and the staging and scratch buffers. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.FrameSuffix
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Expert

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1, hostOps1_1].map StableHlo.seq)) :=
  Pipeline.hmainP_around pcfgs 0 defs₀ 𝒱₀ m main [hostOps0, hostOps0_1] [hostOps1, hostOps1_1] (by simp only [List.Forall]; exact ⟨hostOps0_sub, hostOps0_1_sub⟩)
    (by simp only [List.Forall]; exact ⟨hostOps0_fresh, hostOps0_1_fresh⟩) main_chain

/-- The lines after the region touch the pipeline's arrays and the bypassing buffers only: each operation's buffers
    are unscoped TensorCore references, none of them a prefetched table (`Pipeline.sub_tailRefs`). -/
theorem sfx_sub : ∀ ops ∈ ([hostOps1, hostOps1_1] : List (List (HloOp τ sig (Elt F)))), ∀ op ∈ ops,
    op.bufs ⊆ Pipeline.tailRefs sig pre0 spec0 := by
  intro ops hops op hop
  simp only [List.mem_cons, List.mem_nil_iff, or_false] at hops
  rcases hops with rfl | rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And write no array of the pipeline (each writes only its own result buffer, which is no array). -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S461 .i32 := Memref.whole main_arg1
abbrev htbM0_0 : tbM0_0.IsWhole := Memref.isWhole_whole _
abbrev tbM0_1 : Memref sig .tc .smem S461 .i32 := Memref.whole main_arg2
abbrev htbM0_1 : tbM0_1.IsWhole := Memref.isWhole_whole _
abbrev tbM0_2 : Memref sig .tc .smem S1 .i32 := Memref.whole main_arg3
abbrev htbM0_2 : tbM0_2.IsWhole := Memref.isWhole_whole _
abbrev tbM0_3 : Memref sig .tc .smem S461 .i32 := Memref.whole main_v10
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin pre0.K)) = (Finset.univ : Finset (Fin 4)) from rfl]
  exact bigSep_univ_eq_bigSepL [(0 : Fin 4), (1 : Fin 4), (2 : Fin 4), (3 : Fin 4)] (by decide) (by decide) _

/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1, hostOps1_1] c main_arg1 = m ((c : Thread nD τ).loc main_arg1) := by
  unfold Pipeline.afterTail
  rw [StableHlo.after_of_forall_not_mem (b := Proc.devRef .tc main_arg1) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1, hostOps1_1] c main_arg2 = m ((c : Thread nD τ).loc main_arg2) := by
  unfold Pipeline.afterTail
  rw [StableHlo.after_of_forall_not_mem (b := Proc.devRef .tc main_arg2) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1, hostOps1_1] c main_arg3 = m ((c : Thread nD τ).loc main_arg3) := by
  unfold Pipeline.afterTail
  rw [StableHlo.after_of_forall_not_mem (b := Proc.devRef .tc main_arg3) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel4Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      ((h c).1 1).trans (((dats 0 c).arrAt_in 1 rfl _).trans ((hA c 1).trans (V_main_arg4 m c))),
      ((h c).1 2).trans (((dats 0 c).arrAt_in 2 rfl _).trans ((hA c 2).trans (V_main_arg5 m c))),
      ((h c).1 3).trans (((dats 0 c).arrAt_in 3 rfl _).trans ((hA c 3).trans (V_main_arg6 m c)))⟩) h

/-! ## The kernel body on any staging memrefs: a subtype the run finds -/

/-- One staging buffer of output window 4, through which its contents are stated (`View.read_writes_of_cover`: the
    choice does not matter). -/
abbrev VO0_4 : View sig .tc .vmem S640x1024 .bf16 := (Memref.whole cc0_stg4_0 : Memref sig .tc .vmem S640x1024 .bf16).view
/-- Each window's current staging memref at point `t`, spelled as the pipeline passes it (`bodyAt0`), and its wholeness. -/
abbrev ms0_0 (hO : Ok m) (t : Fin (cfgM m hO).N) : Memref sig .tc .vmem S640x512 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S640x1024 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S1024x256 .bf16 := Memref.whole cc0_scratch0
abbrev scM0_1 : Memref sig .tc .vmem S1024x256 .bf16 := Memref.whole cc0_scratch1
abbrev scM0_2 : Memref sig .tc .vmem S256x1024 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Expert

end
-- ==== Proof.ExpertRun.lean ====
/- One run of the kernel's body: at a point of a used block the output is the expert's product, the weights copied to
   scratch first where the block's expert is a new one; at any other point nothing changes. -/
module

public import proofs.«01_k».proof.Proof.ExpertKit

@[expose] public section

set_option maxRecDepth 16384

noncomputable section

namespace Cert.Expert

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A word of a table of 461 words. -/
abbrev wordAt (x : S461.Idx → BitVec 32) (off : Fin 1 → ℕ) (inb : ∀ a, off a + S1.size a ≤ S461.size a) : BitVec 32 :=
  x ((Rect.unit (s := S461) off S1.size inb).emb (Shape.Idx.first (Nat.lt_of_lt_of_eq Nat.one_pos numel1_S1.symm)))

/-- How many blocks are used: the one word of the third table. -/
abbrev usedWord (x : S1.Idx → BitVec 32) : BitVec 32 :=
  x ((Rect.unit (s := S1) ![0] S1.size inb_S1_S1_0).emb (Shape.Idx.first (Nat.lt_of_lt_of_eq Nat.one_pos numel1_S1.symm)))

/-- The block of point `i` is used. -/
abbrev Used (i : grid0.Coords) (x : S1.Idx → BitVec 32) : Prop := k0_cond1 i (usedWord x) = 1#1

/-- The block of point `i` is the first, or its expert is not the block before's. -/
abbrev Fresh (i : grid0.Coords) (x : S461.Idx → BitVec 32) : Prop :=
  Scalar.cmpi .ne (Scalar.extui (Scalar.ori (Scalar.cmpi .eq (BitVec.ofNat 32 (i 0).val) 0#32)
    (Scalar.cmpi .ne (wordAt x (k0_off2 i) (k0_off2_inb i)) (wordAt x (k0_off3 i) (k0_off3_inb i))))) 0#32 = 1#1

/-- The first half of a weight's rows, -/
abbrev loHalf (w : Vec F S1024x256 .bf16) : Vec F S512x256 .bf16 := fun x =>
  w ((Rect.unit (s := S1024x256) ![0, 0] S512x256.size inb_S1024x256_S512x256_0_0).emb x)
/-- and the second. -/
abbrev hiHalf (w : Vec F S1024x256 .bf16) : Vec F S512x256 .bf16 := fun x =>
  w ((Rect.unit (s := S1024x256) ![512, 0] S512x256.size inb_S1024x256_S512x256_512_0).emb x)

/-- What a used block's output is, from its count of held rows, its rows and the expert's three weights. -/
def outOf (n : BitVec 32) (x : Vec F S640x512 .i32) (g u : Vec F S1024x256 .bf16) (d : Vec F S256x1024 .bf16) : Vec F S640x1024 .bf16 :=
  k0_pay1 (k0_pay5 n x (loHalf g) (hiHalf g) (loHalf u) (hiHalf u)) d

set_option maxHeartbeats 1000000 in
/-- The body's run. -/
theorem run (c : Dev nD) (i : grid0.Coords) (arg5 : Memref sig .tc .vmem S640x512 .i32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S640x1024 .bf16) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S256x1024 .bf16) (harg12 : arg12.IsWhole)
    (x0 : Vec F S640x512 .i32) (x1 : Vec F S1x1024x256 .f32) (x2 : Vec F S1x1024x256 .f32) (x3 : Vec F S1x256x1024 .f32)
    (o : Vec F S640x1024 .bf16) (s0 s1 : Vec F S1024x256 .bf16) (s2 : Vec F S256x1024 .bf16)
    (g u : Vec F S1024x256 .bf16) (d : Vec F S256x1024 .bf16)
    (xt0 : TbBuf0 (F := F) c tbM0_0) (xt1 : TbBuf0 (F := F) c tbM0_1) (xt2 : TbBuf0 (F := F) c tbM0_2) (xt3 : TbBuf0 (F := F) c tbM0_3)
    (hg : Used i xt2 → (if Fresh i xt0 then k0_pay2 x1 else s0) = g)
    (hu : Used i xt2 → (if Fresh i xt0 then k0_pay3 x2 else s1) = u)
    (hd : Used i xt2 → (if Fresh i xt0 then k0_pay4 x3 else s2) = d)
    (E : Set ℕ) (K : PUnit → sProp 𝕄) :
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare o ∗ owns (c : Thread nD τ) arg10 fullShare s0 ∗ owns (c : Thread nD τ) arg11 fullShare s1 ∗ owns (c : Thread nD τ) arg12 fullShare s2 ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (if Used i xt2 then outOf (wordAt xt1 (k0_off4 i) (k0_off4_inb i)) x0 g u d else o)
                ∗ owns (c : Thread nD τ) arg10 fullShare (if Used i xt2 then g else s0) ∗ owns (c : Thread nD τ) arg11 fullShare (if Used i xt2 then u else s1)
                ∗ owns (c : Thread nD τ) arg12 fullShare (if Used i xt2 then d else s2) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__expert_kernel i tbM0_0 htbM0_0 tbM0_1 htbM0_1 tbM0_2 htbM0_2 tbM0_3 htbM0_3 arg5 harg5 arg6 harg6 arg7 harg7 arg8 harg8 arg9 harg9 arg10 harg10 arg11 harg11 arg12 harg12) K := by
  simp only [cc0__expert_kernel_eq_skeleton]; unfold cc0__expert_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, ⟨%fs2, %hs2, HS2⟩, HT0, HT1, HT2, HT3, Hk⟩
  obtain rfl := harg5.eq_unread hf0; obtain rfl := harg6.eq_unread hf1; obtain rfl := harg7.eq_unread hf2; obtain rfl := harg8.eq_unread hf3
  sl_exec
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr
    swap; · iexact H4
    ipureintro
    by_cases h : Used i xt2
    · have hU : k0_cond1 i (run.sl.r (F := F) c xt2) = 1#1 := h
      rw [if_pos h, dif_pos hU, View.read_writes_full]
      rw [← hg h, ← hu h, ← hd h]
      by_cases hc : Fresh i xt0
      · have hF : run.sl.v14 (F := F) c i xt0 = 1#1 := hc
        have e3 : View.readAt (Elt F) arg12.view (Rect.unit ![0, 0] ![256, 1024] inb_S256x1024_S256x1024_0_0).toLoadRect
            (if hc : run.sl.v14 (F := F) c i xt0 = 1#1 then arg12.view.writes (Elt F) fs2 [⟨Rect.unit ![0, 0] S256x1024.size inb_S256x1024_S256x1024_0_0, k0_pay4 (View.readAt (Elt F) arg8.view (Rect.unit ![0, 0, 0] S1x256x1024.size inb_S1x256x1024_S1x256x1024_0_0_0).toLoadRect (harg8.unread x3))⟩] else fs2) = k0_pay4 x3 := by
          rw [dif_pos hF, View.readAt_full, View.read_writes_full, View.readAt_full, harg8.read_unread]
        have w0 : View.read (Elt F) arg10.view (if hc : run.sl.v14 (F := F) c i xt0 = 1#1 then arg10.view.writes (Elt F) fs0 [⟨Rect.unit ![0, 0] S1024x256.size inb_S1024x256_S1024x256_0_0, k0_pay2 (View.readAt (Elt F) arg6.view (Rect.unit ![0, 0, 0] S1x1024x256.size inb_S1x1024x256_S1x1024x256_0_0_0).toLoadRect (harg6.unread x1))⟩] else fs0) = k0_pay2 x1 := by
          rw [dif_pos hF, View.read_writes_full, View.readAt_full, harg6.read_unread]
        have w1 : View.read (Elt F) arg11.view (if hc : run.sl.v14 (F := F) c i xt0 = 1#1 then arg11.view.writes (Elt F) fs1 [⟨Rect.unit ![0, 0] S1024x256.size inb_S1024x256_S1024x256_0_0, k0_pay3 (View.readAt (Elt F) arg7.view (Rect.unit ![0, 0, 0] S1x1024x256.size inb_S1x1024x256_S1x1024x256_0_0_0).toLoadRect (harg7.unread x2))⟩] else fs1) = k0_pay3 x2 := by
          rw [dif_pos hF, View.read_writes_full, View.readAt_full, harg7.read_unread]
        rw [if_pos hc, if_pos hc, if_pos hc]
        refine congr (congrArg k0_pay1 ?_) e3
        refine congr (congr (congr (congr (congr (congrArg k0_pay5 rfl) ?_) ?_) ?_) ?_) ?_
        · exact (View.readAt_full _ _ _).trans (harg5.read_unread _)
        · exact funext fun x => congrFun w0 _
        · exact funext fun x => congrFun w0 _
        · exact funext fun x => congrFun w1 _
        · exact funext fun x => congrFun w1 _
      · have hF : ¬ run.sl.v14 (F := F) c i xt0 = 1#1 := hc
        have e3 : View.readAt (Elt F) arg12.view (Rect.unit ![0, 0] ![256, 1024] inb_S256x1024_S256x1024_0_0).toLoadRect
            (if hc : run.sl.v14 (F := F) c i xt0 = 1#1 then arg12.view.writes (Elt F) fs2 [⟨Rect.unit ![0, 0] S256x1024.size inb_S256x1024_S256x1024_0_0, k0_pay4 (View.readAt (Elt F) arg8.view (Rect.unit ![0, 0, 0] S1x256x1024.size inb_S1x256x1024_S1x256x1024_0_0_0).toLoadRect (harg8.unread x3))⟩] else fs2) = s2 := by
          rw [dif_neg hF, View.readAt_full]; exact hs2
        have w0 : View.read (Elt F) arg10.view (if hc : run.sl.v14 (F := F) c i xt0 = 1#1 then arg10.view.writes (Elt F) fs0 [⟨Rect.unit ![0, 0] S1024x256.size inb_S1024x256_S1024x256_0_0, k0_pay2 (View.readAt (Elt F) arg6.view (Rect.unit ![0, 0, 0] S1x1024x256.size inb_S1x1024x256_S1x1024x256_0_0_0).toLoadRect (harg6.unread x1))⟩] else fs0) = s0 := by
          rw [dif_neg hF]; exact hs0
        have w1 : View.read (Elt F) arg11.view (if hc : run.sl.v14 (F := F) c i xt0 = 1#1 then arg11.view.writes (Elt F) fs1 [⟨Rect.unit ![0, 0] S1024x256.size inb_S1024x256_S1024x256_0_0, k0_pay3 (View.readAt (Elt F) arg7.view (Rect.unit ![0, 0, 0] S1x1024x256.size inb_S1x1024x256_S1x1024x256_0_0_0).toLoadRect (harg7.unread x2))⟩] else fs1) = s1 := by
          rw [dif_neg hF]; exact hs1
        rw [if_neg hc, if_neg hc, if_neg hc]
        refine congr (congrArg k0_pay1 ?_) e3
        refine congr (congr (congr (congr (congr (congrArg k0_pay5 rfl) ?_) ?_) ?_) ?_) ?_
        · exact (View.readAt_full _ _ _).trans (harg5.read_unread _)
        · exact funext fun x => congrFun w0 _
        · exact funext fun x => congrFun w0 _
        · exact funext fun x => congrFun w1 _
        · exact funext fun x => congrFun w1 _
    · have hU : ¬ k0_cond1 i (run.sl.r (F := F) c xt2) = 1#1 := h
      rw [if_neg h, dif_neg hU]; exact hf4
  isplitl [HS0]
  · iexists _; isplitr
    swap; · iexact HS0
    ipureintro
    by_cases h : Used i xt2
    · have hU : k0_cond1 i (run.sl.r (F := F) c xt2) = 1#1 := h
      rw [if_pos h, dif_pos hU, ← hg h]
      by_cases hc : Fresh i xt0
      · have hF : run.sl.v14 (F := F) c i xt0 = 1#1 := hc
        rw [if_pos hc, dif_pos hF, View.read_writes_full, View.readAt_full, harg6.read_unread]
      · have hF : ¬ run.sl.v14 (F := F) c i xt0 = 1#1 := hc
        rw [if_neg hc, dif_neg hF]; exact hs0
    · have hU : ¬ k0_cond1 i (run.sl.r (F := F) c xt2) = 1#1 := h
      rw [if_neg h, dif_neg hU]; exact hs0
  isplitl [HS1]
  · iexists _; isplitr
    swap; · iexact HS1
    ipureintro
    by_cases h : Used i xt2
    · have hU : k0_cond1 i (run.sl.r (F := F) c xt2) = 1#1 := h
      rw [if_pos h, dif_pos hU, ← hu h]
      by_cases hc : Fresh i xt0
      · have hF : run.sl.v14 (F := F) c i xt0 = 1#1 := hc
        rw [if_pos hc, dif_pos hF, View.read_writes_full, View.readAt_full, harg7.read_unread]
      · have hF : ¬ run.sl.v14 (F := F) c i xt0 = 1#1 := hc
        rw [if_neg hc, dif_neg hF]; exact hs1
    · have hU : ¬ k0_cond1 i (run.sl.r (F := F) c xt2) = 1#1 := h
      rw [if_neg h, dif_neg hU]; exact hs1
  isplitl [HS2]
  · iexists _; isplitr
    swap; · iexact HS2
    ipureintro
    by_cases h : Used i xt2
    · have hU : k0_cond1 i (run.sl.r (F := F) c xt2) = 1#1 := h
      rw [if_pos h, dif_pos hU, ← hd h]
      by_cases hc : Fresh i xt0
      · have hF : run.sl.v14 (F := F) c i xt0 = 1#1 := hc
        rw [if_pos hc, dif_pos hF, View.read_writes_full, View.readAt_full, harg8.read_unread]
      · have hF : ¬ run.sl.v14 (F := F) c i xt0 = 1#1 := hc
        rw [if_neg hc, dif_neg hF]; exact hs2
    · have hU : ¬ k0_cond1 i (run.sl.r (F := F) c xt2) = 1#1 := h
      rw [if_neg h, dif_neg hU]; exact hs2
  isplitl [HT0]; · iexact HT0
  isplitl [HT1]; · iexact HT1
  isplitl [HT2]; · iexact HT2
  iexact HT3

end Cert.Expert

end
-- ==== Proof.ExpertWords.lean ====
/- The words the expert kernel reads off its tables, as natural numbers: which points are used, which copy the
   weights, and which blocks the windows name. -/
module

public import proofs.«01_k».proof.Proof.ExpertRun

@[expose] public section

set_option maxRecDepth 16384

noncomputable section

namespace Cert.Expert

open Cert.Kernel4Ideal Cert.Kernel4Ideal.Gen
open Idealize.ShloMosaic Idealize.ShloMosaic.TcCoe Idealize.ShloMosaic.Tactic

theorem coord0 (t : Fin grid0.N) : (grid0.coords t 0).val = t.val := by
  rw [Pipeline.Grid.coords_val t 0 (S := 1) (B := 461) (by decide) rfl, Nat.div_one, Nat.mod_eq_of_lt]
  exact Nat.lt_of_lt_of_eq t.isLt (by decide)

theorem lt_461 (t : Fin grid0.N) : t.val < 461 := Nat.lt_of_lt_of_eq t.isLt (by decide)

theorem toInt_small {n : ℕ} (h : n < 461) : (BitVec.ofNat 32 n).toInt = (n : ℤ) :=
  WordCmp.toInt_ofNat_of_lt (Nat.lt_trans h (by decide))

theorem toNat_small {n : ℕ} (h : n < 461) : (BitVec.ofNat 32 n).toNat = n :=
  WordCmp.toNat_ofNat_of_lt (Nat.lt_trans h (by decide))

theorem toInt_pos {w : BitVec 32} (h : 1 ≤ w.toInt) : w.toInt = (w.toNat : ℤ) := by
  rw [BitVec.toInt_eq_toNat_cond] at h ⊢
  have := w.isLt
  split at h <;> split <;> omega

theorem used_iff {x : S1.Idx → BitVec 32} (hx : 1 ≤ (usedWord x).toInt) (t : Fin grid0.N) :
    Used (grid0.coords t) x ↔ t.val < (usedWord x).toNat := by
  have key : ∀ b : BitVec 1, Scalar.cmpi .ne (Scalar.extui b) 0#32 = 1#1 ↔ b = 1#1 := by decide
  unfold Used k0_cond1
  refine (key _).trans ?_
  rw [coord0]
  show IntOp.cmpi .slt _ _ = 1#1 ↔ _
  rw [WordCmp.cmpi_slt_eq, WordCmp.ofBool_decide_eq_one_iff, toInt_small (lt_461 t), toInt_pos hx]
  omega

theorem fresh_iff {x : S461.Idx → BitVec 32} (i : grid0.Coords) (h0 : (i 0).val < 461) :
    Fresh i x ↔ (i 0).val = 0 ∨ wordAt x (k0_off2 i) (k0_off2_inb i) ≠ wordAt x (k0_off3 i) (k0_off3_inb i) := by
  have key : ∀ b d : BitVec 1, Scalar.cmpi .ne (Scalar.extui (Scalar.ori b d)) 0#32 = 1#1 ↔ b = 1#1 ∨ d = 1#1 := by decide
  unfold Fresh
  refine (key _ _).trans (or_congr ?_ ?_)
  · show IntOp.cmpi .eq _ _ = 1#1 ↔ _
    rw [WordCmp.cmpi_eq_eq_toNat, WordCmp.ofBool_decide_eq_one_iff, toNat_small h0]
    exact Iff.rfl
  · show IntOp.cmpi .ne _ _ = 1#1 ↔ _
    rw [WordCmp.cmpi_ne_eq, WordCmp.ofBool_decide_eq_one_iff]

theorem off2_eq (t : Fin grid0.N) : k0_off2 (grid0.coords t) = ![t.val] := by
  unfold k0_off2
  rw [coord0]
  show ![(BitVec.ofNat 32 t.val).toNat] = _
  rw [toNat_small (lt_461 t)]

theorem off1_eq (t : Fin grid0.N) : k0_off1 (grid0.coords t) = ![t.val] := by
  unfold k0_off1
  rw [coord0]
  show ![(BitVec.ofNat 32 t.val).toNat] = _
  rw [toNat_small (lt_461 t)]

theorem off4_eq (t : Fin grid0.N) : k0_off4 (grid0.coords t) = ![t.val] := by
  unfold k0_off4
  rw [coord0]
  show ![(BitVec.ofNat 32 t.val).toNat] = _
  rw [toNat_small (lt_461 t)]

theorem off3_eq (t : Fin grid0.N) (h : t.val ≠ 0) : k0_off3 (grid0.coords t) = ![t.val - 1] := by
  have ht := lt_461 t
  unfold k0_off3
  rw [coord0]
  show ![(IntOp.maxsi (BitVec.ofNat 32 t.val - 1#32) 0#32).toNat] = _
  have e : BitVec.ofNat 32 t.val - 1#32 = BitVec.ofNat 32 (t.val - 1) := by
    apply BitVec.eq_of_toNat_eq
    rw [BitVec.toNat_sub, toNat_small ht, toNat_small (n := t.val - 1) (by omega)]
    show (4294967295 + t.val) % 4294967296 = _
    omega
  rw [e]
  have e2 : IntOp.maxsi (BitVec.ofNat 32 (t.val - 1)) 0#32 = BitVec.ofNat 32 (t.val - 1) := by
    unfold IntOp.maxsi
    split
    · rfl
    · next hs =>
      rw [BitVec.slt_iff_toInt_lt, toInt_small (n := t.val - 1) (by omega)] at hs
      apply BitVec.eq_of_toInt_eq
      rw [toInt_small (n := t.val - 1) (by omega)]
      change ¬ (0 : ℤ) < _ at hs
      show (0 : ℤ) = _
      omega
  rw [e2, toNat_small (by omega)]

theorem wordAt_congr (x : S461.Idx → BitVec 32) {o o' : Fin 1 → ℕ} (h : o = o') (hi hi') : wordAt x o hi = wordAt x o' hi' := by
  subst h; rfl

theorem min_word {w : BitVec 32} (hw : 1 ≤ w.toInt) {n : ℕ} (h : n < 461) :
    (Scalar.minsi (BitVec.ofNat 32 n) (Scalar.subi w 1#32)).toNat = min n (w.toNat - 1) := by
  have hp := toInt_pos hw
  have hlt := w.isLt
  have hge : (w - 1#32).toNat = w.toNat - 1 := by
    rw [BitVec.toNat_sub]
    show (2 ^ 32 - 1 + w.toNat) % 2 ^ 32 = _
    omega
  have hm : 2 * w.toNat < 2 ^ 32 := by
    rw [BitVec.toInt_eq_toNat_cond] at hp
    by_contra hc
    rw [if_neg hc] at hp
    omega
  have hi : (w - 1#32).toInt = ((w.toNat - 1 : ℕ) : ℤ) := by
    rw [WordCmp.toInt_eq_toNat_of_lt_half (by rw [hge]; show _ < 2147483648; omega), hge]
  show (IntOp.minsi (BitVec.ofNat 32 n) (w - 1#32)).toNat = _
  unfold IntOp.minsi
  split
  · next hs =>
    rw [BitVec.slt_iff_toInt_lt, toInt_small h, hi] at hs
    rw [toNat_small h]; omega
  · next hs =>
    rw [BitVec.slt_iff_toInt_lt, toInt_small h, hi] at hs
    rw [hge]; omega

end Cert.Expert

end
-- ==== Proof.ExpertFrame.lean ====
/- The expert product's frame: the output block of every used point is the expert's product of that point's rows by
   that point's own weights — the scratch holds them whether they were copied there or at an earlier point of the same
   expert — and a point of no used block leaves the last used block's output as it was. -/
module

public import proofs.«01_k».proof.Proof.ExpertWords

@[expose] public section

set_option maxRecDepth 16384

noncomputable section

namespace Cert.Expert

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four tables: each block's expert, how many of its rows are held, how many blocks are used, and each block's
    weights. -/
def tb0 : S461.Idx → BitVec 32 := tbl m 0
def tb1 : S461.Idx → BitVec 32 := tbl m 1
def tb2 : S1.Idx → BitVec 32 := tbl m 2
def tb3 : S461.Idx → BitVec 32 := tbl m 3

theorem PhiT0_eq' (c : Dev nD) : (Pipeline.ΦT pre0 (tbl m) c : sProp 𝕄) = iprop(tbPt0 c tbM0_0 (tb0 m) ∗ tbPt0 c tbM0_1 (tb1 m) ∗ tbPt0 c tbM0_2 (tb2 m) ∗ tbPt0 c tbM0_3 (tb3 m)) :=
  PhiT0_eq m c

/-- What the frame asks of the tables: the windows' blocks inside their arrays, at least one block used, and the
    table of weight blocks the experts' where a block is used. -/
structure Good : Prop where
  ok : Ok m
  pos : 1 ≤ (usedWord (tb2 m)).toInt
  same : ∀ t : Fin grid0.N, t.val < (usedWord (tb2 m)).toNat →
    wordAt (tb3 m) (k0_off1 (grid0.coords t)) (k0_off1_inb _) = wordAt (tb0 m) (k0_off2 (grid0.coords t)) (k0_off2_inb _)

/-- How many blocks are used. -/
def nUsed : ℕ := (usedWord (tb2 m)).toNat

theorem nUsed_pos (g : Good m) : 1 ≤ nUsed m := by have := g.pos; rw [toInt_pos g.pos] at this; unfold nUsed; omega

theorem used_lt (g : Good m) (t : Fin grid0.N) : Used (grid0.coords t) (tb2 m) ↔ t.val < nUsed m := used_iff g.pos t

/-- The last used point up to `t`. -/
def lastUsed (t : Fin grid0.N) : Fin grid0.N := ⟨min t.val (nUsed m - 1), Nat.lt_of_le_of_lt (Nat.min_le_left _ _) t.isLt⟩

/-- The weights of point `t`, as the scratch holds them: -/
def gateAt (hO : Ok m) (c : Dev nD) (t : Fin grid0.N) : Vec F S1024x256 .bf16 := k0_pay2 (iblk m hO c 1 t)
def upAt (hO : Ok m) (c : Dev nD) (t : Fin grid0.N) : Vec F S1024x256 .bf16 := k0_pay3 (iblk m hO c 2 t)
def downAt (hO : Ok m) (c : Dev nD) (t : Fin grid0.N) : Vec F S256x1024 .bf16 := k0_pay4 (iblk m hO c 3 t)

/-- and what point `t`'s output is. -/
def outAt (hO : Ok m) (c : Dev nD) (t : Fin grid0.N) : Vec F S640x1024 .bf16 :=
  outOf (wordAt (tb1 m) (k0_off4 (grid0.coords t)) (k0_off4_inb _)) (iblk m hO c 0 t) (gateAt m hO c t) (upAt m hO c t) (downAt m hO c t)

/-- What the scratch holds between two points: the weights of the point before, where it was used. -/
def Track (hO : Ok m) (c : Dev nD) (n : ℕ) (d0 d1 : Vec F S1024x256 .bf16) (d2 : Vec F S256x1024 .bf16) : Prop :=
  ∀ s : Fin grid0.N, s.val + 1 = n → s.val < nUsed m → d0 = gateAt m hO c s ∧ d1 = upAt m hO c s ∧ d2 = downAt m hO c s

/-- The invariant. -/
def inv (hO : Ok m) (c : Dev nD) (n : ℕ) : sProp 𝕄 :=
  iprop((∃ d0 d1 d2, ⌜Track m hO c n d0 d1 d2⌝ ∗ owns (c : Thread nD τ) scM0_0 fullShare d0 ∗ owns (c : Thread nD τ) scM0_1 fullShare d1 ∗ owns (c : Thread nD τ) scM0_2 fullShare d2)
    ∗ (∃ r, prngReg c r) ∗ Pipeline.ΦT pre0 (tbl m) c)

/-- The proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c (lastUsed m t)
  Φ t := inv m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c (lastUsed m t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The windows' indices -/

theorem index4 (g : Good m) (t : Fin grid0.N) : ((cfgM m g.ok).win 4).index t = ![min t.val (nUsed m - 1), 0] := by
  show ![(Scalar.minsi (BitVec.ofNat 32 (grid0.coords t 0).val) (Scalar.subi (usedWord (tb2 m)) 1#32)).toNat, 0] = _
  rw [coord0, min_word g.pos (lt_461 t)]; rfl

theorem index0 (g : Good m) (t : Fin grid0.N) : ((cfgM m g.ok).win 0).index t = ![min t.val (nUsed m - 1), 0] := by
  show ![(Scalar.minsi (BitVec.ofNat 32 (grid0.coords t 0).val) (Scalar.subi (usedWord (tb2 m)) 1#32)).toNat, 0] = _
  rw [coord0, min_word g.pos (lt_461 t)]; rfl

theorem index1 (hO : Ok m) (t : Fin grid0.N) : ((cfgM m hO).win 1).index t = ![(wordAt (tb3 m) (k0_off1 (grid0.coords t)) (k0_off1_inb _)).toNat, 0, 0] := rfl
theorem index2 (hO : Ok m) (t : Fin grid0.N) : ((cfgM m hO).win 2).index t = ![(wordAt (tb3 m) (k0_off1 (grid0.coords t)) (k0_off1_inb _)).toNat, 0, 0] := rfl
theorem index3 (hO : Ok m) (t : Fin grid0.N) : ((cfgM m hO).win 3).index t = ![(wordAt (tb3 m) (k0_off1 (grid0.coords t)) (k0_off1_inb _)).toNat, 0, 0] := rfl

/-- A window's block depends on its index only. -/
theorem iblk1_congr (hO : Ok m) (c : Dev nD) {t t' : Fin grid0.N} (h : ((cfgM m hO).win 1).index t = ((cfgM m hO).win 1).index t') :
    (iblk m hO c 1 t : Vec F S1x1024x256 .f32) = iblk m hO c 1 t' := by
  have e := (dats m hO 0 c).fetched_congr 1 h rfl (fun _ => default)
  exact e
theorem iblk2_congr (hO : Ok m) (c : Dev nD) {t t' : Fin grid0.N} (h : ((cfgM m hO).win 2).index t = ((cfgM m hO).win 2).index t') :
    (iblk m hO c 2 t : Vec F S1x1024x256 .f32) = iblk m hO c 2 t' := by
  have e := (dats m hO 0 c).fetched_congr 2 h rfl (fun _ => default)
  exact e
theorem iblk3_congr (hO : Ok m) (c : Dev nD) {t t' : Fin grid0.N} (h : ((cfgM m hO).win 3).index t = ((cfgM m hO).win 3).index t') :
    (iblk m hO c 3 t : Vec F S1x256x1024 .f32) = iblk m hO c 3 t' := by
  have e := (dats m hO 0 c).fetched_congr 3 h rfl (fun _ => default)
  exact e

/-- A used point that does not copy is of the point before's expert, and the point before is used. -/
theorem not_fresh (g : Good m) (t : Fin grid0.N) (hu : t.val < nUsed m) (hf : ¬ Fresh (grid0.coords t) (tb0 m)) :
    ∃ s : Fin grid0.N, s.val + 1 = t.val ∧ s.val < nUsed m
      ∧ wordAt (tb3 m) (k0_off1 (grid0.coords t)) (k0_off1_inb _) = wordAt (tb3 m) (k0_off1 (grid0.coords s)) (k0_off1_inb _) := by
  have ht := lt_461 t
  rw [fresh_iff _ (by rw [coord0]; exact ht), coord0] at hf
  push Not at hf
  obtain ⟨h0, he⟩ := hf
  have hs : t.val - 1 < grid0.N := Nat.lt_of_le_of_lt (Nat.sub_le _ _) t.isLt
  refine ⟨⟨t.val - 1, hs⟩, by show t.val - 1 + 1 = _; omega, Nat.lt_of_le_of_lt (Nat.sub_le _ _) hu, ?_⟩
  rw [g.same t hu, g.same ⟨t.val - 1, hs⟩ (Nat.lt_of_le_of_lt (Nat.sub_le _ _) hu), he]
  exact wordAt_congr _ ((off3_eq t h0).trans (off2_eq ⟨t.val - 1, hs⟩).symm) _ _

theorem scratch0 (g : Good m) (c : Dev nD) (t : Fin grid0.N) {d0 d1 d2} (hT : Track m g.ok c t.val d0 d1 d2)
    (hu : Used (grid0.coords t) (tb2 m)) :
    (if Fresh (grid0.coords t) (tb0 m) then k0_pay2 (iblk m g.ok c 1 t) else d0) = gateAt m g.ok c t
    ∧ (if Fresh (grid0.coords t) (tb0 m) then k0_pay3 (iblk m g.ok c 2 t) else d1) = upAt m g.ok c t
    ∧ (if Fresh (grid0.coords t) (tb0 m) then k0_pay4 (iblk m g.ok c 3 t) else d2) = downAt m g.ok c t := by
  have hu' := (used_lt m g t).mp hu
  by_cases hf : Fresh (grid0.coords t) (tb0 m)
  · rw [if_pos hf, if_pos hf, if_pos hf]; exact ⟨rfl, rfl, rfl⟩
  · rw [if_neg hf, if_neg hf, if_neg hf]
    obtain ⟨s, hs, hsu, hw⟩ := not_fresh m g t hu' hf
    obtain ⟨h0, h1, h2⟩ := hT s hs hsu
    refine ⟨h0.trans (congrArg k0_pay2 ?_), h1.trans (congrArg k0_pay3 ?_), h2.trans (congrArg k0_pay4 ?_)⟩
    · exact iblk1_congr m g.ok c (by rw [index1, index1, hw])
    · exact iblk2_congr m g.ok c (by rw [index2, index2, hw])
    · exact iblk3_congr m g.ok c (by rw [index3, index3, hw])

/-! ## Idle points -/

theorem idle4 (a : (pcfg0 (F := F)).Adm) (t : Fin (cfg0 a).N) (x : BitVec 32) (hx : a.1.atD 2 ![0] = x) :
    (cfg0 a).idle 4 ((cfg0 a).grid.coords t) = !(k0_cond1 (grid0.coords t) x == 1#1) := by
  subst hx; rfl

theorem atD_first (x : S1.Idx → BitVec 32) :
    (if h : ∀ a, ![0] a < S1.size a then x fun a => ⟨![0] a, h a⟩ else default) = usedWord x := by
  rw [dif_pos (show ∀ a, ![0] a < S1.size a by decide)]
  exact congrArg x (funext fun a => Fin.ext rfl)

theorem used_word : (tbl m).atD 2 ![0] = usedWord (tb2 m) :=
  atD_first (tb2 m)

theorem idle_of_not (hO : Ok m) (t : Fin grid0.N) (h : ¬ Used (grid0.coords t) (tb2 m)) : (cfgM m hO).idle 4 ((cfgM m hO).grid.coords t) = true := by
  rw [idle4 (adm m hO) t _ (used_word m), Bool.not_eq_true', beq_eq_false_iff_ne]
  exact h
theorem live_of_used (hO : Ok m) (t : Fin grid0.N) (h : Used (grid0.coords t) (tb2 m)) : (cfgM m hO).idle 4 ((cfgM m hO).grid.coords t) = false := by
  rw [idle4 (adm m hO) t _ (used_word m), Bool.not_eq_false', beq_iff_eq]
  exact h
theorem not_of_idle (hO : Ok m) (t : Fin grid0.N) (h : (cfgM m hO).idle 4 ((cfgM m hO).grid.coords t) = true) : ¬ Used (grid0.coords t) (tb2 m) := fun hu => by
  rw [live_of_used m hO t hu] at h; exact Bool.false_ne_true h

/-- From the last used point on the output's buffer holds what that point stored. -/
theorem not_fresh_buffer (g : Good m) : ∀ n, nUsed m ≤ n → n < 461 → (cfgM m g.ok).fresh 4 n = false
  | 0, h, _ => absurd h (by have := nUsed_pos m g; omega)
  | n + 1, h, hn => by
    have hp : 1 ≤ nUsed m := nUsed_pos m g
    have hN : n < grid0.N := by show n < 461; omega
    have hN' : n + 1 < grid0.N := by show n + 1 < 461; omega
    rw [(cfgM m g.ok).fresh_succ 4 n hN]
    have hfl : ((cfgM m g.ok).win 4).flush ⟨n, hN⟩ = false := by
      rw [Pipeline.Window.flush, Bool.and_eq_false_iff]
      right
      rw [Bool.or_eq_false_iff]
      refine ⟨decide_eq_false (Nat.ne_of_lt hN'), decide_eq_false fun ⟨h1, h2⟩ => h2 ?_⟩
      rw [index4 m g, index4 m g]
      congr 1
      show min (n + 1) _ = min n _
      omega
    rw [hfl, Bool.false_or]
    by_cases hu : n < nUsed m
    · have hl := live_of_used m g.ok ⟨n, hN⟩ ((used_lt m g _).mpr hu)
      exact Bool.and_eq_false_iff.mpr (Or.inl hl)
    · exact Bool.and_eq_false_iff.mpr (Or.inr (not_fresh_buffer g n (by omega) (by omega)))

theorem before4 (g : Good m) (c : Dev nD) (t : Fin grid0.N) (hu : ¬ Used (grid0.coords t) (tb2 m)) (d) :
    (dats m g.ok 0 c).before 4 t d = outAt m g.ok c (lastUsed m t) := by
  have hge : nUsed m ≤ t.val := by rw [used_lt m g] at hu; omega
  have hp : 1 ≤ nUsed m := nUsed_pos m g
  rw [(dats m g.ok 0 c).before_out_traj 4 rfl (fun _ _ => rfl) ?_ t.val t rfl d]
  · rw [not_fresh_buffer m g t.val hge (lt_461 t), if_neg Bool.false_ne_true, after0_4]
    congr 1
    apply Fin.ext
    show min (t.val - 1) _ = min t.val _
    omega
  · intro s hs hi _
    have hge : nUsed m ≤ s.val := by have h := not_of_idle m g.ok s hi; rw [used_lt m g] at h; omega
    rw [after0_4, after0_4]
    congr 1
    apply Fin.ext
    show min s.val _ = min (s.val - 1) _
    omega

/-! ## The body obligation -/

/-- The body as point `t` runs it. -/
abbrev bodyAt0 (a : (pcfg0 (F := F)).Adm) (t : Fin (cfg0 a).N) : Prog (TpuEff nD τ sig (Elt F) Λ₀ .tc) PUnit :=
  cc0__expert_kernel (grid0.coords t) (Memref.whole main_arg1) (Memref.isWhole_whole _) (Memref.whole main_arg2) (Memref.isWhole_whole _) (Memref.whole main_arg3) (Memref.isWhole_whole _) (Memref.whole main_v10) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ (dats m hO 0 c).leavesExact 4 t)

attribute [local irreducible] tbl Dat.before iblk

/-- What the output's buffer holds as point `t` starts. -/
def held4 (hO : Ok m) (c : Dev nD) (t : Fin (cfgM m hO).N) (d : Vec F S640x1024 .bf16) : Vec F S640x1024 .bf16 := (dats m hO 0 c).before 4 t d

theorem held4_eq (g : Good m) (c : Dev nD) (t : Fin (cfgM m g.ok).N) (hu : ¬ Used (grid0.coords t) (tb2 m)) (d) :
    held4 m g.ok c t d = outAt m g.ok c (lastUsed m t) := by
  unfold held4; exact before4 m g c t hu d

/-- What a point leaves in a window's buffer, in general. -/
theorem leaves_of {cfg : Pipeline.Cfg sig Λ₀} {c : Dev nD} (dat : Dat τ (Elt F) Unit ℕ (UR sig nD τ) ℕ cfg c) (w : Fin cfg.W) (t : Fin cfg.N)
    (o : (cfg.win w).block.Idx → Elt F (cfg.win w).elt) (d)
    (h1 : cfg.idle w (cfg.grid.coords t) = false → o = dat.after w t)
    (h2 : cfg.idle w (cfg.grid.coords t) = true → o = dat.before w t d)
    (h3 : cfg.idle w (cfg.grid.coords t) = true → o = dat.after w t) :
    owns (c : Thread nD τ) ((cfg.win w).stage (cfg.slots t w)) fullShare o ⊢ (dat.leavesExact w t : sProp 𝕄) := by
  unfold Dat.leavesExact
  cases hi : cfg.idle w (cfg.grid.coords t)
  · rw [h1 hi]
  · cases (cfg.win w).flush t
    · rw [h2 hi]; iintro H; iexists d; iexact H
    · rw [h3 hi]

/-- What the body leaves in the output's buffer is what is asked of it. -/
theorem leaves4 (g : Good m) (c : Dev nD) (t : Fin (cfgM m g.ok).N) (d) (o : Vec F S640x1024 .bf16)
    (h1 : Used (grid0.coords t) (tb2 m) → o = outAt m g.ok c t) (h2 : ¬ Used (grid0.coords t) (tb2 m) → o = held4 m g.ok c t d) :
    owns (c : Thread nD τ) (ms0_4 m g.ok t) fullShare o ⊢ ((dats m g.ok 0 c).leavesExact 4 t : sProp 𝕄) := by
  refine leaves_of (dats m g.ok 0 c) 4 t o d (fun hi => ?_) (fun hi => ?_) (fun hi => ?_)
  · have hu : Used (grid0.coords t) (tb2 m) := by
      by_contra hu; rw [idle_of_not m g.ok t hu] at hi; exact Bool.false_ne_true hi.symm
    have e : lastUsed m t = t := Fin.ext (by
      have := (used_lt m g t).mp hu
      show min t.val _ = t.val
      omega)
    rw [after0_4, e]; exact h1 hu
  · exact h2 (not_of_idle m g.ok t hi)
  · have hu := not_of_idle m g.ok t hi
    rw [after0_4]
    exact (h2 hu).trans (held4_eq m g c t hu d)

theorem track_next (g : Good m) (c : Dev nD) (t : Fin grid0.N) (d0 d1 d2) :
    Track m g.ok c (t.val + 1) (if Used (grid0.coords t) (tb2 m) then gateAt m g.ok c t else d0)
      (if Used (grid0.coords t) (tb2 m) then upAt m g.ok c t else d1) (if Used (grid0.coords t) (tb2 m) then downAt m g.ok c t else d2) := by
  intro s hs hsu
  obtain rfl : s = t := Fin.ext (by omega)
  have hu := (used_lt m g s).mpr hsu
  rw [if_pos hu, if_pos hu, if_pos hu]
  exact ⟨rfl, rfl, rfl⟩

set_option maxHeartbeats 800000 in
theorem sound_body (g : Good m) (c : Dev nD) (t : Fin (cfgM m g.ok).N) :
    bodyPre m g.ok c t ⊢ wp frame (wpE (defs₀ (F := F)) Variants.none c none) Set.univ (bodyAt0 (adm m g.ok) t) (fun _ => bodyPost m g.ok c t) := by
  unfold bodyPre bodyPost bodyAt0
  simp only [before0_0, before0_1, before0_2, before0_3]
  rw [show (dats m g.ok 0 c).Φ t.succ = inv m g.ok c (t.val + 1) from rfl,
    show (dats m g.ok 0 c).Φ t.castSucc = inv m g.ok c t.val from rfl,
    show (dats m g.ok 0 c).owesAt () t.succ = (dats m g.ok 0 c).owesAt () t.castSucc from rfl,
    after0_0, after0_1, after0_2, after0_3]
  unfold inv
  rw [PhiT0_eq']
  iintro ⟨⟨⟨%e0, %e1, %e2, %hT, HS0, HS1, HS2⟩, Hg, ⟨HT0, HT1, HT2, HT3⟩⟩, Ho, ⟨%d0, H0⟩, ⟨%d1, H1⟩, ⟨%d2, H2⟩, ⟨%d3, H3⟩, ⟨%d4, H4⟩⟩
  iapply (run c (grid0.coords t) (ms0_0 m g.ok t) (hs0_0 m g.ok t) (ms0_1 m g.ok t) (hs0_1 m g.ok t) (ms0_2 m g.ok t) (hs0_2 m g.ok t) (ms0_3 m g.ok t) (hs0_3 m g.ok t) (ms0_4 m g.ok t) (hs0_4 m g.ok t)
    scM0_0 (Memref.isWhole_whole _) scM0_1 (Memref.isWhole_whole _) scM0_2 (Memref.isWhole_whole _)
    (iblk m g.ok c 0 t) (iblk m g.ok c 1 t) (iblk m g.ok c 2 t) (iblk m g.ok c 3 t) (held4 m g.ok c t d4) e0 e1 e2
    (gateAt m g.ok c t) (upAt m g.ok c t) (downAt m g.ok c t) (tb0 m) (tb1 m) (tb2 m) (tb3 m)
    (fun hu => (scratch0 m g c t hT hu).1) (fun hu => (scratch0 m g c t hT hu).2.1) (fun hu => (scratch0 m g c t hT hu).2.2) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HT0]; · iexact HT0
  isplitl [HT1]; · iexact HT1
  isplitl [HT2]; · iexact HT2
  isplitl [HT3]; · iexact HT3
  iintro ⟨H0, H1, H2, H3, H4, HS0, HS1, HS2, HT0, HT1, HT2, HT3⟩
  isplitl [HS0 HS1 HS2 Hg HT0 HT1 HT2 HT3]
  · isplitl [HS0 HS1 HS2]
    · iexists _; iexists _; iexists _
      isplitr
      swap
      · isplitl [HS0]; · iexact HS0
        isplitl [HS1]; · iexact HS1
        iexact HS2
      ipureintro; exact track_next m g c t _ _ _
    isplitl [Hg]; · iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iapply (leaves4 m g c t d4 _ (fun hu => if_pos hu) (fun hu => if_neg hu))
  iexact H4

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The obligation, from one whose post is written with `leavesExact`. -/
theorem oblig_of {cfg : Pipeline.Cfg sig Λ₀} {c : Dev nD} (dat : Dat τ (Elt F) Unit ℕ (UR sig nD τ) ℕ cfg c)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ .tc cfg.body (cfg.bodyArgs t (cfg.slots t))) fun _ =>
          (iprop(dat.Φ t.succ ∗ dat.owesAt () t.succ ∗ bigSep Finset.univ fun w : Fin cfg.W => dat.leavesExact w t) : sProp 𝕄)) :
    BodyObligation dat (defs₀ (F := F)) Variants.none () Set.univ := fun t => h t

theorem body_obligation (g : Good m) (c : Dev nD) : BodyObligation (dats (F := F) m g.ok 0 c) (defs₀ (F := F)) Variants.none () Set.univ :=
  oblig_of _ fun t => by
    rw [bigSep_W0, bigSep_W0, defs₀_row m g.ok]
    exact triple_restated (sound_body m g c t) rfl .rfl fun _ => .rfl

/-! ## The run and the frame -/

theorem inv_first (hO : Ok m) (c : Dev nD) : iprop(Pipeline.ΦA spec0 c ∗ Pipeline.ΦT pre0 (tbl m) c) ⊢ (inv m hO c 0 : sProp 𝕄) := by
  rw [PhiA0_eq]
  unfold inv
  iintro ⟨⟨⟨⟨%d0, HS0⟩, ⟨%d1, HS1⟩, ⟨%d2, HS2⟩⟩, Hg⟩, HT⟩
  isplitl [HS0 HS1 HS2]
  · iexists d0; iexists d1; iexists d2
    isplitr
    · ipureintro; intro s hs _; omega
    isplitl [HS0]; · iexact HS0
    isplitl [HS1]; · iexact HS1
    iexact HS2
  isplitl [Hg]; · iexact Hg
  iexact HT

theorem inv_last (hO : Ok m) (c : Dev nD) (n : ℕ) : (inv m hO c n : sProp 𝕄) ⊢ Pipeline.ΦA spec0 c := by
  rw [PhiA0_eq]
  unfold inv
  iintro ⟨⟨%d0, %d1, %d2, -, HS0, HS1, HS2⟩, Hg, -⟩
  isplitl [HS0 HS1 HS2]
  · isplitl [HS0]; · iexists _; iexact HS0
    isplitl [HS1]; · iexists _; iexact HS1
    iexists _; iexact HS2
  iexact Hg

set_option backward.isDefEq.respectTransparency.types false in
set_option maxHeartbeats 800000 in
theorem run_main_quiescent (g : Good m) : θ_run defs (onTc (τ := τ) (main (F := F))) (s₀ m ρ) (fun r => (Pipeline.FramePost (Pipeline.pin pcfgs fun _ => adm m g.ok) (dats m g.ok) 0 (Pipeline.afterTail pcfgs (fun _ => adm m g.ok) (dats m g.ok) 0 (V0 m) [hostOps1, hostOps1_1])) r ∧ r.2.sem = fun _ => 0) :=
  Pipeline.θ_run_frameP_around_track (Q' := _) pcfgs (fun _ => adm m g.ok) (dats m g.ok) (0 : Fin 1) launch0 defs₀ Variants.none m ρ main
    (hbody := fun c => (body_obligation m g c).loose) (hshare := fun c => (dats m g.ok 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m g.ok) (hpf := V_pre m) (hin := inv_first m g.ok) (hout := fun c => inv_last m g.ok c _)

theorem run_main (g : Good m) : θ_run defs (onTc (τ := τ) (main (F := F))) (s₀ m ρ) (Pipeline.FramePost (Pipeline.pin pcfgs fun _ => adm m g.ok) (dats m g.ok) 0 (Pipeline.afterTail pcfgs (fun _ => adm m g.ok) (dats m g.ok) 0 (V0 m) [hostOps1, hostOps1_1])) :=
  (θ_run defs _ _).mono (fun _ h => h.1) (run_main_quiescent m ρ g)

/-- The frame: the arguments end unchanged and every counter at zero. -/
theorem frame (g : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ g.ok (dats m g.ok) (A_eq m g.ok) (run_main m ρ g)) ((θ_run defs _ _).mono (fun _ h => h.2) (run_main_quiescent m ρ g))

end Cert.Expert

end
-- ==== Proof.ExpertGood.lean ====
/- The precondition on the tables gives what the frame asks of them. -/
module

public import proofs.«01_k».proof.Proof.ExpertFrame
public import proofs.«01_k».proof.Proof.Gen.Pre_tables_in_range
public import Idealize.ShloMosaic.Lib.ReduceAll
public import Idealize.ShloMosaic.Lib.Affine
public import Idealize.ShloMosaic.Lib.Routing.OpsSet
public import Idealize.ShloMosaic.Lib.Pointwise

@[expose] public section

set_option maxRecDepth 16384

noncomputable section

namespace Cert.Expert

open Cert.Kernel4Ideal Cert.Kernel4Ideal.Gen
open Idealize.ShloMosaic Idealize.ShloMosaic.TcCoe Idealize.ShloMosaic.Tactic

variable {F : FTy → Type} [FloatOps F]

variable (m : (ℓ : Loc nD τ sig) → Buf (Elt F) ℓ)

/-- What the precondition says of the tables: every block's expert is one of the 256, and at least one block is
    used. -/
structure InRange (be : IVec S461 32) (nu : IVec S1 32) : Prop where
  lo : ∀ i, 0 ≤ (be i).toInt
  hi : ∀ i, (be i).toInt < 256
  pos : ∀ i, 1 ≤ (nu i).toInt

theorem and_one {a b : BitVec 1} (h : IntOp.andi a b = 1#1) : a = 1#1 ∧ b = 1#1 := by
  revert a b; decide

theorem sge_one {a b : BitVec 32} (h : IntOp.cmpi .sge a b = 1#1) : b.toInt ≤ a.toInt := by
  rw [WordCmp.cmpi_sge_eq, WordCmp.ofBool_decide_eq_one_iff] at h
  exact h

theorem slt_one {a b : BitVec 32} (h : IntOp.cmpi .slt a b = 1#1) : a.toInt < b.toInt := by
  rw [WordCmp.cmpi_slt_eq, WordCmp.ofBool_decide_eq_one_iff] at h
  exact h

theorem inRange_of (x0 : IVec S295040x512 32) (be nv : IVec S461 32) (nu : IVec S1 32) (x4 x5 : FVec F S256x1024x256 .f32)
    (x6 : FVec F S256x256x1024 .f32) (h : Cert.Pre_tables_in_range.fn (F := F) x0 be nv nu x4 x5 x6 = fun _ => 1#1) : InRange be nu := by
  have h := congrFun h (fun i => i.elim0)
  simp only [Cert.Pre_tables_in_range.fn] at h
  obtain ⟨h, h3⟩ := and_one h
  obtain ⟨h1, h2⟩ := and_one h
  exact ⟨fun i => sge_one (Host.reduce_andi_all _ _ _ _ _ h1 i), fun i => slt_one (Host.reduce_andi_all _ _ _ _ _ h2 i),
    fun i => sge_one (Host.reduce_andi_all _ _ _ _ _ h3 i)⟩

/-- The arguments the tables come from. -/
abbrev be0 : IVec S461 32 := m (((0 : Dev nD).tc : Thread nD τ).loc main_arg1)
abbrev nv0 : IVec S461 32 := m (((0 : Dev nD).tc : Thread nD τ).loc main_arg2)
abbrev nu0 : IVec S1 32 := m (((0 : Dev nD).tc : Thread nD τ).loc main_arg3)

theorem tb0_eq : tb0 m = be0 m := V_main_arg1 m 0
theorem tb1_eq : tb1 m = nv0 m := V_main_arg2 m 0
theorem tb2_eq : tb2 m = nu0 m := V_main_arg3 m 0

/-- The weights' table: the experts', taken at the smaller of the block's number and the last used block's. -/
abbrev wbOf (be : IVec S461 32) (nu : IVec S1 32) : IVec S461 32 :=
  Host.gather gather_S461_S461x1_S461_n_0_n_n_0_1_1 be (broadcastInDim S461x1 ![0] bcast_S461_S461x1_0
    (minsi (iotaInDim S461 32 0) (broadcastInDim S461 ![] bcast_S_S461 (subi (shapeCast S_ nu shapeCasts_S1_S_) (constantI S_ 32 1#32)))))

theorem tb3_eq : tb3 m = wbOf (be0 m) (nu0 m) := by
  show V m 0 main_v10 = _
  simp only [V, V0, hostOps0, hostOps0_1, List.flatten_cons, List.flatten_nil, List.append_nil, List.cons_append, List.nil_append]
  entry_read
  rfl

theorem usedWord_eq (x : S1.Idx → BitVec 32) : usedWord x = x (ix1 (0 : Fin 1)) :=
  congrArg x (funext fun a => Fin.ext (by
    obtain rfl : a = 0 := Subsingleton.elim _ _
    rfl))

theorem wordAt_eq (x : S461.Idx → BitVec 32) {n : ℕ} (h : n < 461) {o : Fin 1 → ℕ} (ho : o = ![n]) (inb) :
    wordAt x o inb = x (ix1 (⟨n, h⟩ : Fin 461)) := by
  subst ho
  refine congrArg x (funext fun a => Fin.ext ?_)
  obtain rfl : a = 0 := Subsingleton.elim _ _
  rfl

/-- The weights' table at block `b`. -/
theorem wbOf_at (be : IVec S461 32) (nu : IVec S1 32) (hp : 1 ≤ (nu (ix1 (0 : Fin 1))).toInt) (b : Fin 461) :
    wbOf be nu (ix1 b) = be (ix1 (⟨min b.val ((nu (ix1 (0 : Fin 1))).toNat - 1), by omega⟩ : Fin 461)) := by
  refine Routing.gather_take1 _ rfl rfl rfl rfl be _ b _ ?_ (by decide)
  have e : (broadcastInDim S461x1 ![0] bcast_S461_S461x1_0
    (minsi (iotaInDim S461 32 0) (broadcastInDim S461 ![] bcast_S_S461 (subi (shapeCast S_ nu shapeCasts_S1_S_) (constantI S_ 32 1#32))))) (ix2 b (0 : Fin 1))
      = Scalar.minsi (BitVec.ofNat 32 b.val) (Scalar.subi (nu (ix1 (0 : Fin 1))) 1#32) := by
    pointwise
    rfl
  refine e.trans ?_
  apply BitVec.eq_of_toNat_eq
  rw [min_word hp b.isLt, toNat_small (by omega)]

theorem wb_lt (be : IVec S461 32) (nu : IVec S1 32) (g : InRange be nu) (b : Fin 461) : (wbOf be nu (ix1 b)).toNat < 256 := by
  rw [wbOf_at be nu (g.pos _) b]
  generalize (ix1 (⟨min b.val ((nu (ix1 (0 : Fin 1))).toNat - 1), _⟩ : Fin 461)) = i
  have h0 := g.lo i
  have h1 := g.hi i
  rw [BitVec.toInt_eq_toNat_cond] at h0 h1
  have := (be i).isLt
  split at h0 <;> omega

/-- The grid's coordinates are its points'. -/
theorem coords_lt (i : grid0.Coords) : (i 0).val < 461 := (i 0).isLt

theorem off1_at (i : grid0.Coords) : k0_off1 i = ![(i 0).val] := by
  unfold k0_off1
  show ![(BitVec.ofNat 32 (i 0).val).toNat] = _
  rw [toNat_small (coords_lt i)]

theorem good_of (h : InRange (be0 m) (nu0 m)) : Good m where
  ok := by
    have hp : 1 ≤ (usedWord (tb2 m)).toInt := by rw [tb2_eq, usedWord_eq]; exact h.pos _
    have hrow : ∀ i : grid0.Coords, (Scalar.minsi (BitVec.ofNat 32 (i 0).val) (Scalar.subi (usedWord (tb2 m)) 1#32)).toNat ≤ 460 := fun i => by
      have := coords_lt i
      rw [min_word hp this]; omega
    have hw : ∀ i : grid0.Coords, (wordAt (tb3 m) (k0_off1 i) (k0_off1_inb i)).toNat < 256 := fun i => by
      rw [wordAt_eq _ (coords_lt i) (off1_at i), tb3_eq]
      exact wb_lt _ _ h _
    refine ⟨fun i => ⟨?_, .inl rfl⟩, fun i => ⟨?_, .inl rfl⟩, fun i => ⟨?_, .inl rfl⟩, fun i => ⟨?_, .inl rfl⟩,
      fun i => ⟨?_, .inr (Affine.block_words_dvd (by decide) (by decide))⟩⟩
    · have := hrow i
      refine Fin.forall_fin_two.2 ⟨?_, ?_⟩
      · show ((Scalar.minsi (BitVec.ofNat 32 (i 0).val) (Scalar.subi (usedWord (tb2 m)) 1#32)).toNat + 1) * 640 ≤ 295040
        omega
      · show (0 + 1) * 512 ≤ 512
        omega
    · have := hw i
      intro a
      match a with
      | ⟨0, _⟩ => show ((wordAt (tb3 m) (k0_off1 i) (k0_off1_inb i)).toNat + 1) * 1 ≤ 256; omega
      | ⟨1, _⟩ => show (0 + 1) * 1024 ≤ 1024; omega
      | ⟨2, _⟩ => show (0 + 1) * 256 ≤ 256; omega
    · have := hw i
      intro a
      match a with
      | ⟨0, _⟩ => show ((wordAt (tb3 m) (k0_off1 i) (k0_off1_inb i)).toNat + 1) * 1 ≤ 256; omega
      | ⟨1, _⟩ => show (0 + 1) * 1024 ≤ 1024; omega
      | ⟨2, _⟩ => show (0 + 1) * 256 ≤ 256; omega
    · have := hw i
      intro a
      match a with
      | ⟨0, _⟩ => show ((wordAt (tb3 m) (k0_off1 i) (k0_off1_inb i)).toNat + 1) * 1 ≤ 256; omega
      | ⟨1, _⟩ => show (0 + 1) * 256 ≤ 256; omega
      | ⟨2, _⟩ => show (0 + 1) * 1024 ≤ 1024; omega
    · have := hrow i
      refine Fin.forall_fin_two.2 ⟨?_, ?_⟩
      · show ((Scalar.minsi (BitVec.ofNat 32 (i 0).val) (Scalar.subi (usedWord (tb2 m)) 1#32)).toNat + 1) * 640 ≤ 295040
        omega
      · show (0 + 1) * 1024 ≤ 1024
        omega
  pos := by rw [tb2_eq, usedWord_eq]; exact h.pos _
  same t ht := by
    have hl := lt_461 t
    rw [wordAt_eq _ hl (off1_eq t), wordAt_eq _ hl (off2_eq t), tb3_eq, tb0_eq, wbOf_at _ _ (h.pos _)]
    rw [tb2_eq, usedWord_eq] at ht
    refine congrArg (be0 m) (congrArg (fun b : Fin 461 => (ix1 b : S461.Idx)) (Fin.ext ?_))
    show min t.val _ = t.val
    omega

end Cert.Expert

end
-- ==== Proof.ExpertMath.lean ====
/- The experts' layer as numbers: the halves of a packed word, and one row's output. -/
module

public import Idealize.ShloMosaic.Lib.Pointwise
public import Idealize.ShloMosaic.PureOps.Ideal

@[expose] public section

noncomputable section

namespace Cert.Expert

open Idealize.ShloMosaic

/-- A pattern of 32 bits whose low half is zero denotes what its high half denotes in 16 bits. -/
theorem ofBits_wide (b : BitVec 32) (d : BitVec 16) (h : b.toNat = d.toNat * 65536) : Ideal.ofBits .f32 b = Ideal.ofBits .bf16 d := by
  have hd := d.isLt
  have e1 : b.extractLsb' 31 1 = d.extractLsb' 15 1 := BitVec.eq_of_toNat_eq (by
    simp only [BitVec.extractLsb'_toNat, Nat.shiftRight_eq_div_pow, h]; omega)
  have e2 : b.extractLsb' 23 8 = d.extractLsb' 7 8 := BitVec.eq_of_toNat_eq (by
    simp only [BitVec.extractLsb'_toNat, Nat.shiftRight_eq_div_pow, h]; omega)
  have e3 : (b.extractLsb' 0 23).toNat = (d.extractLsb' 0 7).toNat * 65536 := by
    simp only [BitVec.extractLsb'_toNat, Nat.shiftRight_eq_div_pow, h]; omega
  have p1 : (2 : ℝ) ^ (1 - (2 ^ (8 - 1) - 1 : ℤ) - (7 : ℕ)) = 65536 * (2 : ℝ) ^ (1 - (2 ^ (8 - 1) - 1 : ℤ) - (23 : ℕ)) := by norm_num
  have p2 : ∀ n : ℕ, (2 : ℝ) ^ ((n : ℤ) - (2 ^ (8 - 1) - 1 : ℤ) - (7 : ℕ)) = 65536 * (2 : ℝ) ^ ((n : ℤ) - (2 ^ (8 - 1) - 1 : ℤ) - (23 : ℕ)) := fun n => by
    rw [show (n : ℤ) - (2 ^ (8 - 1) - 1 : ℤ) - (7 : ℕ) = 16 + ((n : ℤ) - (2 ^ (8 - 1) - 1 : ℤ) - (23 : ℕ)) by push_cast; ring, zpow_add₀ two_ne_zero]
    norm_num
  show Ideal.ieee 8 23 b = Ideal.ieee 8 7 d
  unfold Ideal.ieee
  simp only [show 8 + 23 = 31 from rfl, show 8 + 7 = 15 from rfl, e1, e2, e3, p1, p2]
  by_cases hx : (d.extractLsb' 7 8).toNat = 2 ^ 8 - 1
  · rw [if_pos hx, if_pos hx]
    by_cases hf : (d.extractLsb' 0 7).toNat = 0
    · rw [if_pos hf, if_pos (by rw [hf])]
    · rw [if_neg hf, if_neg (by omega)]
  · rw [if_neg hx, if_neg hx]
    by_cases h0 : (d.extractLsb' 7 8).toNat = 0
    · rw [if_pos h0, if_pos h0]; congr 1; push_cast; ring
    · rw [if_neg h0, if_neg h0]; congr 1; push_cast; ring

/-- What a packed word's low and high halves denote. -/
abbrev lo (w : BitVec 32) : EReal := Ideal.ofBits .bf16 (w.extractLsb' 0 16)
abbrev hi (w : BitVec 32) : EReal := Ideal.ofBits .bf16 (w.extractLsb' 16 16)

theorem lo_wide (w : BitVec 32) : Ideal.ofBits .f32 (w <<< 16) = lo w :=
  ofBits_wide _ _ (by
    have := w.isLt
    simp only [BitVec.toNat_shiftLeft, BitVec.extractLsb'_toNat, Nat.shiftRight_eq_div_pow, Nat.shiftLeft_eq]
    omega)

theorem hi_wide (w : BitVec 32) : Ideal.ofBits .f32 (w &&& 4294901760#32) = hi w := by
  have e : w &&& 4294901760#32 = (w >>> 16) <<< 16 := by
    apply BitVec.eq_of_getLsbD_eq
    intro i hi
    by_cases h : i < 16
    · have : (4294901760#32).getLsbD i = false := by revert h; revert i; decide
      simp [this, h]
    · have : (4294901760#32).getLsbD i = true := by revert h; revert hi; revert i; decide
      simp [this, h, hi, show 16 + (i - 16) = i by omega]
  rw [e]
  refine ofBits_wide _ _ ?_
  have := w.isLt
  simp only [BitVec.toNat_shiftLeft, BitVec.toNat_ushiftRight, BitVec.extractLsb'_toNat, Nat.shiftRight_eq_div_pow, Nat.shiftLeft_eq]
  omega

/-- The rows' packed words, the blocks' words, and the weights, as functions of their places. -/
abbrev Words := (⟨2, ![295040, 512]⟩ : Shape).Idx → BitVec 32
abbrev Blocks := (⟨1, ![461]⟩ : Shape).Idx → BitVec 32
abbrev One := (⟨1, ![1]⟩ : Shape).Idx → BitVec 32
abbrev Up := (⟨3, ![256, 1024, 256]⟩ : Shape).Idx → EReal
abbrev Down := (⟨3, ![256, 256, 1024]⟩ : Shape).Idx → EReal

/-- Row `b * 640 + r` of the packed rows. -/
abbrev rowOf (b : Fin 461) (r : Fin 640) : Fin 295040 := ⟨b.val * 640 + r.val, by omega⟩

/-- Its entry `k`: a low half, then the high halves. -/
def raw (X : Words) (b : Fin 461) (r : Fin 640) (k : Fin 1024) : EReal :=
  if h : k.val < 512 then lo (X (ix2 (rowOf b r) (⟨k.val, h⟩ : Fin 512))) else hi (X (ix2 (rowOf b r) (⟨k.val - 512, by omega⟩ : Fin 512)))

/-- Row `r` of block `b` is held. -/
def heldRow (nv : Blocks) (b : Fin 461) (r : Fin 640) : BitVec 1 := IntOp.cmpi .slt (BitVec.ofNat 32 r.val) (nv (ix1 b))
/-- Block `b` is used. -/
def usedBlk (nu : One) (b : Fin 461) : BitVec 1 := IntOp.cmpi .slt (BitVec.ofNat 32 b.val) (nu (ix1 (0 : Fin 1)))

/-- The row that enters the products: what is held, else zero. -/
def xin (X : Words) (nv : Blocks) (b : Fin 461) (r : Fin 640) (k : Fin 1024) : EReal :=
  if heldRow nv b r = 1#1 then raw X b r k else 0

/-- Block `b`'s expert. -/
def ex (be : Blocks) (b : Fin 461) : Fin 256 := ⟨min (be (ix1 b)).toInt.toNat 255, by omega⟩

/-- A row through one of the two first products, -/
def first (x : Fin 1024 → EReal) (W : Up) (e : Fin 256) (f : Fin 256) : EReal := ∑ k : Fin 1024, x k * W (ix3 e k f)
/-- the gated unit, -/
def act (x : Fin 1024 → EReal) (G U : Up) (e : Fin 256) (f : Fin 256) : EReal :=
  first x G e f * Ideal.logistic (first x G e f) * first x U e f
/-- and the second product. -/
def second (x : Fin 1024 → EReal) (G U : Up) (D : Down) (e : Fin 256) (j : Fin 1024) : EReal :=
  ∑ f : Fin 256, act x G U e f * D (ix3 e f j)

/-- A row of zeros gives zeros. -/
theorem second_zero (G U : Up) (D : Down) (e : Fin 256) (j : Fin 1024) : second (fun _ => 0) G U D e j = 0 := by
  have h : ∀ (W : Up) f, first (fun _ => 0) W e f = 0 := fun W f => by simp [first]
  simp [second, act, h]

/-- The first product over the two halves of a row. -/
theorem first_halves (x : Fin 1024 → EReal) (W : Up) (e : Fin 256) (f : Fin 256) :
    first x W e f = ∑ k : Fin 512, x ⟨k.val, by omega⟩ * W (ix3 e (⟨k.val, by omega⟩ : Fin 1024) f)
      + ∑ k : Fin 512, x ⟨512 + k.val, by omega⟩ * W (ix3 e (⟨512 + k.val, by omega⟩ : Fin 1024) f) :=
  Fin.sum_univ_add (a := 512) (b := 512) fun k => x k * W (ix3 e k f)

/-- What both programs return. -/
def result (X : Words) (be nv : Blocks) (nu : One) (G U : Up) (D : Down) (b : Fin 461) (r : Fin 640) (j : Fin 1024) : EReal :=
  if usedBlk nu b = 1#1 then second (xin X nv b r) G U D (ex be b) j else 0

end Cert.Expert

end
-- ==== Proof.ExpertPoint.lean ====
/- One block's output as numbers: the two halves of a packed row by the two halves of the expert's weights add up to the
   row by the weights, and the gated unit by the third weight is the reference's. -/
module

public import proofs.«01_k».proof.Proof.ExpertRun
public import proofs.«01_k».proof.Proof.ExpertMath
public import Idealize.ShloMosaic.Lib.Pointwise

@[expose] public section

set_option maxRecDepth 16384

noncomputable section

namespace Cert.Expert

open Cert.Kernel4Ideal Cert.Kernel4Ideal.Gen
open Idealize.ShloMosaic Idealize.ShloMosaic.TcCoe

theorem zero32 : Ideal.ofBits .f32 0#32 = 0 := by simp [Ideal.ofBits, Ideal.ieee]
theorem zero16 : Ideal.ofBits .bf16 0#16 = 0 := by simp [Ideal.ofBits, Ideal.ieee]

theorem pay2_at (v : Vec Ideal S1x1024x256 .f32) (k : Fin 1024) (f : Fin 256) :
    k0_pay2 (F := Ideal) v (ix2 k f : S1024x256.Idx) = v (ix3 (0 : Fin 1) k f : S1x1024x256.Idx) := by
  pointwise [k0_pay2]
theorem pay3_at (v : Vec Ideal S1x1024x256 .f32) (k : Fin 1024) (f : Fin 256) :
    k0_pay3 (F := Ideal) v (ix2 k f : S1024x256.Idx) = v (ix3 (0 : Fin 1) k f : S1x1024x256.Idx) := by
  pointwise [k0_pay3]
theorem pay4_at (v : Vec Ideal S1x256x1024 .f32) (f : Fin 256) (j : Fin 1024) :
    k0_pay4 (F := Ideal) v (ix2 f j : S256x1024.Idx) = v (ix3 (0 : Fin 1) f j : S1x256x1024.Idx) := by
  pointwise [k0_pay4]

theorem loHalf_at (w : FVec Ideal S1024x256 .bf16) (k : Fin 512) (f : Fin 256) :
    loHalf (F := Ideal) w (ix2 k f : S512x256.Idx) = w (ix2 (⟨k.val, by omega⟩ : Fin 1024) f : S1024x256.Idx) := by
  refine congrArg w (funext (Fin.forall_fin_two.2 ⟨Fin.ext ?_, Fin.ext ?_⟩))
  · show 0 + 1 * k.val = k.val; omega
  · show 0 + 1 * f.val = f.val; omega
theorem hiHalf_at (w : FVec Ideal S1024x256 .bf16) (k : Fin 512) (f : Fin 256) :
    hiHalf (F := Ideal) w (ix2 k f : S512x256.Idx) = w (ix2 (⟨512 + k.val, by omega⟩ : Fin 1024) f : S1024x256.Idx) := by
  refine congrArg w (funext (Fin.forall_fin_two.2 ⟨Fin.ext ?_, Fin.ext ?_⟩))
  · show 512 + 1 * k.val = 512 + k.val; omega
  · show 0 + 1 * f.val = f.val; omega

/-- The rows with the ones that are not held cleared. -/
def heldWords (n : BitVec 32) (x : IVec S640x512 32) : IVec S640x512 32 :=
  select (broadcastTo S640x512 (shapeCast S640x1 (cmpi .slt (iota .tc S640x1 32 [0] iota_S640x1_d0_w32) (broadcast S640x1 n)) shapeCasts_S640x1_S640x1) broadcasts_S640x1_S640x512)
    x (broadcast S640x512 0#32)

theorem heldWords_at (n : BitVec 32) (x : IVec S640x512 32) (r : Fin 640) (k : Fin 512) :
    heldWords n x (ix2 r k) = if IntOp.cmpi .slt (BitVec.ofNat 32 r.val) n = 1#1 then x (ix2 r k) else 0#32 := by
  unfold heldWords
  pointwise
  rfl

def lows (n : BitVec 32) (x : IVec S640x512 32) : FVec Ideal S640x512 .bf16 :=
  truncf .bf16 (unpackElementwise (F := Ideal) 0 (heldWords n x)) bitsLt_bf16_f32
def highs (n : BitVec 32) (x : IVec S640x512 32) : FVec Ideal S640x512 .bf16 :=
  truncf .bf16 (unpackElementwise (F := Ideal) 1 (heldWords n x)) bitsLt_bf16_f32

theorem lows_at (n : BitVec 32) (x : IVec S640x512 32) (r : Fin 640) (k : Fin 512) :
    lows n x (ix2 r k) = if IntOp.cmpi .slt (BitVec.ofNat 32 r.val) n = 1#1 then lo (x (ix2 r k)) else 0 := by
  have e : lows n x (ix2 r k) = lo (heldWords n x (ix2 r k)) := rfl
  rw [e, heldWords_at]
  split
  · rfl
  · exact zero16
theorem highs_at (n : BitVec 32) (x : IVec S640x512 32) (r : Fin 640) (k : Fin 512) :
    highs n x (ix2 r k) = if IntOp.cmpi .slt (BitVec.ofNat 32 r.val) n = 1#1 then hi (x (ix2 r k)) else 0 := by
  have e : highs n x (ix2 r k) = hi (heldWords n x (ix2 r k)) := rfl
  rw [e, heldWords_at]
  split
  · rfl
  · exact zero16

def mmUp (a : FVec Ideal S640x512 .bf16) (w : FVec Ideal S512x256 .bf16) : FVec Ideal S640x256 .f32 :=
  matmul dot_S640x512_S512x256_S640x256_1_0_0_1_n_n none a w (constant S640x256 .f32 0x00000000#32)
theorem mmUp_at (a : FVec Ideal S640x512 .bf16) (w : FVec Ideal S512x256 .bf16) (r : Fin 640) (f : Fin 256) :
    mmUp a w (ix2 r f) = ∑ k : Fin 512, @HMul.hMul EReal EReal EReal _ (a (ix2 r k)) (w (ix2 k f)) := by
  unfold mmUp
  pointwise [zero32]

def mmDown (a : FVec Ideal S640x256 .bf16) (w : FVec Ideal S256x1024 .bf16) : FVec Ideal S640x1024 .f32 :=
  matmul dot_S640x256_S256x1024_S640x1024_1_0_0_1_n_n none a w (constant S640x1024 .f32 0x00000000#32)
theorem mmDown_at (a : FVec Ideal S640x256 .bf16) (w : FVec Ideal S256x1024 .bf16) (r : Fin 640) (j : Fin 1024) :
    mmDown a w (ix2 r j) = ∑ f : Fin 256, @HMul.hMul EReal EReal EReal _ (a (ix2 r f)) (w (ix2 f j)) := by
  unfold mmDown
  pointwise [zero32]

/-- The gated unit of two products. -/
def gated (a b : FVec Ideal S640x256 .f32) : FVec Ideal S640x256 .bf16 :=
  truncf .bf16 (mulf (mulf a (logistic a)) b) bitsLt_bf16_f32
theorem gated_at (a b : FVec Ideal S640x256 .f32) (r : Fin 640) (f : Fin 256) :
    gated a b (ix2 r f) = @HMul.hMul EReal EReal EReal _ (@HMul.hMul EReal EReal EReal _ (a (ix2 r f)) (Ideal.logistic (a (ix2 r f)))) (b (ix2 r f)) := by
  unfold gated
  pointwise [Ideal.logistic]

/-- The product over the two halves. -/
def both (n : BitVec 32) (x : IVec S640x512 32) (w : FVec Ideal S1024x256 .bf16) : FVec Ideal S640x256 .f32 :=
  addf (mmUp (lows n x) (loHalf (F := Ideal) w)) (mmUp (highs n x) (hiHalf (F := Ideal) w))

theorem outOf_eq (n : BitVec 32) (x : IVec S640x512 32) (g u : FVec Ideal S1024x256 .bf16) (d : FVec Ideal S256x1024 .bf16) (r : Fin 640) (j : Fin 1024) :
    outOf (F := Ideal) n x g u d (ix2 r j) = mmDown (gated (both n x g) (both n x u)) d (ix2 r j) := rfl

section
variable (X : Words) (nv : Blocks) (G U : Up) (D : Down) (b : Fin 461) (e : Fin 256) (n : BitVec 32) (x : IVec S640x512 32)

theorem both_at (w : FVec Ideal S1024x256 .bf16) (hn : n = nv (ix1 b))
    (hx : ∀ (r : Fin 640) (k : Fin 512), x (ix2 r k) = X (ix2 (rowOf b r) k)) (hw : ∀ (k : Fin 1024) (f : Fin 256), w (ix2 k f) = G (ix3 e k f))
    (r : Fin 640) (f : Fin 256) : both n x w (ix2 r f) = first (xin X nv b r) G e f := by
  have e1 : both n x w (ix2 r f) = @HAdd.hAdd EReal EReal EReal _ (mmUp (lows n x) (loHalf (F := Ideal) w) (ix2 r f)) (mmUp (highs n x) (hiHalf (F := Ideal) w) (ix2 r f)) := rfl
  rw [e1, mmUp_at, mmUp_at, first_halves]
  subst hn
  refine congrArg₂ (fun a b : EReal => a + b) (Finset.sum_congr rfl fun k _ => ?_) (Finset.sum_congr rfl fun k _ => ?_)
  · refine congrArg₂ (fun a b : EReal => a * b) ?_ ((loHalf_at w k f).trans (hw _ f))
    rw [lows_at, hx, xin, raw, dif_pos k.isLt]
    rfl
  · refine congrArg₂ (fun a b : EReal => a * b) ?_ ((hiHalf_at w k f).trans (hw _ f))
    rw [highs_at, hx, xin, raw, dif_neg (show ¬ 512 + k.val < 512 by omega)]
    have ek : (⟨512 + k.val - 512, by omega⟩ : Fin 512) = k := Fin.ext (by show 512 + k.val - 512 = k.val; omega)
    rw [show (⟨(⟨512 + k.val, by omega⟩ : Fin 1024).val - 512, by show 512 + k.val - 512 < 512; omega⟩ : Fin 512) = k from ek]
    rfl

theorem out_at (v1 v2 : Vec Ideal S1x1024x256 .f32) (v3 : Vec Ideal S1x256x1024 .f32) (hn : n = nv (ix1 b))
    (hx : ∀ (r : Fin 640) (k : Fin 512), x (ix2 r k) = X (ix2 (rowOf b r) k))
    (h1 : ∀ (k : Fin 1024) (f : Fin 256), v1 (ix3 (0 : Fin 1) k f) = G (ix3 e k f))
    (h2 : ∀ (k : Fin 1024) (f : Fin 256), v2 (ix3 (0 : Fin 1) k f) = U (ix3 e k f))
    (h3 : ∀ (f : Fin 256) (j : Fin 1024), v3 (ix3 (0 : Fin 1) f j) = D (ix3 e f j)) (r : Fin 640) (j : Fin 1024) :
    outOf (F := Ideal) n x (k0_pay2 v1) (k0_pay3 v2) (k0_pay4 v3) (ix2 r j) = second (xin X nv b r) G U D e j := by
  rw [outOf_eq, mmDown_at]
  show @Eq EReal _ _
  refine Finset.sum_congr rfl fun f _ => ?_
  refine congrArg₂ (fun a b : EReal => a * b) ?_ ((pay4_at v3 f j).trans (h3 f j))
  rw [gated_at, both_at X nv G b e n x _ hn hx (fun k f => (pay2_at v1 k f).trans (h1 k f)),
    both_at X nv U b e n x _ hn hx (fun k f => (pay3_at v2 k f).trans (h2 k f))]
  rfl
end

end Cert.Expert

end
-- ==== Proof.ExpertRef.lean ====
/- What the reference of the experts' layer returns, entry by entry. -/
module

public import proofs.«01_k».proof.Proof.Gen.Reference4Ideal.Run
public import proofs.«01_k».proof.Proof.ExpertMath
public import Idealize.ShloMosaic.Lib.Claim
public import Idealize.ShloMosaic.Lib.Pointwise

@[expose] public section

set_option maxRecDepth 100000

noncomputable section

namespace Cert.Expert

open Idealize.ShloMosaic

/-- The dimension numbers of a take of whole blocks: `table[idx]` of a table of `N` blocks `p` by `q`. -/
def blockDims (N n p q : ℕ) (wf : GatherDims.WF ⟨3, ![N, p, q]⟩ ⟨2, ![n, 1]⟩ ⟨3, ![n, p, q]⟩ [1, 2] [0] [] [0] [] 1 ![1, p, q]) :
    GatherDims ⟨3, ![N, p, q]⟩ ⟨2, ![n, 1]⟩ ⟨3, ![n, p, q]⟩ where
  offsetDims := [1, 2]
  collapsedSliceDims := [0]
  operandBatchingDims := []
  startIndicesBatchingDims := []
  startIndexMap := [0]
  indexVectorDim := 1
  sliceSizes := ![1, p, q]
  wf := wf

/-- Block `a` of the take is the table's block at the word of `a`, read signed and clamped into the table. -/
theorem take_block {α : Type} {N n p q w : ℕ} (hN : 0 < N)
    (wf : GatherDims.WF ⟨3, ![N, p, q]⟩ ⟨2, ![n, 1]⟩ ⟨3, ![n, p, q]⟩ [1, 2] [0] [] [0] [] 1 ![1, p, q])
    (x : (⟨3, ![N, p, q]⟩ : Shape).Idx → α) (idx : IVec ⟨2, ![n, 1]⟩ w) (a : Fin n) (b : Fin p) (c : Fin q) :
    Host.gather (blockDims N n p q wf) x idx (ix3 a b c)
      = x (ix3 (⟨min (idx (ix2 a (0 : Fin 1))).toInt.toNat (N - 1), by omega⟩ : Fin N) b c) := by
  unfold Host.gather
  congr 1
  funext e
  refine Fin.ext ?_
  show (blockDims N n p q wf).start (ix3 a b c) idx e + (blockDims N n p q wf).batchCoord (ix3 a b c) e
      + (blockDims N n p q wf).offCoord (ix3 a b c) e = _
  rw [GatherDims.batchCoord_eq_zero _ _ _ (fun h => by simp [blockDims] at h)]
  match e with
  | ⟨0, _⟩ =>
    rw [GatherDims.offCoord_eq_zero _ _ _ (fun h => ((GatherDims.mem_sKept _ _).mp h).1 (List.mem_singleton.mpr rfl))]
    simp only [Nat.add_zero]
    unfold GatherDims.start
    refine Eq.trans (dif_pos (show (0 : Fin 3) ∈ (blockDims N n p q wf).startIndexMap from List.mem_singleton.mpr rfl)) ?_
    have hsi : (blockDims N n p q wf).siIdx (ix3 a b c) ⟨List.idxOf (0 : Fin 3) (blockDims N n p q wf).startIndexMap,
        List.idxOf_lt_length_iff.2 (List.mem_singleton.mpr rfl)⟩ = ix2 a (0 : Fin 1) := by
      funext f; refine Fin.ext ?_
      match f with
      | ⟨0, _⟩ => rfl
      | ⟨1, _⟩ => rfl
    exact congrArg (fun i => min (idx i).toInt.toNat (N - 1)) hsi
  | ⟨1, _⟩ =>
    unfold GatherDims.start
    refine Eq.trans (congrArg (fun z => z + 0 + (blockDims N n p q wf).offCoord (ix3 a b c) (1 : Fin 3)) (dif_neg (show (1 : Fin 3) ∉ (blockDims N n p q wf).startIndexMap from by simp [blockDims]))) ?_
    simp only [Nat.zero_add]
    rfl
  | ⟨2, _⟩ =>
    unfold GatherDims.start
    refine Eq.trans (congrArg (fun z => z + 0 + (blockDims N n p q wf).offCoord (ix3 a b c) (2 : Fin 3)) (dif_neg (show (2 : Fin 3) ∉ (blockDims N n p q wf).startIndexMap from by simp [blockDims]))) ?_
    simp only [Nat.zero_add]
    rfl

end Cert.Expert

namespace Cert.Reference4Ideal.Experts

open Cert.Reference4Ideal Cert.Reference4Ideal.Gen Idealize.ShloMosaic Idealize.ShloMosaic.TcCoe Idealize.SL.Sem
open Cert.Expert

/-! The reference's stages. -/

abbrev catX (X : IVec S295040x512 32) : FVec Ideal S295040x1024 .f32 :=
  concatenate S295040x1024 1 [⟨S295040x512, (bitcastToFloat (F := Ideal) .f32 (Host.shli X (broadcastInDim S295040x512 ![] bcast_S_S295040x512 (constantI S_ 32 16#32))))⟩, ⟨S295040x512, (bitcastToFloat (F := Ideal) .f32 (andi X (broadcastInDim S295040x512 ![] bcast_S_S295040x512 (constantI S_ 32 4294901760#32))))⟩] concatenates_S295040x512_S295040x512_S295040x1024_d1

abbrev maskX (nv : IVec S461 32) (nu : IVec S1 32) : IVec S461x640x1 1 :=
  broadcastInDim S461x640x1 ![0, 1] bcast_S461x640_S461x640x1_0_1 (andi (cmpi .slt (broadcastInDim S461x640 ![0, 1] bcast_S1x640_S461x640_0_1 (broadcastInDim S1x640 ![1] bcast_S640_S1x640_1 (iotaInDim S640 32 0))) (broadcastInDim S461x640 ![0, 1] bcast_S461x1_S461x640_0_1 (broadcastInDim S461x1 ![0] bcast_S461_S461x1_0 nv))) (broadcastInDim S461x640 ![0, 1] bcast_S461x1_S461x640_0_1 (cmpi .slt (broadcastInDim S461x1 ![0] bcast_S461_S461x1_0 (iotaInDim S461 32 0)) (broadcastInDim S461x1 ![] bcast_S_S461x1 (shapeCast _ nu shapeCasts_S1_S_)))))

abbrev selX (M : IVec S461x640x1 1) (C : FVec Ideal S295040x1024 .f32) : FVec Ideal S461x640x1024 .f32 :=
  select (broadcastInDim S461x640x1024 ![0, 1, 2] bcast_S461x640x1_S461x640x1024_0_1_2 M) (shapeCast _ C shapeCasts_S295040x1024_S461x640x1024) (broadcastInDim S461x640x1024 ![] bcast_S_S461x640x1024 (id (constant S_ .f32 0x00000000#32)))

abbrev takeU (W : FVec Ideal S256x1024x256 .f32) (be : IVec S461 32) : FVec Ideal S461x1024x256 .f32 :=
  Host.gather gather_S256x1024x256_S461x1_S461x1024x256_12_0_n_n_0_1_11024256 W (broadcastInDim S461x1 ![0] bcast_S461_S461x1_0 be)

abbrev takeD (W : FVec Ideal S256x256x1024 .f32) (be : IVec S461 32) : FVec Ideal S461x256x1024 .f32 :=
  Host.gather gather_S256x256x1024_S461x1_S461x256x1024_12_0_n_n_0_1_12561024 W (broadcastInDim S461x1 ![0] bcast_S461_S461x1_0 be)

abbrev firstX (x : FVec Ideal S461x640x1024 .f32) (w : FVec Ideal S461x1024x256 .f32) : FVec Ideal S461x640x256 .f32 :=
  Host.dotGeneral dot_S461x640x1024_S461x1024x256_S461x640x256_2_1_1_2_0_0 none x w

abbrev actX (g u : FVec Ideal S461x640x256 .f32) : FVec Ideal S461x640x256 .f32 :=
  mulf (mulf g (Host.divf (broadcastInDim S461x640x256 ![] bcast_S_S461x640x256 (constant S_ .f32 0x3F800000#32)) (addf (broadcastInDim S461x640x256 ![] bcast_S_S461x640x256 (constant S_ .f32 0x3F800000#32)) (Host.exp (Host.negf g))))) u

abbrev secondX (a : FVec Ideal S461x640x256 .f32) (w : FVec Ideal S461x256x1024 .f32) : FVec Ideal S461x640x1024 .bf16 :=
  truncf .bf16 (Host.dotGeneral dot_S461x640x256_S461x256x1024_S461x640x1024_2_1_1_2_0_0 none a w) bitsLt_bf16_f32

theorem catX_lo (X : IVec S295040x512 32) (R : Fin 295040) (k : Fin 1024) (h : k.val < 512) :
    catX X (ix2 R k) = lo (X (ix2 R (⟨k.val, h⟩ : Fin 512))) := by
  rw [← lo_wide]
  pointwise [h]
  exact congrArg (Ideal.ofBits .f32) (if_pos (by decide))

theorem catX_hi (X : IVec S295040x512 32) (R : Fin 295040) (k : Fin 1024) (h : ¬ k.val < 512) :
    catX X (ix2 R k) = hi (X (ix2 R (⟨k.val - 512, by omega⟩ : Fin 512))) := by
  rw [← hi_wide]
  pointwise [h]
  rfl

theorem maskX_at (nv : IVec S461 32) (nu : IVec S1 32) (b : Fin 461) (r : Fin 640) :
    maskX nv nu (ix3 b r (0 : Fin 1)) = IntOp.andi (heldRow nv b r) (usedBlk nu b) := by
  pointwise [heldRow, usedBlk]

theorem selX_at (M : IVec S461x640x1 1) (C : FVec Ideal S295040x1024 .f32) (b : Fin 461) (r : Fin 640) (k : Fin 1024) :
    selX M C (ix3 b r k) = if M (ix3 b r (0 : Fin 1)) = 1#1 then C (ix2 (rowOf b r) k) else 0 := by
  pointwise [rowOf]
  show (if _ then _ else Ideal.ofBits .f32 0#32) = _
  rw [show Ideal.ofBits .f32 0#32 = (0 : EReal) by simp [Ideal.ofBits, Ideal.ieee]]
  rfl

theorem takeU_at (W : FVec Ideal S256x1024x256 .f32) (be : IVec S461 32) (b : Fin 461) (k : Fin 1024) (f : Fin 256) :
    takeU W be (ix3 b k f) = W (ix3 (ex be b) k f) := by
  refine (take_block (N := 256) (n := 461) (p := 1024) (q := 256) (by omega) _ W _ b k f).trans ?_
  have e : (broadcastInDim S461x1 ![0] bcast_S461_S461x1_0 be) (ix2 b (0 : Fin 1)) = be (ix1 b) := by pointwise
  exact congrArg (fun w : BitVec 32 => W (ix3 (⟨min w.toInt.toNat 255, by omega⟩ : Fin 256) k f)) e

theorem takeD_at (W : FVec Ideal S256x256x1024 .f32) (be : IVec S461 32) (b : Fin 461) (k : Fin 256) (f : Fin 1024) :
    takeD W be (ix3 b k f) = W (ix3 (ex be b) k f) := by
  refine (take_block (N := 256) (n := 461) (p := 256) (q := 1024) (by omega) _ W _ b k f).trans ?_
  have e : (broadcastInDim S461x1 ![0] bcast_S461_S461x1_0 be) (ix2 b (0 : Fin 1)) = be (ix1 b) := by pointwise
  exact congrArg (fun w : BitVec 32 => W (ix3 (⟨min w.toInt.toNat 255, by omega⟩ : Fin 256) k f)) e

theorem firstX_at (x : FVec Ideal S461x640x1024 .f32) (w : FVec Ideal S461x1024x256 .f32) (W : Up) (e : Fin 461 → Fin 256)
    (hw : ∀ b k f, w (ix3 b k f) = W (ix3 (e b) k f)) (b : Fin 461) (r : Fin 640) (f : Fin 256) :
    firstX x w (ix3 b r f) = first (fun k => x (ix3 b r k)) W (e b) f := by
  pointwise [first, hw]

theorem actX_at (g u : FVec Ideal S461x640x256 .f32) (b : Fin 461) (r : Fin 640) (f : Fin 256) :
    actX g u (ix3 b r f) = g (ix3 b r f) * Ideal.logistic (g (ix3 b r f)) * u (ix3 b r f) := by
  pointwise [Ideal.logistic]

theorem secondX_at (a : FVec Ideal S461x640x256 .f32) (w : FVec Ideal S461x256x1024 .f32) (b : Fin 461) (r : Fin 640) (j : Fin 1024) :
    secondX a w (ix3 b r j) = ∑ f : Fin 256, a (ix3 b r f) * w (ix3 b f j) := by
  pointwise

/-- The whole reference at an entry. -/
theorem whole_at (X : IVec S295040x512 32) (be nv : IVec S461 32) (nu : IVec S1 32) (G U : FVec Ideal S256x1024x256 .f32)
    (D : FVec Ideal S256x256x1024 .f32) (b : Fin 461) (r : Fin 640) (j : Fin 1024) :
    secondX (actX (firstX (selX (maskX nv nu) (catX X)) (takeU G be)) (firstX (selX (maskX nv nu) (catX X)) (takeU U be))) (takeD D be) (ix3 b r j)
      = result X be nv nu G U D b r j := by
  have hrow : (fun k => selX (maskX nv nu) (catX X) (ix3 b r k))
      = fun k => if IntOp.andi (heldRow nv b r) (usedBlk nu b) = 1#1 then raw X b r k else 0 := by
    funext k
    rw [selX_at, maskX_at]
    by_cases h : k.val < 512
    · rw [catX_lo X _ k h, raw, dif_pos h]
    · rw [catX_hi X _ k h, raw, dif_neg h]
  have hsum : secondX (actX (firstX (selX (maskX nv nu) (catX X)) (takeU G be)) (firstX (selX (maskX nv nu) (catX X)) (takeU U be))) (takeD D be) (ix3 b r j)
      = second (fun k => selX (maskX nv nu) (catX X) (ix3 b r k)) G U D (ex be b) j := by
    rw [secondX_at]
    show @Eq EReal _ _
    refine Finset.sum_congr rfl fun f _ => ?_
    rw [actX_at, firstX_at _ _ G (ex be) (takeU_at G be), firstX_at _ _ U (ex be) (takeU_at U be), takeD_at]
    rfl
  rw [hsum, hrow, result]
  have key : ∀ a u : BitVec 1, (u = 1#1 → (IntOp.andi a u = 1#1 ↔ a = 1#1)) ∧ (¬ u = 1#1 → ¬ IntOp.andi a u = 1#1) := by decide
  by_cases hu : usedBlk nu b = 1#1
  · rw [if_pos hu]
    congr 1
    funext k
    simp only [(key _ _).1 hu]
    rfl
  · rw [if_neg hu]
    simp only [if_neg ((key (heldRow nv b r) _).2 hu)]
    exact second_zero G U D _ j

variable (m : (ℓ : Loc nD τ sig) → Buf (Elt Ideal) ℓ) (ρ : Dev nD → PrngReg)

/-- An array from its entries. -/
def arr3 (f : Fin 461 → Fin 640 → Fin 1024 → EReal) : FVec Ideal S461x640x1024 .bf16 := fun j => f (j 0) (j 1) (j 2)

/-- What the reference leaves in its result. -/
theorem run : θ_run defs (onTc (τ := τ) (main (F := Ideal))) ⟨m, fun _ => 0, ρ⟩ fun r => ∀ c : Dev nD,
      r.2.mem ((c.tc : Thread nD τ).loc main_v31) = arr3 (result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Value.run (F := Ideal) m ρ)
  obtain ⟨h1, h2⟩ := h c
  refine ⟨h1.trans ?_, h2⟩
  clear h1 h2
  funext j
  idx_vars j
  exact whole_at _ _ _ _ _ _ _ j0 j1 j2

end Cert.Reference4Ideal.Experts

end
-- ==== Proof.ExpertKer.lean ====
/- What the expert product's kernel computes: each used block's rows by its expert's weights, and zero at the blocks
   that are not used. -/
module

public import proofs.«01_k».proof.Proof.ExpertGood
public import proofs.«01_k».proof.Proof.ExpertPoint
public import proofs.«01_k».proof.Proof.ExpertRef
public import Idealize.ShloMosaic.Lib.Pipeline.ValueKit
public import Idealize.ShloMosaic.Lib.Claim

@[expose] public section

set_option maxRecDepth 16384

noncomputable section

namespace Cert.Expert

open Cert.Kernel4Ideal Cert.Kernel4Ideal.Gen
open Idealize.ShloMosaic Idealize.ShloMosaic.TcCoe Idealize.SL.Sem
open Idealize.ShloMosaic.Pipeline (Dat Window)

variable (m : (ℓ : Loc nD τ sig) → Buf (Elt Ideal) ℓ) (ρ : Dev nD → PrngReg)

/-- The block the rows' and the output's windows stage at a point. -/
abbrev rowBlk (t : Fin grid0.N) : Fin 461 := ⟨min t.val (nUsed m - 1), by have := lt_461 t; omega⟩

theorem read0 (g : Good m) (c : Dev nD) (t : Fin grid0.N) (r : Fin 640) (k : Fin 512) :
    (iblk m g.ok c 0 t : IVec S640x512 32) (ix2 r k) = m ((c.tc : Thread nD τ).loc main_arg0) (ix2 (rowOf (rowBlk m t) r) k) := by
  have e : ((((cfgM m g.ok).win 0).blk t).view.emb (ix2 r k : S640x512.Idx)) = (ix2 (rowOf (rowBlk m t) r) k : S295040x512.Idx) := by
    refine funext (Fin.forall_fin_two.2 ⟨Fin.ext ?_, Fin.ext ?_⟩)
    · refine (Window.rect_emb_val ((cfgM m g.ok).win 0) t (ix2 r k : S640x512.Idx) (0 : Fin 2)).trans ?_
      rw [index0 m g t]
      show min t.val (nUsed m - 1) * 640 + r.val = min t.val (nUsed m - 1) * 640 + r.val
      rfl
    · refine (Window.rect_emb_val ((cfgM m g.ok).win 0) t (ix2 r k : S640x512.Idx) (1 : Fin 2)).trans ?_
      rw [index0 m g t]
      show 0 * 512 + k.val = k.val
      omega
  refine (congrArg (V m c main_arg0) e).trans ?_
  exact congrFun (V_main_arg0 m c) _

/-- The weights' block at a point. -/
abbrev wBlk (t : Fin grid0.N) : ℕ := (wordAt (tb3 m) (k0_off1 (grid0.coords t)) (k0_off1_inb _)).toNat

theorem read1 (hO : Ok m) (c : Dev nD) (t : Fin grid0.N) (h : wBlk m t < 256) (k : Fin 1024) (f : Fin 256) :
    (iblk m hO c 1 t : FVec Ideal S1x1024x256 .f32) (ix3 (0 : Fin 1) k f) = m ((c.tc : Thread nD τ).loc main_arg4) (ix3 (⟨wBlk m t, h⟩ : Fin 256) k f) := by
  have e : ((((cfgM m hO).win 1).blk t).view.emb (ix3 (0 : Fin 1) k f : S1x1024x256.Idx)) = (ix3 (⟨wBlk m t, h⟩ : Fin 256) k f : S256x1024x256.Idx) := by
    funext a
    apply Fin.ext
    refine (Window.rect_emb_val ((cfgM m hO).win 1) t (ix3 (0 : Fin 1) k f : S1x1024x256.Idx) a).trans ?_
    rw [index1 m hO t]
    match a with
    | ⟨0, _⟩ => show wBlk m t * 1 + 0 = wBlk m t; omega
    | ⟨1, _⟩ => show 0 * 1024 + k.val = k.val; omega
    | ⟨2, _⟩ => show 0 * 256 + f.val = f.val; omega
  refine (congrArg (V m c main_arg4) e).trans ?_
  exact congrFun (V_main_arg4 m c) _
theorem read2 (hO : Ok m) (c : Dev nD) (t : Fin grid0.N) (h : wBlk m t < 256) (k : Fin 1024) (f : Fin 256) :
    (iblk m hO c 2 t : FVec Ideal S1x1024x256 .f32) (ix3 (0 : Fin 1) k f) = m ((c.tc : Thread nD τ).loc main_arg5) (ix3 (⟨wBlk m t, h⟩ : Fin 256) k f) := by
  have e : ((((cfgM m hO).win 2).blk t).view.emb (ix3 (0 : Fin 1) k f : S1x1024x256.Idx)) = (ix3 (⟨wBlk m t, h⟩ : Fin 256) k f : S256x1024x256.Idx) := by
    funext a
    apply Fin.ext
    refine (Window.rect_emb_val ((cfgM m hO).win 2) t (ix3 (0 : Fin 1) k f : S1x1024x256.Idx) a).trans ?_
    rw [index2 m hO t]
    match a with
    | ⟨0, _⟩ => show wBlk m t * 1 + 0 = wBlk m t; omega
    | ⟨1, _⟩ => show 0 * 1024 + k.val = k.val; omega
    | ⟨2, _⟩ => show 0 * 256 + f.val = f.val; omega
  refine (congrArg (V m c main_arg5) e).trans ?_
  exact congrFun (V_main_arg5 m c) _
theorem read3 (hO : Ok m) (c : Dev nD) (t : Fin grid0.N) (h : wBlk m t < 256) (f : Fin 256) (j : Fin 1024) :
    (iblk m hO c 3 t : FVec Ideal S1x256x1024 .f32) (ix3 (0 : Fin 1) f j) = m ((c.tc : Thread nD τ).loc main_arg6) (ix3 (⟨wBlk m t, h⟩ : Fin 256) f j) := by
  have e : ((((cfgM m hO).win 3).blk t).view.emb (ix3 (0 : Fin 1) f j : S1x256x1024.Idx)) = (ix3 (⟨wBlk m t, h⟩ : Fin 256) f j : S256x256x1024.Idx) := by
    funext a
    apply Fin.ext
    refine (Window.rect_emb_val ((cfgM m hO).win 3) t (ix3 (0 : Fin 1) f j : S1x256x1024.Idx) a).trans ?_
    rw [index3 m hO t]
    match a with
    | ⟨0, _⟩ => show wBlk m t * 1 + 0 = wBlk m t; omega
    | ⟨1, _⟩ => show 0 * 256 + f.val = f.val; omega
    | ⟨2, _⟩ => show 0 * 1024 + j.val = j.val; omega
  refine (congrArg (V m c main_arg6) e).trans ?_
  exact congrFun (V_main_arg6 m c) _

/-- A used point's weights are its block's expert's. -/
theorem wBlk_eq (h : InRange (be0 m) (nu0 m)) (b : Fin 461) (t : Fin grid0.N) (ht : t.val = b.val) (hu : t.val < nUsed m) :
    wBlk m t = (ex (be0 m) b).val := by
  have g := good_of m h
  have h0 := h.lo (ix1 b)
  have h1 := h.hi (ix1 b)
  have e : wordAt (tb3 m) (k0_off1 (grid0.coords t)) (k0_off1_inb _) = be0 m (ix1 b) := by
    rw [g.same t hu, wordAt_eq _ (lt_461 t) (off2_eq t), tb0_eq]
    exact congrArg (be0 m) (congrArg (fun b : Fin 461 => (ix1 b : S461.Idx)) (Fin.ext ht))
  show (wordAt (tb3 m) (k0_off1 (grid0.coords t)) (k0_off1_inb _)).toNat = min (be0 m (ix1 b)).toInt.toNat 255
  rw [e]
  rw [BitVec.toInt_eq_toNat_cond] at h0 h1 ⊢
  have := (be0 m (ix1 b)).isLt
  split at h0 <;> rename_i hc
  · rw [if_pos hc] at h1 ⊢; omega
  · omega

abbrev res (c : Dev nD) : Fin 461 → Fin 640 → Fin 1024 → EReal :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- The output of a used point. -/
theorem outAt_at (h : InRange (be0 m) (nu0 m)) (g : Good m) (c : Dev nD) (b : Fin 461) (t : Fin grid0.N) (ht : t.val = b.val) (hu : t.val < nUsed m) (r : Fin 640) (j : Fin 1024) :
    (outAt m g.ok c t : FVec Ideal S640x1024 .bf16) (ix2 r j)
      = second (xin (m ((c.tc : Thread nD τ).loc main_arg0)) (m ((c.tc : Thread nD τ).loc main_arg2)) b r)
          (m ((c.tc : Thread nD τ).loc main_arg4)) (m ((c.tc : Thread nD τ).loc main_arg5)) (m ((c.tc : Thread nD τ).loc main_arg6))
          (ex (m ((c.tc : Thread nD τ).loc main_arg1)) b) j := by
  obtain rfl : c = 0 := Subsingleton.elim _ _
  have hb := wBlk_eq m h b t ht hu
  have hlt : wBlk m t < 256 := by rw [hb]; exact (ex (be0 m) b).isLt
  have he : (⟨wBlk m t, hlt⟩ : Fin 256) = ex (be0 m) b := Fin.ext hb
  have hr : rowBlk m t = b := Fin.ext (by show min t.val (nUsed m - 1) = b.val; omega)
  refine out_at _ _ _ _ _ b _ _ _ _ _ _ ?_ (fun r k => (read0 m g 0 t r k).trans ?_) (fun k f => (read1 m g.ok 0 t hlt k f).trans ?_)
    (fun k f => (read2 m g.ok 0 t hlt k f).trans ?_) (fun f j => (read3 m g.ok 0 t hlt f j).trans ?_) r j
  · rw [wordAt_eq _ (lt_461 t) (off4_eq t), tb1_eq]
    exact congrArg (nv0 m) (congrArg (fun b : Fin 461 => (ix1 b : S461.Idx)) (Fin.ext ht))
  · rw [hr]
  · rw [he]
  · rw [he]
  · rw [he]

/-! ## The output array -/

theorem flush4 (g : Good m) (t : Fin grid0.N) :
    ((cfgM m g.ok).win 4).flush t = true ↔ t.val + 1 = 461 ∨ t.val + 1 < nUsed m := by
  have ht := lt_461 t
  have hp := nUsed_pos m g
  rw [Window.flush, Bool.and_eq_true_iff, Bool.or_eq_true_iff, decide_eq_true_iff, decide_eq_true_iff]
  have hin : ∀ h : t.val + 1 < grid0.N, (((cfgM m g.ok).win 4).index ⟨t.val + 1, h⟩ ≠ ((cfgM m g.ok).win 4).index t ↔ t.val + 1 < nUsed m) := fun h => by
    rw [index4 m g, index4 m g]
    show ¬ ![min (t.val + 1) (nUsed m - 1), 0] = ![min t.val (nUsed m - 1), 0] ↔ _
    constructor
    · intro hn
      by_contra hc
      exact hn (by rw [show min (t.val + 1) (nUsed m - 1) = min t.val (nUsed m - 1) by omega])
    · intro hlt he
      have := congrFun he 0
      have : min (t.val + 1) (nUsed m - 1) = min t.val (nUsed m - 1) := this
      omega
  constructor
  · rintro ⟨_, h | ⟨h, hne⟩⟩
    · exact .inl h
    · exact .inr ((hin h).mp hne)
  · intro h
    refine ⟨rfl, ?_⟩
    by_cases h1 : t.val + 1 = 461
    · exact .inl h1
    · have hlt : t.val + 1 < grid0.N := by show t.val + 1 < 461; omega
      exact .inr ⟨hlt, (hin hlt).mpr (h.resolve_left h1)⟩

/-- The point that writes a used block back: its own, or the grid's last where it is the last used block. -/
def backPt (b : Fin 461) : Fin grid0.N := if b.val + 1 < nUsed m then ⟨b.val, b.isLt⟩ else ⟨460, by show 460 < 461; omega⟩

theorem back_flush (g : Good m) (b : Fin 461) : ((cfgM m g.ok).win 4).flush (backPt m b) = true := by
  rw [flush4 m g, backPt]
  split
  · rename_i h; exact .inr h
  · exact .inl rfl

theorem back_min (g : Good m) (b : Fin 461) (hb : b.val < nUsed m) : min (backPt m b).val (nUsed m - 1) = b.val := by
  have hp := nUsed_pos m g
  have := b.isLt
  rw [backPt]
  split
  · show min b.val _ = _; omega
  · show min 460 _ = _; omega

theorem disj4 (g : Good m) : ∀ t t' : Fin grid0.N, ((cfgM m g.ok).win 4).flush t = true → ((cfgM m g.ok).win 4).flush t' = true → t ≠ t' →
    Disjoint (((cfgM m g.ok).win 4).blk t).view.set (((cfgM m g.ok).win 4).blk t').view.set :=
  Window.hdisj_of_index_inj ((cfgM m g.ok).win 4) fun t t' h h' e => by
    have ht := lt_461 t
    have ht' := lt_461 t'
    rw [flush4 m g] at h h'
    rw [index4 m g, index4 m g] at e
    have e0 : min t.val (nUsed m - 1) = min t'.val (nUsed m - 1) := congrFun e 0
    apply Fin.ext
    omega

theorem out4 (h : InRange (be0 m) (nu0 m)) (g : Good m) (c : Dev nD) (b : Fin 461) (hb : b.val < nUsed m) (r : Fin 640) (j : Fin 1024) :
    ((dats m g.ok 0 c).arrAt 4 grid0.N : FVec Ideal S295040x1024 .bf16) (ix2 (rowOf b r) j)
      = second (xin (m ((c.tc : Thread nD τ).loc main_arg0)) (m ((c.tc : Thread nD τ).loc main_arg2)) b r)
          (m ((c.tc : Thread nD τ).loc main_arg4)) (m ((c.tc : Thread nD τ).loc main_arg5)) (m ((c.tc : Thread nD τ).loc main_arg6))
          (ex (m ((c.tc : Thread nD τ).loc main_arg1)) b) j := by
  have hm := back_min m g b hb
  have e : ((((cfgM m g.ok).win 4).blk (backPt m b)).view.emb (ix2 r j : S640x1024.Idx)) = (ix2 (rowOf b r) j : S295040x1024.Idx) := by
    refine funext (Fin.forall_fin_two.2 ⟨Fin.ext ?_, Fin.ext ?_⟩)
    · refine (Window.rect_emb_val ((cfgM m g.ok).win 4) (backPt m b) (ix2 r j : S640x1024.Idx) (0 : Fin 2)).trans ?_
      rw [index4 m g]
      show min (backPt m b).val (nUsed m - 1) * 640 + r.val = b.val * 640 + r.val
      rw [hm]
    · refine (Window.rect_emb_val ((cfgM m g.ok).win 4) (backPt m b) (ix2 r j : S640x1024.Idx) (1 : Fin 2)).trans ?_
      rw [index4 m g]
      show 0 * 1024 + j.val = j.val
      omega
  have k := (dats m g.ok 0 c).arrAt_emb_eq_flushed 4 (disj4 m g) (backPt m b) (back_flush m g b) (ix2 r j : S640x1024.Idx)
  refine (congrArg ((dats m g.ok 0 c).arrAt 4 grid0.N : FVec Ideal S295040x1024 .bf16) e).symm.trans (k.trans ?_)
  have k2 : (dats m g.ok 0 c).after 4 (backPt m b) = outAt m g.ok c (lastUsed m (backPt m b)) := after0_4 m g.ok c (backPt m b)
  refine (congrFun k2 (ix2 r j : S640x1024.Idx)).trans ?_
  exact outAt_at m h g c b (lastUsed m (backPt m b)) hm (by show min (backPt m b).val (nUsed m - 1) < _; omega) r j

/-! ## The host operations after the region -/

/-- The blocks' mask. -/
abbrev usedMask (nu : IVec S1 32) : IVec S461x1x1 1 :=
  cmpi .slt (broadcastInDim S461x1x1 ![0] bcast_S461_S461x1x1_0 (iotaInDim S461 32 0)) (broadcastInDim S461x1x1 ![] bcast_S_S461x1x1 (shapeCast S_ nu shapeCasts_S1_S_))

/-- The result from the output array and the mask. -/
def tailOf (k : IVec S461x1x1 1) (x : FVec Ideal S295040x1024 .bf16) : FVec Ideal S461x640x1024 .bf16 :=
  select (broadcastInDim S461x640x1024 ![0, 1, 2] bcast_S461x1x1_S461x640x1024_0_1_2 k) (shapeCast S461x640x1024 x shapeCasts_S295040x1024_S461x640x1024)
    (broadcastInDim S461x640x1024 ![] bcast_S_S461x640x1024 (sitofp .bf16 (constantI S_ 32 0#32)))

theorem tail_read (W : Valuation τ sig (Elt Ideal)) :
    StableHlo.after (List.flatten [hostOps1, hostOps1_1]) W (Proc.devRef .tc main_v13)
      = tailOf (W (Proc.devRef .tc main_v4)) (W (Proc.devRef .tc main_v11)) := by
  simp only [hostOps1, hostOps1_1, List.flatten_cons, List.flatten_nil, List.append_nil, List.cons_append, List.nil_append]
  entry_read
  rfl

theorem V_v4 (c : Dev nD) : V m c main_v4 = usedMask (m ((c.tc : Thread nD τ).loc main_arg3)) := by
  simp only [V, V0, hostOps0, hostOps0_1, List.flatten_cons, List.flatten_nil, List.append_nil, List.cons_append, List.nil_append]
  entry_read
  rfl

theorem tail_value (g : Good m) (c : Dev nD) :
    Pipeline.afterTail pcfgs (fun _ => adm m g.ok) (dats m g.ok) 0 (V0 m) [hostOps1, hostOps1_1] c main_v13
      = tailOf (usedMask (m ((c.tc : Thread nD τ).loc main_arg3))) ((dats m g.ok 0 c).arrAt 4 grid0.N) := by
  unfold Pipeline.afterTail
  refine (tail_read _).trans (congrArg₂ tailOf ?_ ?_)
  · exact (Pipeline.withArrays_of_ne _ c (V0 m c) _ main_v4 (by exact (by decide : ∀ w, Pipeline.arrRef spec0 w ≠ main_v4))).trans (V_v4 m c)
  · exact Pipeline.withArrays_arr spec0 (by decide) c (V0 m c) _ 4

theorem usedMask_at (nu : IVec S1 32) (b : Fin 461) : usedMask nu (ix3 b (0 : Fin 1) (0 : Fin 1)) = usedBlk nu b := by
  pointwise [usedBlk]

theorem tailOf_at (k : IVec S461x1x1 1) (x : FVec Ideal S295040x1024 .bf16) (b : Fin 461) (r : Fin 640) (j : Fin 1024) :
    tailOf k x (ix3 b r j) = if k (ix3 b (0 : Fin 1) (0 : Fin 1)) = 1#1 then x (ix2 (rowOf b r) j) else 0 := by
  unfold tailOf
  pointwise
  have e : (FloatOps.sitofp (F := Ideal) .bf16 0#32) = (0 : EReal) := by
    show (((0#32 : BitVec 32).toInt : ℝ) : EReal) = 0
    simp
  rw [e]
  rfl

theorem value_at (h : InRange (be0 m) (nu0 m)) (g : Good m) (c : Dev nD) :
    Pipeline.afterTail pcfgs (fun _ => adm m g.ok) (dats m g.ok) 0 (V0 m) [hostOps1, hostOps1_1] c main_v13
      = Cert.Reference4Ideal.Experts.arr3 (res m c) := by
  refine (tail_value m g c).trans ?_
  funext i
  idx_vars i
  refine (tailOf_at _ _ i0 i1 i2).trans ?_
  rw [usedMask_at]
  show _ = res m c i0 i1 i2
  unfold res result
  by_cases hu : usedBlk (m ((c.tc : Thread nD τ).loc main_arg3)) i0 = 1#1
  · refine (if_pos hu).trans (Eq.trans ?_ (if_pos hu).symm)
    refine out4 m h g c i0 ?_ i1 i2
    obtain rfl : c = 0 := Subsingleton.elim _ _
    have hp := g.pos
    rw [usedBlk, WordCmp.cmpi_slt_eq, WordCmp.ofBool_decide_eq_one_iff, toInt_small i0.isLt] at hu
    have e : usedWord (tb2 m) = nu0 m (ix1 (0 : Fin 1)) := by rw [tb2_eq, usedWord_eq]
    have e2 := toInt_pos hp
    have e3 : (usedWord (tb2 m)).toInt = (nu0 m (ix1 (0 : Fin 1))).toInt := by rw [e]
    have hu' : (i0.val : ℤ) < (nu0 m (ix1 (0 : Fin 1))).toInt := hu
    show i0.val < (usedWord (tb2 m)).toNat
    omega
  · exact (if_neg hu).trans (if_neg hu).symm

/-- What the kernel leaves in its result, and its arguments. -/
theorem run_value (h : InRange (be0 m) (nu0 m)) : θ_run defs (onTc (τ := τ) (main (F := Ideal))) ⟨m, fun _ => 0, ρ⟩ fun r => ∀ c : Dev nD,
      r.2.mem ((c.tc : Thread nD τ).loc main_v13) = Cert.Reference4Ideal.Experts.arr3 (res m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have g := good_of m h
  refine (θ_run defs _ _).mono (fun r hr c => ⟨?_, hr.2.1 c⟩) (θ_run_and (run_main m ρ g) (frame m ρ g))
  exact ((hr.1 c).2 main_v13 (by decide : main_v13 ∈ Pipeline.restRefs sig spec0)).trans (value_at m h g c)

end Cert.Expert

end
-- ==== Proof.ExpertClaim.lean ====
/- The claims about the experts' layer: the frames under the tables' precondition, and equal results. -/
module

public import proofs.«01_k».proof.Defs
public import proofs.«01_k».proof.Proof.ExpertKer
public import proofs.«01_k».proof.Proof.WordsGood

@[expose] public section

noncomputable section

namespace Cert.Expert

open Idealize.ShloMosaic Idealize.SL.Sem

theorem frame_kernel : Cert.quiescent_Kernel4 (hKernel4 := Cert.Kernel4.Gen.facts) (hPre_tables_in_range := Cert.Pre_tables_in_range.Gen.facts) :=
  fun m g hp => Cert.ExpertWords.frame m g (Cert.ExpertWords.good_of m (Cert.ExpertWords.inRange_of _ _ _ _ _ _ _ (hp 0)))

theorem inRange (m : (ℓ : Loc Cert.Kernel4Ideal.nD Cert.Kernel4Ideal.τ Cert.Kernel4Ideal.sig) → Buf (Elt Ideal) ℓ)
    (hp : Cert.Pre_Kernel4Ideal (hPre_tables_in_range := Cert.Pre_tables_in_range.Gen.facts) m) : InRange (be0 m) (nu0 m) :=
  inRange_of _ _ _ _ _ _ _ (hp 0)

theorem frame_ideal : Cert.quiescent_Kernel4Ideal (hKernel4Ideal := Cert.Kernel4Ideal.Gen.facts) (hPre_tables_in_range := Cert.Pre_tables_in_range.Gen.facts) :=
  fun m g hp => frame m g (good_of m (inRange m hp))

theorem frame_ref : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Experts.run m g)

theorem frame_ref_pre : Cert.quiescent_Reference4Ideal_pre_tables_in_range (hReference4Ideal := Cert.Reference4Ideal.Gen.facts)
    (hPre_tables_in_range := Cert.Pre_tables_in_range.Gen.facts) := fun m g _ =>
  (θ_run _ _ _).mono (fun r h => ⟨fun c => (h c).2, sem_eq_zero_of_no_sems (by decide) r.2⟩) (Cert.Reference4Ideal.Experts.run m g)

theorem value : Cert.algebraic_Kernel4Ideal_Reference4Ideal (hKernel4Ideal := Cert.Kernel4Ideal.Gen.facts)
    (hReference4Ideal := Cert.Reference4Ideal.Gen.facts) (hPre_tables_in_range := Cert.Pre_tables_in_range.Gen.facts) := by
  intro m g m' g' hp hagree
  refine ⟨fun c => Cert.Reference4Ideal.Experts.arr3 (res m c), run_value m g (inRange m hp), ?_⟩
  refine (θ_run _ _ _).mono (fun r h c => ?_) (Cert.Reference4Ideal.Experts.run m' g')
  obtain ⟨a0, a1, a2, a3, a4, a5, a6⟩ := hagree c
  obtain ⟨h1, h2⟩ := h c
  refine ⟨h1.trans (congrArg Cert.Reference4Ideal.Experts.arr3 ?_), h2⟩
  unfold res
  rw [a0, a1, a2, a3, a4, a5, a6]

end Cert.Expert

end
-- ==== Proof.CombineRun.lean ====
/- The run of the combination with the contents it ends at: every buffer outside the kernels' own is at the last
   boundary's contents. -/
module

public import proofs.«01_k».proof.Proof.Gen.Kernel5Ideal.Frame

@[expose] public section

set_option maxRecDepth 16384

noncomputable section

namespace Cert.Combine

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with each buffer at the last boundary's contents. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Cert.Combine
-- ==== Proof.CombineMath.lean ====
/- The combination of the experts' rows as numbers: one token's output from its gathered rows. -/
module

public import proofs.«01_k».proof.Proof.ExpertMath
public import Idealize.ShloMosaic.Lib.Pointwise

@[expose] public section

set_option maxRecDepth 16384

noncomputable section

namespace Cert.Combine

open Idealize.ShloMosaic Cert.Expert

/-- Entry `k` of a packed row: the low halves, then the high halves. -/
def half (f : Fin 512 → BitVec 32) (k : Fin 1024) : EReal :=
  if h : (k : ℕ) < 512 then lo (f ⟨k, h⟩) else hi (f ⟨k - 512, by omega⟩)

/-- A token after the layer: its residual plus the gate times its experts' weighted rows and the shared row. -/
def upd (Y : Fin 8 → Fin 512 → BitVec 32) (w : Fin 8 → EReal) (s : Fin 512 → BitVec 32) (x gate : Fin 1024 → EReal) (k : Fin 1024) : EReal :=
  x k + gate k * ((∑ e, half (Y e) k * w e) + half s k)

/-- A row divided by its root mean square, times the gain. -/
def norm (z g : Fin 1024 → EReal) (k : Fin 1024) : EReal :=
  z k * Ideal.rsqrt (Ideal.div (∑ l, z l * z l) (Ideal.ofBits .f32 0x44800000#32) + Ideal.ofBits .f32 0x358637BD#32) * g k

abbrev Rows := (⟨4, ![32, 8, 128, 512]⟩ : Shape).Idx → BitVec 32
abbrev Wts := (⟨2, ![16384, 8]⟩ : Shape).Idx → EReal
abbrev Toks := (⟨2, ![16384, 1024]⟩ : Shape).Idx → EReal
abbrev Shared := (⟨2, ![16384, 512]⟩ : Shape).Idx → BitVec 32
abbrev Mods := (⟨3, ![8, 6, 1024]⟩ : Shape).Idx → EReal
abbrev Gain := (⟨1, ![1024]⟩ : Shape).Idx → EReal

/-- The gathered rows of token `r` of one part of the batch, whose first 4096 tokens lie in one array and the others in
    the next, 128 tokens to a block. -/
def gath (G H : Rows) (r : Fin 8192) (e : Fin 8) (k : Fin 512) : BitVec 32 :=
  if h : (r : ℕ) < 4096 then G (ix4 (⟨r / 128, by omega⟩ : Fin 32) e (⟨r % 128, by omega⟩ : Fin 128) k)
  else H (ix4 (⟨(r - 4096) / 128, by omega⟩ : Fin 32) e (⟨r % 128, by omega⟩ : Fin 128) k)

/-- Token `r` of the part that begins at row `o`, which reads row `q` of the modulation table. -/
def out (o : ℕ) (ho : o ≤ 8192) (q : Fin 8) (G H : Rows) (w : Wts) (x : Toks) (s : Shared) (M : Mods) (g : Gain)
    (r : Fin 8192) (k : Fin 1024) : EReal :=
  norm (upd (gath G H r) (fun e => w (ix2 (⟨o + r, by omega⟩ : Fin 16384) e)) (fun i => s (ix2 (⟨o + r, by omega⟩ : Fin 16384) i))
    (fun l => x (ix2 (⟨o + r, by omega⟩ : Fin 16384) l)) (fun l => M (ix3 q (5 : Fin 6) l))) (fun l => g (ix1 l)) k

/-- The context's tokens, and the latents'. -/
def context (G H : Rows) (w : Wts) (x : Toks) (s : Shared) (M : Mods) (g : Gain) : FVec Ideal ⟨3, ![32, 256, 1024]⟩ .f32 :=
  fun j => out 0 (by omega) 0 G H w x s M g ⟨(j 0 : ℕ) * 256 + (j 1 : ℕ), by have := (j 0).isLt; have := (j 1).isLt; simp at *; omega⟩ (j 2)
def latent (G H : Rows) (w : Wts) (x : Toks) (s : Shared) (M : Mods) (g : Gain) : FVec Ideal ⟨3, ![4, 2048, 1024]⟩ .f32 :=
  fun j => out 8192 (by omega) ⟨1 + (j 0 : ℕ), by have := (j 0).isLt; simp at *; omega⟩ G H w x s M g
    ⟨(j 0 : ℕ) * 2048 + (j 1 : ℕ), by have := (j 0).isLt; have := (j 1).isLt; simp at *; omega⟩ (j 2)

/-- Eight weighted rows added one after the other. -/
theorem sum_rows (a w : Fin 8 → EReal) :
    w 0 * a 0 + w 1 * a 1 + w 2 * a 2 + w 3 * a 3 + w 4 * a 4 + w 5 * a 5 + w 6 * a 6 + w 7 * a 7 = ∑ e, a e * w e := by
  simp only [Fin.sum_univ_eight, mul_comm]

end Cert.Combine
-- ==== Proof.CombinePoint.lean ====
/- One block of the combination as numbers: a row of the block's output from the rows of its blocks. -/
module

public import proofs.«01_k».proof.Proof.Gen.Kernel5Ideal.Skeleton
public import proofs.«01_k».proof.Proof.CombineMath
public import Idealize.ShloMosaic.Lib.Pointwise

@[expose] public section

set_option maxRecDepth 16384

noncomputable section

namespace Cert.Combine

open Cert.Kernel5Ideal Cert.Kernel5Ideal.Gen
open Idealize.ShloMosaic Idealize.ShloMosaic.TcCoe Cert.Expert

theorem open0_at (x : IVec S128x512 32) (a : Fin 128) (l : Fin 512) : (unpackElementwise (F := Ideal) 0 x : FVec Ideal S128x512 .f32) (ix2 a l) = lo (x (ix2 a l)) := rfl
theorem open1_at (x : IVec S128x512 32) (a : Fin 128) (l : Fin 512) : (unpackElementwise (F := Ideal) 1 x : FVec Ideal S128x512 .f32) (ix2 a l) = hi (x (ix2 a l)) := rfl

section
variable (v0 : Vec Ideal S128x8 .f32) (y0 y1 y2 y3 y4 y5 y6 y7 : Vec Ideal S1x1x128x512 .i32) (a : Fin 128) (l : Fin 512)

/-- The low halves of the first seven rows, weighted and added up, and the high halves. -/
abbrev accLo : FVec Ideal S128x512 .f32 :=
  k0_pay14 v0 (k0_pay5 v0 y0 y1 y2) (k0_pay8 y3) (k0_pay10 v0) y4 y5 y6
abbrev accHi : FVec Ideal S128x512 .f32 :=
  k0_pay15 v0 (k0_pay6 v0 y0 y1 y2) (k0_pay9 y3) y4 y5 y6

theorem accLo_at : accLo v0 y0 y1 y2 y3 y4 y5 y6 (ix2 a l) = v0 (ix2 a (0 : Fin 8)) * lo (y0 (ix4 (0 : Fin 1) (0 : Fin 1) a l))
    + v0 (ix2 a (1 : Fin 8)) * lo (y1 (ix4 (0 : Fin 1) (0 : Fin 1) a l)) + v0 (ix2 a (2 : Fin 8)) * lo (y2 (ix4 (0 : Fin 1) (0 : Fin 1) a l))
    + v0 (ix2 a (3 : Fin 8)) * lo (y3 (ix4 (0 : Fin 1) (0 : Fin 1) a l)) + v0 (ix2 a (4 : Fin 8)) * lo (y4 (ix4 (0 : Fin 1) (0 : Fin 1) a l))
    + v0 (ix2 a (5 : Fin 8)) * lo (y5 (ix4 (0 : Fin 1) (0 : Fin 1) a l)) + v0 (ix2 a (6 : Fin 8)) * lo (y6 (ix4 (0 : Fin 1) (0 : Fin 1) a l)) := by
  pointwise [k0_pay14, k0_pay5, k0_pay8, k0_pay10, k0_pay2, k0_pay3, k0_pay4, k0_pay7, k0_pay11, k0_pay12, k0_pay13, open0_at]

theorem accHi_at : accHi v0 y0 y1 y2 y3 y4 y5 y6 (ix2 a l) = v0 (ix2 a (0 : Fin 8)) * hi (y0 (ix4 (0 : Fin 1) (0 : Fin 1) a l))
    + v0 (ix2 a (1 : Fin 8)) * hi (y1 (ix4 (0 : Fin 1) (0 : Fin 1) a l)) + v0 (ix2 a (2 : Fin 8)) * hi (y2 (ix4 (0 : Fin 1) (0 : Fin 1) a l))
    + v0 (ix2 a (3 : Fin 8)) * hi (y3 (ix4 (0 : Fin 1) (0 : Fin 1) a l)) + v0 (ix2 a (4 : Fin 8)) * hi (y4 (ix4 (0 : Fin 1) (0 : Fin 1) a l))
    + v0 (ix2 a (5 : Fin 8)) * hi (y5 (ix4 (0 : Fin 1) (0 : Fin 1) a l)) + v0 (ix2 a (6 : Fin 8)) * hi (y6 (ix4 (0 : Fin 1) (0 : Fin 1) a l)) := by
  pointwise [k0_pay15, k0_pay6, k0_pay9, k0_pay2, k0_pay3, k0_pay4, k0_pay7, k0_pay11, k0_pay12, k0_pay13, open1_at]

theorem pay16_at : k0_pay16 (F := Ideal) y7 (ix2 a l) = y7 (ix4 (0 : Fin 1) (0 : Fin 1) a l) := by
  pointwise [k0_pay16]
end

/-- The last step: the eighth row, the shared row, the residual and the norm. -/
theorem pay1_at (v0 : Vec Ideal S128x8 .f32) (A B : FVec Ideal S128x512 .f32) (y : IVec S128x512 32) (s : Vec Ideal S128x512 .i32)
    (x : Vec Ideal S128x1024 .f32) (M : Vec Ideal S1x1x1024 .f32) (g : Vec Ideal S1x1024 .f32) (a : Fin 128) (k : Fin 1024) :
    k0_pay1 (F := Ideal) v0 A B y s x M g (ix2 a k) = norm (fun k => x (ix2 a k) + M (ix3 (0 : Fin 1) (0 : Fin 1) k)
      * (if h : (k : ℕ) < 512 then A (ix2 a (⟨k, h⟩ : Fin 512)) + v0 (ix2 a (7 : Fin 8)) * lo (y (ix2 a (⟨k, h⟩ : Fin 512))) + lo (s (ix2 a (⟨k, h⟩ : Fin 512)))
        else B (ix2 a (⟨k - 512, by omega⟩ : Fin 512)) + v0 (ix2 a (7 : Fin 8)) * hi (y (ix2 a (⟨k - 512, by omega⟩ : Fin 512))) + hi (s (ix2 a (⟨k - 512, by omega⟩ : Fin 512)))))
      (fun l => g (ix2 (0 : Fin 1) l)) k := by
  pointwise [k0_pay1, norm, open0_at, open1_at]

/-- A row of the block's output, from the rows of the blocks it reads. -/
theorem row_at (v0 : Vec Ideal S128x8 .f32) (y0 y1 y2 y3 y4 y5 y6 y7 : Vec Ideal S1x1x128x512 .i32) (s : Vec Ideal S128x512 .i32)
    (x : Vec Ideal S128x1024 .f32) (M : Vec Ideal S1x1x1024 .f32) (g : Vec Ideal S1x1024 .f32) (a : Fin 128) (k : Fin 1024)
    (Y : Fin 8 → Fin 512 → BitVec 32) (w : Fin 8 → EReal) (sr : Fin 512 → BitVec 32) (xr gate gr : Fin 1024 → EReal)
    (hw : ∀ e, v0 (ix2 a e) = w e) (h0 : ∀ l, y0 (ix4 (0 : Fin 1) (0 : Fin 1) a l) = Y 0 l) (h1 : ∀ l, y1 (ix4 (0 : Fin 1) (0 : Fin 1) a l) = Y 1 l)
    (h2 : ∀ l, y2 (ix4 (0 : Fin 1) (0 : Fin 1) a l) = Y 2 l) (h3 : ∀ l, y3 (ix4 (0 : Fin 1) (0 : Fin 1) a l) = Y 3 l)
    (h4 : ∀ l, y4 (ix4 (0 : Fin 1) (0 : Fin 1) a l) = Y 4 l) (h5 : ∀ l, y5 (ix4 (0 : Fin 1) (0 : Fin 1) a l) = Y 5 l)
    (h6 : ∀ l, y6 (ix4 (0 : Fin 1) (0 : Fin 1) a l) = Y 6 l) (h7 : ∀ l, y7 (ix4 (0 : Fin 1) (0 : Fin 1) a l) = Y 7 l)
    (hs : ∀ l, s (ix2 a l) = sr l) (hx : ∀ l, x (ix2 a l) = xr l) (hM : ∀ l, M (ix3 (0 : Fin 1) (0 : Fin 1) l) = gate l)
    (hg : ∀ l, g (ix2 (0 : Fin 1) l) = gr l) :
    k0_pay1 (F := Ideal) v0 (accLo v0 y0 y1 y2 y3 y4 y5 y6) (accHi v0 y0 y1 y2 y3 y4 y5 y6) (k0_pay16 y7) s x M g (ix2 a k)
      = norm (upd Y w sr xr gate) gr k := by
  rw [pay1_at]
  have eg : (fun l => g (ix2 (0 : Fin 1) l)) = gr := funext hg
  rw [eg]
  refine congrArg (fun z => norm z gr k) (funext fun k => ?_)
  rw [hx, hM]
  unfold upd
  refine congrArg (fun z => xr k + gate k * z) ?_
  by_cases h : (k : ℕ) < 512
  · rw [dif_pos h, accLo_at, pay16_at, hs, h0, h1, h2, h3, h4, h5, h6, h7]
    simp only [hw, half, dif_pos h]
    rw [sum_rows (fun e => lo (Y e ⟨k, h⟩)) w]
  · rw [dif_neg h, accHi_at, pay16_at, hs, h0, h1, h2, h3, h4, h5, h6, h7]
    simp only [hw, half, dif_neg h]
    rw [sum_rows (fun e => hi (Y e ⟨k - 512, by omega⟩)) w]

end Cert.Combine
-- ==== Proof.CombineRows.lean ====
/- The combination's four calls, point by point: what each leaves in its output array, and the two results. -/
module

public import proofs.«01_k».proof.Proof.CombineRun
public import proofs.«01_k».proof.Proof.CombinePoint
public import Idealize.ShloMosaic.Lib.Pipeline.ValueKit
public import Idealize.ShloMosaic.Lib.Pointwise

@[expose] public section

set_option maxRecDepth 100000

noncomputable section

namespace Cert.Combine

open Cert.Kernel5Ideal Cert.Kernel5Ideal.Gen
open Idealize.ShloMosaic Idealize.ShloMosaic.TcCoe Idealize.SL.Sem Cert.Expert

variable (m : (ℓ : Loc nD τ sig) → Buf (Elt Ideal) ℓ) (ρ : Dev nD → PrngReg)
variable (V : (c : Dev nD) → (b : Ref sig .tc) → Buf (Elt Ideal) ((c : Thread nD τ).loc b))

theorem idx0 : ∀ t : Fin cfg0.N, t.val < 32 ∧ win0_0.index t = ![t.val, 0, 0, 0] ∧ win0_1.index t = ![t.val, 0] ∧ win0_2.index t = ![t.val, 0]
    ∧ win0_3.index t = ![t.val, 0] ∧ win0_4.index t = ![0, 0, 0] ∧ win0_5.index t = ![0, 0] ∧ win0_6.index t = ![t.val, 0] :=
  (by decide +kernel : ∀ t : Fin grid0.N, _)

/-- A row of block `t` of call 0. -/
theorem row0 (c : Dev nD) (t : Fin cfg0.N) (a : Fin 128) (k : Fin 1024) :
    out0_6 (iblk0 V c 0 t) (iblk0 V c 1 t) (iblk0 V c 2 t) (iblk0 V c 3 t) (iblk0 V c 4 t) (iblk0 V c 5 t) (ix2 a k : S128x1024.Idx)
      = norm (upd (fun e l => V c main_arg0 (ix4 (⟨t.val, (idx0 t).1⟩ : Fin 32) e a l : S32x8x128x512.Idx))
          (fun e => V c main_arg4 (ix2 (⟨(t.val) * 128 + a, by have := (idx0 t).1; omega⟩ : Fin 16384) e : S16384x8.Idx))
          (fun l => V c main_arg6 (ix2 (⟨(t.val) * 128 + a, by have := (idx0 t).1; omega⟩ : Fin 16384) l : S16384x512.Idx))
          (fun l => V c main_arg5 (ix2 (⟨(t.val) * 128 + a, by have := (idx0 t).1; omega⟩ : Fin 16384) l : S16384x1024.Idx))
          (fun l => V c main_arg7 (ix3 (0 : Fin 8) (5 : Fin 6) l : S8x6x1024.Idx)))
        (fun l => V c main_v0 (ix2 (0 : Fin 1) l : S1x1024.Idx)) k := by
  obtain ⟨ht, i0, i1, i2, i3, i4, i5, i6⟩ := idx0 t
  unfold out0_6
  frame_out
  have rows : ∀ (e : Fin 8) (l : Fin 512), iblk0 V c 0 t (ix4 (0 : Fin 1) e a l : S1x8x128x512.Idx) = V c main_arg0 (ix4 (⟨t.val, ht⟩ : Fin 32) e a l : S32x8x128x512.Idx) := fun e l => by
    refine congrArg (V c main_arg0) ?_
    blk_point [i0]
  have mods : ∀ l : Fin 1024, iblk0 V c 4 t (ix3 (0 : Fin 1) (5 : Fin 6) l : S1x6x1024.Idx) = V c main_arg7 (ix3 (0 : Fin 8) (5 : Fin 6) l : S8x6x1024.Idx) := fun l => by
    refine congrArg (V c main_arg7) ?_
    blk_point [i4]
  refine row_at _ _ _ _ _ _ _ _ _ _ _ _ _ a k _ _ _ _ _ _ (fun e => ?_) (fun l => Eq.trans ?_ (rows 0 l)) (fun l => Eq.trans ?_ (rows 1 l))
    (fun l => Eq.trans ?_ (rows 2 l)) (fun l => Eq.trans ?_ (rows 3 l)) (fun l => Eq.trans ?_ (rows 4 l)) (fun l => Eq.trans ?_ (rows 5 l))
    (fun l => Eq.trans ?_ (rows 6 l)) (fun l => Eq.trans ?_ (rows 7 l)) (fun l => ?_) (fun l => ?_) (fun l => Eq.trans ?_ (mods l)) (fun l => ?_)
  · refine congrArg (V c main_arg4) ?_
    blk_point [i1]
  · pointwise
  · pointwise
  · pointwise
  · pointwise
  · pointwise
  · pointwise
  · pointwise
  · pointwise
  · refine congrArg (V c main_arg6) ?_
    blk_point [i3]
  · refine congrArg (V c main_arg5) ?_
    blk_point [i2]
  · pointwise
  · refine congrArg (V c main_v0) ?_
    blk_point [i5]

theorem idx1 : ∀ t : Fin cfg1.N, t.val < 32 ∧ win1_0.index t = ![t.val, 0, 0, 0] ∧ win1_1.index t = ![32 + t.val, 0] ∧ win1_2.index t = ![32 + t.val, 0]
    ∧ win1_3.index t = ![32 + t.val, 0] ∧ win1_4.index t = ![0, 0, 0] ∧ win1_5.index t = ![0, 0] ∧ win1_6.index t = ![32 + t.val, 0] :=
  (by decide +kernel : ∀ t : Fin grid1.N, _)

/-- A row of block `t` of call 1. -/
theorem row1 (c : Dev nD) (t : Fin cfg1.N) (a : Fin 128) (k : Fin 1024) :
    outsAt1 V c t (ix2 a k : S128x1024.Idx)
      = norm (upd (fun e l => V c main_arg1 (ix4 (⟨t.val, (idx1 t).1⟩ : Fin 32) e a l : S32x8x128x512.Idx))
          (fun e => V c main_arg4 (ix2 (⟨(32 + t.val) * 128 + a, by have := (idx1 t).1; omega⟩ : Fin 16384) e : S16384x8.Idx))
          (fun l => V c main_arg6 (ix2 (⟨(32 + t.val) * 128 + a, by have := (idx1 t).1; omega⟩ : Fin 16384) l : S16384x512.Idx))
          (fun l => V c main_arg5 (ix2 (⟨(32 + t.val) * 128 + a, by have := (idx1 t).1; omega⟩ : Fin 16384) l : S16384x1024.Idx))
          (fun l => V c main_arg7 (ix3 (0 : Fin 8) (5 : Fin 6) l : S8x6x1024.Idx)))
        (fun l => V c main_v2 (ix2 (0 : Fin 1) l : S1x1024.Idx)) k := by
  obtain ⟨ht, i0, i1, i2, i3, i4, i5, i6⟩ := idx1 t
  unfold outsAt1
  frame_out
  have rows : ∀ (e : Fin 8) (l : Fin 512), iblk1 V c 0 t (ix4 (0 : Fin 1) e a l : S1x8x128x512.Idx) = V c main_arg1 (ix4 (⟨t.val, ht⟩ : Fin 32) e a l : S32x8x128x512.Idx) := fun e l => by
    refine congrArg (V c main_arg1) ?_
    blk_point [i0]
  have mods : ∀ l : Fin 1024, iblk1 V c 4 t (ix3 (0 : Fin 1) (5 : Fin 6) l : S1x6x1024.Idx) = V c main_arg7 (ix3 (0 : Fin 8) (5 : Fin 6) l : S8x6x1024.Idx) := fun l => by
    refine congrArg (V c main_arg7) ?_
    blk_point [i4]
  refine row_at _ _ _ _ _ _ _ _ _ _ _ _ _ a k _ _ _ _ _ _ (fun e => ?_) (fun l => Eq.trans ?_ (rows 0 l)) (fun l => Eq.trans ?_ (rows 1 l))
    (fun l => Eq.trans ?_ (rows 2 l)) (fun l => Eq.trans ?_ (rows 3 l)) (fun l => Eq.trans ?_ (rows 4 l)) (fun l => Eq.trans ?_ (rows 5 l))
    (fun l => Eq.trans ?_ (rows 6 l)) (fun l => Eq.trans ?_ (rows 7 l)) (fun l => ?_) (fun l => ?_) (fun l => Eq.trans ?_ (mods l)) (fun l => ?_)
  · refine congrArg (V c main_arg4) ?_
    blk_point [i1]
  · pointwise
  · pointwise
  · pointwise
  · pointwise
  · pointwise
  · pointwise
  · pointwise
  · pointwise
  · refine congrArg (V c main_arg6) ?_
    blk_point [i3]
  · refine congrArg (V c main_arg5) ?_
    blk_point [i2]
  · pointwise
  · refine congrArg (V c main_v2) ?_
    blk_point [i5]

theorem idx2 : ∀ t : Fin cfg2.N, t.val < 32 ∧ win2_0.index t = ![t.val, 0, 0, 0] ∧ win2_1.index t = ![64 + t.val, 0] ∧ win2_2.index t = ![64 + t.val, 0]
    ∧ win2_3.index t = ![64 + t.val, 0] ∧ win2_4.index t = ![1 + t.val / 16, 0, 0] ∧ win2_5.index t = ![0, 0] ∧ win2_6.index t = ![t.val, 0] :=
  (by decide +kernel : ∀ t : Fin grid2.N, _)

/-- A row of block `t` of call 2. -/
theorem row2 (c : Dev nD) (t : Fin cfg2.N) (a : Fin 128) (k : Fin 1024) :
    out2_6 (iblk2 V c 0 t) (iblk2 V c 1 t) (iblk2 V c 2 t) (iblk2 V c 3 t) (iblk2 V c 4 t) (iblk2 V c 5 t) (ix2 a k : S128x1024.Idx)
      = norm (upd (fun e l => V c main_arg2 (ix4 (⟨t.val, (idx2 t).1⟩ : Fin 32) e a l : S32x8x128x512.Idx))
          (fun e => V c main_arg4 (ix2 (⟨(64 + t.val) * 128 + a, by have := (idx2 t).1; omega⟩ : Fin 16384) e : S16384x8.Idx))
          (fun l => V c main_arg6 (ix2 (⟨(64 + t.val) * 128 + a, by have := (idx2 t).1; omega⟩ : Fin 16384) l : S16384x512.Idx))
          (fun l => V c main_arg5 (ix2 (⟨(64 + t.val) * 128 + a, by have := (idx2 t).1; omega⟩ : Fin 16384) l : S16384x1024.Idx))
          (fun l => V c main_arg7 (ix3 (⟨1 + t.val / 16, by have := (idx2 t).1; omega⟩ : Fin 8) (5 : Fin 6) l : S8x6x1024.Idx)))
        (fun l => V c main_v4 (ix2 (0 : Fin 1) l : S1x1024.Idx)) k := by
  obtain ⟨ht, i0, i1, i2, i3, i4, i5, i6⟩ := idx2 t
  unfold out2_6
  frame_out
  have rows : ∀ (e : Fin 8) (l : Fin 512), iblk2 V c 0 t (ix4 (0 : Fin 1) e a l : S1x8x128x512.Idx) = V c main_arg2 (ix4 (⟨t.val, ht⟩ : Fin 32) e a l : S32x8x128x512.Idx) := fun e l => by
    refine congrArg (V c main_arg2) ?_
    blk_point [i0]
  have mods : ∀ l : Fin 1024, iblk2 V c 4 t (ix3 (0 : Fin 1) (5 : Fin 6) l : S1x6x1024.Idx) = V c main_arg7 (ix3 (⟨1 + t.val / 16, by have := (idx2 t).1; omega⟩ : Fin 8) (5 : Fin 6) l : S8x6x1024.Idx) := fun l => by
    refine congrArg (V c main_arg7) ?_
    blk_point [i4]
  refine row_at _ _ _ _ _ _ _ _ _ _ _ _ _ a k _ _ _ _ _ _ (fun e => ?_) (fun l => Eq.trans ?_ (rows 0 l)) (fun l => Eq.trans ?_ (rows 1 l))
    (fun l => Eq.trans ?_ (rows 2 l)) (fun l => Eq.trans ?_ (rows 3 l)) (fun l => Eq.trans ?_ (rows 4 l)) (fun l => Eq.trans ?_ (rows 5 l))
    (fun l => Eq.trans ?_ (rows 6 l)) (fun l => Eq.trans ?_ (rows 7 l)) (fun l => ?_) (fun l => ?_) (fun l => Eq.trans ?_ (mods l)) (fun l => ?_)
  · refine congrArg (V c main_arg4) ?_
    blk_point [i1]
  · pointwise
  · pointwise
  · pointwise
  · pointwise
  · pointwise
  · pointwise
  · pointwise
  · pointwise
  · refine congrArg (V c main_arg6) ?_
    blk_point [i3]
  · refine congrArg (V c main_arg5) ?_
    blk_point [i2]
  · pointwise
  · refine congrArg (V c main_v4) ?_
    blk_point [i5]

theorem idx3 : ∀ t : Fin cfg3.N, t.val < 32 ∧ win3_0.index t = ![t.val, 0, 0, 0] ∧ win3_1.index t = ![96 + t.val, 0] ∧ win3_2.index t = ![96 + t.val, 0]
    ∧ win3_3.index t = ![96 + t.val, 0] ∧ win3_4.index t = ![3 + t.val / 16, 0, 0] ∧ win3_5.index t = ![0, 0] ∧ win3_6.index t = ![32 + t.val, 0] :=
  (by decide +kernel : ∀ t : Fin grid3.N, _)

/-- A row of block `t` of call 3. -/
theorem row3 (c : Dev nD) (t : Fin cfg3.N) (a : Fin 128) (k : Fin 1024) :
    outsAt3 V c t (ix2 a k : S128x1024.Idx)
      = norm (upd (fun e l => V c main_arg3 (ix4 (⟨t.val, (idx3 t).1⟩ : Fin 32) e a l : S32x8x128x512.Idx))
          (fun e => V c main_arg4 (ix2 (⟨(96 + t.val) * 128 + a, by have := (idx3 t).1; omega⟩ : Fin 16384) e : S16384x8.Idx))
          (fun l => V c main_arg6 (ix2 (⟨(96 + t.val) * 128 + a, by have := (idx3 t).1; omega⟩ : Fin 16384) l : S16384x512.Idx))
          (fun l => V c main_arg5 (ix2 (⟨(96 + t.val) * 128 + a, by have := (idx3 t).1; omega⟩ : Fin 16384) l : S16384x1024.Idx))
          (fun l => V c main_arg7 (ix3 (⟨3 + t.val / 16, by have := (idx3 t).1; omega⟩ : Fin 8) (5 : Fin 6) l : S8x6x1024.Idx)))
        (fun l => V c main_v6 (ix2 (0 : Fin 1) l : S1x1024.Idx)) k := by
  obtain ⟨ht, i0, i1, i2, i3, i4, i5, i6⟩ := idx3 t
  unfold outsAt3
  frame_out
  have rows : ∀ (e : Fin 8) (l : Fin 512), iblk3 V c 0 t (ix4 (0 : Fin 1) e a l : S1x8x128x512.Idx) = V c main_arg3 (ix4 (⟨t.val, ht⟩ : Fin 32) e a l : S32x8x128x512.Idx) := fun e l => by
    refine congrArg (V c main_arg3) ?_
    blk_point [i0]
  have mods : ∀ l : Fin 1024, iblk3 V c 4 t (ix3 (0 : Fin 1) (5 : Fin 6) l : S1x6x1024.Idx) = V c main_arg7 (ix3 (⟨3 + t.val / 16, by have := (idx3 t).1; omega⟩ : Fin 8) (5 : Fin 6) l : S8x6x1024.Idx) := fun l => by
    refine congrArg (V c main_arg7) ?_
    blk_point [i4]
  refine row_at _ _ _ _ _ _ _ _ _ _ _ _ _ a k _ _ _ _ _ _ (fun e => ?_) (fun l => Eq.trans ?_ (rows 0 l)) (fun l => Eq.trans ?_ (rows 1 l))
    (fun l => Eq.trans ?_ (rows 2 l)) (fun l => Eq.trans ?_ (rows 3 l)) (fun l => Eq.trans ?_ (rows 4 l)) (fun l => Eq.trans ?_ (rows 5 l))
    (fun l => Eq.trans ?_ (rows 6 l)) (fun l => Eq.trans ?_ (rows 7 l)) (fun l => ?_) (fun l => ?_) (fun l => Eq.trans ?_ (mods l)) (fun l => ?_)
  · refine congrArg (V c main_arg4) ?_
    blk_point [i1]
  · pointwise
  · pointwise
  · pointwise
  · pointwise
  · pointwise
  · pointwise
  · pointwise
  · pointwise
  · refine congrArg (V c main_arg6) ?_
    blk_point [i3]
  · refine congrArg (V c main_arg5) ?_
    blk_point [i2]
  · pointwise
  · refine congrArg (V c main_v6) ?_
    blk_point [i5]

end Cert.Combine
-- ==== Proof.CombineKer.lean ====
/- The combination's four calls, point by point: what each leaves in its output array, and the two results. -/
module

public import proofs.«01_k».proof.Proof.CombineRows
public import proofs.«01_k».proof.Proof.CombinePoint
public import Idealize.ShloMosaic.Lib.Pipeline.ValueKit
public import Idealize.ShloMosaic.Lib.Pointwise

@[expose] public section

set_option maxRecDepth 100000

noncomputable section

namespace Cert.Combine

open Cert.Kernel5Ideal Cert.Kernel5Ideal.Gen
open Idealize.ShloMosaic Idealize.ShloMosaic.TcCoe Idealize.SL.Sem Cert.Expert

variable (m : (ℓ : Loc nD τ sig) → Buf (Elt Ideal) ℓ) (ρ : Dev nD → PrngReg)
variable (V : (c : Dev nD) → (b : Ref sig .tc) → Buf (Elt Ideal) ((c : Thread nD τ).loc b))

/-! The output arrays: row `r` of each is token `r`'s output. -/

def arrC (c : Dev nD) : FVec Ideal S8192x1024 .f32 := fun j =>
  out 0 (by omega) 0 (m ((c.tc : Thread nD τ).loc main_arg0)) (m ((c.tc : Thread nD τ).loc main_arg1)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (j 0) (j 1)

def arrL (c : Dev nD) : FVec Ideal S8192x1024 .f32 := fun j =>
  out 8192 (by omega) ⟨1 + ((j 0 : Fin 8192) : ℕ) / 2048, by have h : ((j 0 : Fin 8192) : ℕ) < 8192 := (j 0 : Fin 8192).isLt; omega⟩ (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (j 0) (j 1)

theorem out0 (c : Dev nD) (hA : ∀ a ∈ argRefs, V c a = m ((c.tc : Thread nD τ).loc a)) (hg : ∀ l : Fin 1024, V c main_v0 (ix2 (0 : Fin 1) l : S1x1024.Idx) = (m ((c.tc : Thread nD τ).loc main_arg8)) (ix1 l))
    (t : Fin cfg0.N) (a : Fin 128) (k : Fin 1024) (r : Fin 8192) (hr : (r : ℕ) = (t.val) * 128 + a) :
    out0_6 (iblk0 V c 0 t) (iblk0 V c 1 t) (iblk0 V c 2 t) (iblk0 V c 3 t) (iblk0 V c 4 t) (iblk0 V c 5 t) (ix2 a k : S128x1024.Idx) = arrC m c (ix2 r k : S8192x1024.Idx) := by
  have ht := (idx0 t).1
  have eY : (fun (e : Fin 8) (l : Fin 512) => V c main_arg0 (ix4 (⟨t.val, (idx0 t).1⟩ : Fin 32) e a l : S32x8x128x512.Idx)) = gath (m ((c.tc : Thread nD τ).loc main_arg0)) (m ((c.tc : Thread nD τ).loc main_arg1)) r := by
    funext e l
    rw [gath, dif_pos (by omega), hA main_arg0 (by decide)]
    have e1 : (⟨t.val, (idx0 t).1⟩ : Fin 32) = ⟨r / 128, by omega⟩ := Fin.ext (by show t.val = (r : ℕ) / 128; omega)
    have e2 : a = (⟨r % 128, by omega⟩ : Fin 128) := Fin.ext (by show (a : ℕ) = (r : ℕ) % 128; omega)
    exact congrArg₂ (fun (p : Fin 32) (q : Fin 128) => (m ((c.tc : Thread nD τ).loc main_arg0)) (ix4 p e q l : S32x8x128x512.Idx)) e1 e2
  have er : (⟨(t.val) * 128 + a, by have := (idx0 t).1; omega⟩ : Fin 16384) = (⟨0 + r, by omega⟩ : Fin 16384) := Fin.ext (by show (t.val) * 128 + (a : ℕ) = 0 + r; omega)
  have eq : (0 : Fin 8) = (0 : Fin 8) := rfl
  have ew : (fun e : Fin 8 => V c main_arg4 (ix2 (⟨(t.val) * 128 + a, by have := (idx0 t).1; omega⟩ : Fin 16384) e : S16384x8.Idx)) = fun e => (m ((c.tc : Thread nD τ).loc main_arg4)) (ix2 (⟨0 + r, by omega⟩ : Fin 16384) e : S16384x8.Idx) := by
    rw [er, hA main_arg4 (by decide)]
  have es : (fun l : Fin 512 => V c main_arg6 (ix2 (⟨(t.val) * 128 + a, by have := (idx0 t).1; omega⟩ : Fin 16384) l : S16384x512.Idx)) = fun l => (m ((c.tc : Thread nD τ).loc main_arg6)) (ix2 (⟨0 + r, by omega⟩ : Fin 16384) l : S16384x512.Idx) := by
    rw [er, hA main_arg6 (by decide)]
  have ex : (fun l : Fin 1024 => V c main_arg5 (ix2 (⟨(t.val) * 128 + a, by have := (idx0 t).1; omega⟩ : Fin 16384) l : S16384x1024.Idx)) = fun l => (m ((c.tc : Thread nD τ).loc main_arg5)) (ix2 (⟨0 + r, by omega⟩ : Fin 16384) l : S16384x1024.Idx) := by
    rw [er, hA main_arg5 (by decide)]
  have em : (fun l : Fin 1024 => V c main_arg7 (ix3 (0 : Fin 8) (5 : Fin 6) l : S8x6x1024.Idx)) = fun l => (m ((c.tc : Thread nD τ).loc main_arg7)) (ix3 (0 : Fin 8) (5 : Fin 6) l : S8x6x1024.Idx) := by
    rw [eq, hA main_arg7 (by decide)]
  have eg : (fun l : Fin 1024 => V c main_v0 (ix2 (0 : Fin 1) l : S1x1024.Idx)) = fun l => (m ((c.tc : Thread nD τ).loc main_arg8)) (ix1 l) := funext hg
  refine (row0 V c t a k).trans ?_
  rw [eY, ew, es, ex, em, eg]
  rfl

theorem fin0 (c : Dev nD) (hA : ∀ a ∈ argRefs, V c a = m ((c.tc : Thread nD τ).loc a)) (hg : ∀ l : Fin 1024, V c main_v0 (ix2 (0 : Fin 1) l : S1x1024.Idx) = (m ((c.tc : Thread nD τ).loc main_arg8)) (ix1 l)) :
    (dat0 V c).arrAt 6 cfg0.N = fun i => if (i 0 : ℕ) < 4096 then arrC m c i else (dat0 V c).A 6 i := by
  refine (dat0 V c).arrAt_eq_of_coversWhere 6 (arrC m c) (P := fun i => (i 0 : ℕ) < 4096) (fun β => β (0 : Fin 2) < 32) (by decide +kernel) (fun t _ y => ?_) fun j => ?_
  · obtain ⟨ht, i0, i1, i2, i3, i4, i5, i6⟩ := idx0 t
    have hr : (((View.whole main_v1).slice (win0_6.rect t)).emb y 0 : ℕ) = (t.val) * 128 + (y 0 : ℕ) := by blk_simp [i6]
    have hj : ((View.whole main_v1).slice (win0_6.rect t)).emb y 1 = y 1 := Fin.ext (by blk_simp [i6])
    blk_simp [i6]
    rw [after0_6]
    have ey : y = (ix2 (y 0 : Fin 128) (y 1 : Fin 1024) : S128x1024.Idx) := by funext q; fin_cases q <;> rfl
    have ei : ((View.whole main_v1).slice (win0_6.rect t)).emb y = (ix2 (((View.whole main_v1).slice (win0_6.rect t)).emb y 0 : Fin 8192) (y 1 : Fin 1024) : S8192x1024.Idx) := by
      funext q; fin_cases q
      · rfl
      · exact hj
    refine ((congrArg _ ey).trans (out0 m V c hA hg t (y 0) (y 1) _ hr)).trans (congrArg (arrC m c) ei.symm)
  · show (j (0 : Fin 2) : ℕ) < 4096 ↔ (j (0 : Fin 2) : ℕ) / 128 < 32
    omega

theorem out1 (c : Dev nD) (hA : ∀ a ∈ argRefs, V c a = m ((c.tc : Thread nD τ).loc a)) (hg : ∀ l : Fin 1024, V c main_v2 (ix2 (0 : Fin 1) l : S1x1024.Idx) = (m ((c.tc : Thread nD τ).loc main_arg8)) (ix1 l))
    (t : Fin cfg1.N) (a : Fin 128) (k : Fin 1024) (r : Fin 8192) (hr : (r : ℕ) = (32 + t.val) * 128 + a) :
    outsAt1 V c t (ix2 a k : S128x1024.Idx) = arrC m c (ix2 r k : S8192x1024.Idx) := by
  have ht := (idx1 t).1
  have eY : (fun (e : Fin 8) (l : Fin 512) => V c main_arg1 (ix4 (⟨t.val, (idx1 t).1⟩ : Fin 32) e a l : S32x8x128x512.Idx)) = gath (m ((c.tc : Thread nD τ).loc main_arg0)) (m ((c.tc : Thread nD τ).loc main_arg1)) r := by
    funext e l
    rw [gath, dif_neg (by omega), hA main_arg1 (by decide)]
    have e1 : (⟨t.val, (idx1 t).1⟩ : Fin 32) = ⟨(r - 4096) / 128, by omega⟩ := Fin.ext (by show t.val = ((r : ℕ) - 4096) / 128; omega)
    have e2 : a = (⟨r % 128, by omega⟩ : Fin 128) := Fin.ext (by show (a : ℕ) = (r : ℕ) % 128; omega)
    exact congrArg₂ (fun (p : Fin 32) (q : Fin 128) => (m ((c.tc : Thread nD τ).loc main_arg1)) (ix4 p e q l : S32x8x128x512.Idx)) e1 e2
  have er : (⟨(32 + t.val) * 128 + a, by have := (idx1 t).1; omega⟩ : Fin 16384) = (⟨0 + r, by omega⟩ : Fin 16384) := Fin.ext (by show (32 + t.val) * 128 + (a : ℕ) = 0 + r; omega)
  have eq : (0 : Fin 8) = (0 : Fin 8) := rfl
  have ew : (fun e : Fin 8 => V c main_arg4 (ix2 (⟨(32 + t.val) * 128 + a, by have := (idx1 t).1; omega⟩ : Fin 16384) e : S16384x8.Idx)) = fun e => (m ((c.tc : Thread nD τ).loc main_arg4)) (ix2 (⟨0 + r, by omega⟩ : Fin 16384) e : S16384x8.Idx) := by
    rw [er, hA main_arg4 (by decide)]
  have es : (fun l : Fin 512 => V c main_arg6 (ix2 (⟨(32 + t.val) * 128 + a, by have := (idx1 t).1; omega⟩ : Fin 16384) l : S16384x512.Idx)) = fun l => (m ((c.tc : Thread nD τ).loc main_arg6)) (ix2 (⟨0 + r, by omega⟩ : Fin 16384) l : S16384x512.Idx) := by
    rw [er, hA main_arg6 (by decide)]
  have ex : (fun l : Fin 1024 => V c main_arg5 (ix2 (⟨(32 + t.val) * 128 + a, by have := (idx1 t).1; omega⟩ : Fin 16384) l : S16384x1024.Idx)) = fun l => (m ((c.tc : Thread nD τ).loc main_arg5)) (ix2 (⟨0 + r, by omega⟩ : Fin 16384) l : S16384x1024.Idx) := by
    rw [er, hA main_arg5 (by decide)]
  have em : (fun l : Fin 1024 => V c main_arg7 (ix3 (0 : Fin 8) (5 : Fin 6) l : S8x6x1024.Idx)) = fun l => (m ((c.tc : Thread nD τ).loc main_arg7)) (ix3 (0 : Fin 8) (5 : Fin 6) l : S8x6x1024.Idx) := by
    rw [eq, hA main_arg7 (by decide)]
  have eg : (fun l : Fin 1024 => V c main_v2 (ix2 (0 : Fin 1) l : S1x1024.Idx)) = fun l => (m ((c.tc : Thread nD τ).loc main_arg8)) (ix1 l) := funext hg
  refine (row1 V c t a k).trans ?_
  rw [eY, ew, es, ex, em, eg]
  rfl

theorem fin1 (c : Dev nD) (hA : ∀ a ∈ argRefs, V c a = m ((c.tc : Thread nD τ).loc a)) (hg : ∀ l : Fin 1024, V c main_v2 (ix2 (0 : Fin 1) l : S1x1024.Idx) = (m ((c.tc : Thread nD τ).loc main_arg8)) (ix1 l))
    (hp : ∀ i : S8192x1024.Idx, (i 0 : ℕ) < 4096 → V c main_v3 i = arrC m c i) : (dat1 V c).arrAt 6 cfg1.N = arrC m c := by
  refine (dat1 V c).arrAt_eq_of_coversWhere_of_agree 6 (arrC m c) (fun β => 32 ≤ β (0 : Fin 2)) (by decide +kernel) (fun t _ y => ?_) fun j hj => ?_
  · obtain ⟨ht, i0, i1, i2, i3, i4, i5, i6⟩ := idx1 t
    have hr : (((View.whole main_v3).slice (win1_6.rect t)).emb y 0 : ℕ) = (32 + t.val) * 128 + (y 0 : ℕ) := by blk_simp [i6]
    have hj : ((View.whole main_v3).slice (win1_6.rect t)).emb y 1 = y 1 := Fin.ext (by blk_simp [i6])
    blk_simp [i6]
    rw [after1_6]
    have ey : y = (ix2 (y 0 : Fin 128) (y 1 : Fin 1024) : S128x1024.Idx) := by funext q; fin_cases q <;> rfl
    have ei : ((View.whole main_v3).slice (win1_6.rect t)).emb y = (ix2 (((View.whole main_v3).slice (win1_6.rect t)).emb y 0 : Fin 8192) (y 1 : Fin 1024) : S8192x1024.Idx) := by
      funext q; fin_cases q
      · rfl
      · exact hj
    refine ((congrArg _ ey).trans (out1 m V c hA hg t (y 0) (y 1) _ hr)).trans (congrArg (arrC m c) ei.symm)
  · rw [A_eq1]
    refine hp _ ?_
    have hj' : ¬ 32 ≤ (j (0 : Fin 2) : ℕ) / 128 := hj
    show (j (0 : Fin 2) : ℕ) < 4096
    omega

theorem out2 (c : Dev nD) (hA : ∀ a ∈ argRefs, V c a = m ((c.tc : Thread nD τ).loc a)) (hg : ∀ l : Fin 1024, V c main_v4 (ix2 (0 : Fin 1) l : S1x1024.Idx) = (m ((c.tc : Thread nD τ).loc main_arg8)) (ix1 l))
    (t : Fin cfg2.N) (a : Fin 128) (k : Fin 1024) (r : Fin 8192) (hr : (r : ℕ) = (t.val) * 128 + a) :
    out2_6 (iblk2 V c 0 t) (iblk2 V c 1 t) (iblk2 V c 2 t) (iblk2 V c 3 t) (iblk2 V c 4 t) (iblk2 V c 5 t) (ix2 a k : S128x1024.Idx) = arrL m c (ix2 r k : S8192x1024.Idx) := by
  have ht := (idx2 t).1
  have eY : (fun (e : Fin 8) (l : Fin 512) => V c main_arg2 (ix4 (⟨t.val, (idx2 t).1⟩ : Fin 32) e a l : S32x8x128x512.Idx)) = gath (m ((c.tc : Thread nD τ).loc main_arg2)) (m ((c.tc : Thread nD τ).loc main_arg3)) r := by
    funext e l
    rw [gath, dif_pos (by omega), hA main_arg2 (by decide)]
    have e1 : (⟨t.val, (idx2 t).1⟩ : Fin 32) = ⟨r / 128, by omega⟩ := Fin.ext (by show t.val = (r : ℕ) / 128; omega)
    have e2 : a = (⟨r % 128, by omega⟩ : Fin 128) := Fin.ext (by show (a : ℕ) = (r : ℕ) % 128; omega)
    exact congrArg₂ (fun (p : Fin 32) (q : Fin 128) => (m ((c.tc : Thread nD τ).loc main_arg2)) (ix4 p e q l : S32x8x128x512.Idx)) e1 e2
  have er : (⟨(64 + t.val) * 128 + a, by have := (idx2 t).1; omega⟩ : Fin 16384) = (⟨8192 + r, by omega⟩ : Fin 16384) := Fin.ext (by show (64 + t.val) * 128 + (a : ℕ) = 8192 + r; omega)
  have eq : (⟨1 + t.val / 16, by have := (idx2 t).1; omega⟩ : Fin 8) = (⟨1 + r / 2048, by omega⟩ : Fin 8) := Fin.ext (by show 1 + t.val / 16 = 1 + r / 2048; omega)
  have ew : (fun e : Fin 8 => V c main_arg4 (ix2 (⟨(64 + t.val) * 128 + a, by have := (idx2 t).1; omega⟩ : Fin 16384) e : S16384x8.Idx)) = fun e => (m ((c.tc : Thread nD τ).loc main_arg4)) (ix2 (⟨8192 + r, by omega⟩ : Fin 16384) e : S16384x8.Idx) := by
    rw [er, hA main_arg4 (by decide)]
  have es : (fun l : Fin 512 => V c main_arg6 (ix2 (⟨(64 + t.val) * 128 + a, by have := (idx2 t).1; omega⟩ : Fin 16384) l : S16384x512.Idx)) = fun l => (m ((c.tc : Thread nD τ).loc main_arg6)) (ix2 (⟨8192 + r, by omega⟩ : Fin 16384) l : S16384x512.Idx) := by
    rw [er, hA main_arg6 (by decide)]
  have ex : (fun l : Fin 1024 => V c main_arg5 (ix2 (⟨(64 + t.val) * 128 + a, by have := (idx2 t).1; omega⟩ : Fin 16384) l : S16384x1024.Idx)) = fun l => (m ((c.tc : Thread nD τ).loc main_arg5)) (ix2 (⟨8192 + r, by omega⟩ : Fin 16384) l : S16384x1024.Idx) := by
    rw [er, hA main_arg5 (by decide)]
  have em : (fun l : Fin 1024 => V c main_arg7 (ix3 (⟨1 + t.val / 16, by have := (idx2 t).1; omega⟩ : Fin 8) (5 : Fin 6) l : S8x6x1024.Idx)) = fun l => (m ((c.tc : Thread nD τ).loc main_arg7)) (ix3 (⟨1 + r / 2048, by omega⟩ : Fin 8) (5 : Fin 6) l : S8x6x1024.Idx) := by
    rw [eq, hA main_arg7 (by decide)]
  have eg : (fun l : Fin 1024 => V c main_v4 (ix2 (0 : Fin 1) l : S1x1024.Idx)) = fun l => (m ((c.tc : Thread nD τ).loc main_arg8)) (ix1 l) := funext hg
  refine (row2 V c t a k).trans ?_
  rw [eY, ew, es, ex, em, eg]
  rfl

theorem fin2 (c : Dev nD) (hA : ∀ a ∈ argRefs, V c a = m ((c.tc : Thread nD τ).loc a)) (hg : ∀ l : Fin 1024, V c main_v4 (ix2 (0 : Fin 1) l : S1x1024.Idx) = (m ((c.tc : Thread nD τ).loc main_arg8)) (ix1 l)) :
    (dat2 V c).arrAt 6 cfg2.N = fun i => if (i 0 : ℕ) < 4096 then arrL m c i else (dat2 V c).A 6 i := by
  refine (dat2 V c).arrAt_eq_of_coversWhere 6 (arrL m c) (P := fun i => (i 0 : ℕ) < 4096) (fun β => β (0 : Fin 2) < 32) (by decide +kernel) (fun t _ y => ?_) fun j => ?_
  · obtain ⟨ht, i0, i1, i2, i3, i4, i5, i6⟩ := idx2 t
    have hr : (((View.whole main_v5).slice (win2_6.rect t)).emb y 0 : ℕ) = (t.val) * 128 + (y 0 : ℕ) := by blk_simp [i6]
    have hj : ((View.whole main_v5).slice (win2_6.rect t)).emb y 1 = y 1 := Fin.ext (by blk_simp [i6])
    blk_simp [i6]
    rw [after2_6]
    have ey : y = (ix2 (y 0 : Fin 128) (y 1 : Fin 1024) : S128x1024.Idx) := by funext q; fin_cases q <;> rfl
    have ei : ((View.whole main_v5).slice (win2_6.rect t)).emb y = (ix2 (((View.whole main_v5).slice (win2_6.rect t)).emb y 0 : Fin 8192) (y 1 : Fin 1024) : S8192x1024.Idx) := by
      funext q; fin_cases q
      · rfl
      · exact hj
    refine ((congrArg _ ey).trans (out2 m V c hA hg t (y 0) (y 1) _ hr)).trans (congrArg (arrL m c) ei.symm)
  · show (j (0 : Fin 2) : ℕ) < 4096 ↔ (j (0 : Fin 2) : ℕ) / 128 < 32
    omega

theorem out3 (c : Dev nD) (hA : ∀ a ∈ argRefs, V c a = m ((c.tc : Thread nD τ).loc a)) (hg : ∀ l : Fin 1024, V c main_v6 (ix2 (0 : Fin 1) l : S1x1024.Idx) = (m ((c.tc : Thread nD τ).loc main_arg8)) (ix1 l))
    (t : Fin cfg3.N) (a : Fin 128) (k : Fin 1024) (r : Fin 8192) (hr : (r : ℕ) = (32 + t.val) * 128 + a) :
    outsAt3 V c t (ix2 a k : S128x1024.Idx) = arrL m c (ix2 r k : S8192x1024.Idx) := by
  have ht := (idx3 t).1
  have eY : (fun (e : Fin 8) (l : Fin 512) => V c main_arg3 (ix4 (⟨t.val, (idx3 t).1⟩ : Fin 32) e a l : S32x8x128x512.Idx)) = gath (m ((c.tc : Thread nD τ).loc main_arg2)) (m ((c.tc : Thread nD τ).loc main_arg3)) r := by
    funext e l
    rw [gath, dif_neg (by omega), hA main_arg3 (by decide)]
    have e1 : (⟨t.val, (idx3 t).1⟩ : Fin 32) = ⟨(r - 4096) / 128, by omega⟩ := Fin.ext (by show t.val = ((r : ℕ) - 4096) / 128; omega)
    have e2 : a = (⟨r % 128, by omega⟩ : Fin 128) := Fin.ext (by show (a : ℕ) = (r : ℕ) % 128; omega)
    exact congrArg₂ (fun (p : Fin 32) (q : Fin 128) => (m ((c.tc : Thread nD τ).loc main_arg3)) (ix4 p e q l : S32x8x128x512.Idx)) e1 e2
  have er : (⟨(96 + t.val) * 128 + a, by have := (idx3 t).1; omega⟩ : Fin 16384) = (⟨8192 + r, by omega⟩ : Fin 16384) := Fin.ext (by show (96 + t.val) * 128 + (a : ℕ) = 8192 + r; omega)
  have eq : (⟨3 + t.val / 16, by have := (idx3 t).1; omega⟩ : Fin 8) = (⟨1 + r / 2048, by omega⟩ : Fin 8) := Fin.ext (by show 3 + t.val / 16 = 1 + r / 2048; omega)
  have ew : (fun e : Fin 8 => V c main_arg4 (ix2 (⟨(96 + t.val) * 128 + a, by have := (idx3 t).1; omega⟩ : Fin 16384) e : S16384x8.Idx)) = fun e => (m ((c.tc : Thread nD τ).loc main_arg4)) (ix2 (⟨8192 + r, by omega⟩ : Fin 16384) e : S16384x8.Idx) := by
    rw [er, hA main_arg4 (by decide)]
  have es : (fun l : Fin 512 => V c main_arg6 (ix2 (⟨(96 + t.val) * 128 + a, by have := (idx3 t).1; omega⟩ : Fin 16384) l : S16384x512.Idx)) = fun l => (m ((c.tc : Thread nD τ).loc main_arg6)) (ix2 (⟨8192 + r, by omega⟩ : Fin 16384) l : S16384x512.Idx) := by
    rw [er, hA main_arg6 (by decide)]
  have ex : (fun l : Fin 1024 => V c main_arg5 (ix2 (⟨(96 + t.val) * 128 + a, by have := (idx3 t).1; omega⟩ : Fin 16384) l : S16384x1024.Idx)) = fun l => (m ((c.tc : Thread nD τ).loc main_arg5)) (ix2 (⟨8192 + r, by omega⟩ : Fin 16384) l : S16384x1024.Idx) := by
    rw [er, hA main_arg5 (by decide)]
  have em : (fun l : Fin 1024 => V c main_arg7 (ix3 (⟨3 + t.val / 16, by have := (idx3 t).1; omega⟩ : Fin 8) (5 : Fin 6) l : S8x6x1024.Idx)) = fun l => (m ((c.tc : Thread nD τ).loc main_arg7)) (ix3 (⟨1 + r / 2048, by omega⟩ : Fin 8) (5 : Fin 6) l : S8x6x1024.Idx) := by
    rw [eq, hA main_arg7 (by decide)]
  have eg : (fun l : Fin 1024 => V c main_v6 (ix2 (0 : Fin 1) l : S1x1024.Idx)) = fun l => (m ((c.tc : Thread nD τ).loc main_arg8)) (ix1 l) := funext hg
  refine (row3 V c t a k).trans ?_
  rw [eY, ew, es, ex, em, eg]
  rfl

theorem fin3 (c : Dev nD) (hA : ∀ a ∈ argRefs, V c a = m ((c.tc : Thread nD τ).loc a)) (hg : ∀ l : Fin 1024, V c main_v6 (ix2 (0 : Fin 1) l : S1x1024.Idx) = (m ((c.tc : Thread nD τ).loc main_arg8)) (ix1 l))
    (hp : ∀ i : S8192x1024.Idx, (i 0 : ℕ) < 4096 → V c main_v7 i = arrL m c i) : (dat3 V c).arrAt 6 cfg3.N = arrL m c := by
  refine (dat3 V c).arrAt_eq_of_coversWhere_of_agree 6 (arrL m c) (fun β => 32 ≤ β (0 : Fin 2)) (by decide +kernel) (fun t _ y => ?_) fun j hj => ?_
  · obtain ⟨ht, i0, i1, i2, i3, i4, i5, i6⟩ := idx3 t
    have hr : (((View.whole main_v7).slice (win3_6.rect t)).emb y 0 : ℕ) = (32 + t.val) * 128 + (y 0 : ℕ) := by blk_simp [i6]
    have hj : ((View.whole main_v7).slice (win3_6.rect t)).emb y 1 = y 1 := Fin.ext (by blk_simp [i6])
    blk_simp [i6]
    rw [after3_6]
    have ey : y = (ix2 (y 0 : Fin 128) (y 1 : Fin 1024) : S128x1024.Idx) := by funext q; fin_cases q <;> rfl
    have ei : ((View.whole main_v7).slice (win3_6.rect t)).emb y = (ix2 (((View.whole main_v7).slice (win3_6.rect t)).emb y 0 : Fin 8192) (y 1 : Fin 1024) : S8192x1024.Idx) := by
      funext q; fin_cases q
      · rfl
      · exact hj
    refine ((congrArg _ ey).trans (out3 m V c hA hg t (y 0) (y 1) _ hr)).trans (congrArg (arrL m c) ei.symm)
  · rw [A_eq3]
    refine hp _ ?_
    have hj' : ¬ 32 ≤ (j (0 : Fin 2) : ℕ) / 128 := hj
    show (j (0 : Fin 2) : ℕ) < 4096
    omega

end Cert.Combine
-- ==== Proof.CombineEnds.lean ====
/- The combination's two results: the contents of every buffer followed through the four calls. -/
module

public import proofs.«01_k».proof.Proof.CombineKer
public import proofs.«01_k».proof.Proof.CombineRun

@[expose] public section

set_option maxRecDepth 16384

noncomputable section

namespace Cert.Combine

open Cert.Kernel5Ideal Cert.Kernel5Ideal.Gen
open Idealize.ShloMosaic Idealize.ShloMosaic.TcCoe Idealize.SL.Sem Cert.Expert

variable (m : (ℓ : Loc nD τ sig) → Buf (Elt Ideal) ℓ) (ρ : Dev nD → PrngReg)

/-! What the host's operations write. -/

theorem gain_read0 (W : Valuation τ sig (Elt Ideal)) : StableHlo.after hostOps0 W (Proc.devRef .tc main_v0)
    = shapeCast S1x1024 (W (Proc.devRef .tc main_arg8)) shapeCasts_S1024_S1x1024 := by
  simp only [hostOps0]
  entry_read
  rfl

theorem gain_read1 (W : Valuation τ sig (Elt Ideal)) : StableHlo.after hostOps1 W (Proc.devRef .tc main_v2)
    = shapeCast S1x1024 (W (Proc.devRef .tc main_arg8)) shapeCasts_S1024_S1x1024 := by
  simp only [hostOps1]
  entry_read
  rfl

theorem gain_read2 (W : Valuation τ sig (Elt Ideal)) : StableHlo.after hostOps2 W (Proc.devRef .tc main_v4)
    = shapeCast S1x1024 (W (Proc.devRef .tc main_arg8)) shapeCasts_S1024_S1x1024 := by
  simp only [hostOps2]
  entry_read
  rfl

theorem gain_read3 (W : Valuation τ sig (Elt Ideal)) : StableHlo.after hostOps3 W (Proc.devRef .tc main_v6)
    = shapeCast S1x1024 (W (Proc.devRef .tc main_arg8)) shapeCasts_S1024_S1x1024 := by
  simp only [hostOps3]
  entry_read
  rfl

theorem copy_read1 (W : Valuation τ sig (Elt Ideal)) :
    StableHlo.after hostOps1 W (Proc.devRef .tc main_v3) = W (Proc.devRef .tc main_v1) := by
  simp only [hostOps1]
  entry_read
  rfl

theorem copy_read3 (W : Valuation τ sig (Elt Ideal)) :
    StableHlo.after hostOps3 W (Proc.devRef .tc main_v7) = W (Proc.devRef .tc main_v5) := by
  simp only [hostOps3]
  entry_read
  rfl

theorem context_read (W : Valuation τ sig (Elt Ideal)) : StableHlo.after hostOps4 W (Proc.devRef .tc main_v8)
    = shapeCast S32x256x1024 (W (Proc.devRef .tc main_v3)) shapeCasts_S8192x1024_S32x256x1024 := by
  simp only [hostOps4]
  entry_read
  rfl

theorem latent_read (W : Valuation τ sig (Elt Ideal)) : StableHlo.after hostOps4 W (Proc.devRef .tc main_v9)
    = shapeCast S4x2048x1024 (W (Proc.devRef .tc main_v7)) shapeCasts_S8192x1024_S4x2048x1024 := by
  simp only [hostOps4]
  entry_read
  rfl

theorem gain_at (x : FVec Ideal S1024 .f32) (l : Fin 1024) :
    shapeCast S1x1024 x shapeCasts_S1024_S1x1024 (ix2 (0 : Fin 1) l : S1x1024.Idx) = x (ix1 l) := by
  pointwise

/-! The gain each call reads, and the arrays it leaves. -/

theorem gain0 (c : Dev nD) (l : Fin 1024) : V1 m ρ c main_v0 (ix2 (0 : Fin 1) l : S1x1024.Idx) = (m ((c.tc : Thread nD τ).loc main_arg8)) (ix1 l) := by
  refine (congrFun (gain_read0 (W0 m ρ c)) _).trans ?_
  rw [gain_at, W0_args m ρ c main_arg8 (by decide)]

theorem gain1 (c : Dev nD) (l : Fin 1024) : V3 m ρ c main_v2 (ix2 (0 : Fin 1) l : S1x1024.Idx) = (m ((c.tc : Thread nD τ).loc main_arg8)) (ix1 l) := by
  refine (congrFun (gain_read1 (W2 m ρ c)) _).trans ?_
  rw [gain_at, W2_args m ρ c main_arg8 (by decide)]

theorem gain2 (c : Dev nD) (l : Fin 1024) : V5 m ρ c main_v4 (ix2 (0 : Fin 1) l : S1x1024.Idx) = (m ((c.tc : Thread nD τ).loc main_arg8)) (ix1 l) := by
  refine (congrFun (gain_read2 (W4 m ρ c)) _).trans ?_
  rw [gain_at, W4_args m ρ c main_arg8 (by decide)]

theorem gain3 (c : Dev nD) (l : Fin 1024) : V7 m ρ c main_v6 (ix2 (0 : Fin 1) l : S1x1024.Idx) = (m ((c.tc : Thread nD τ).loc main_arg8)) (ix1 l) := by
  refine (congrFun (gain_read3 (W6 m ρ c)) _).trans ?_
  rw [gain_at, W6_args m ρ c main_arg8 (by decide)]

theorem part0 (c : Dev nD) (i : S8192x1024.Idx) (h : (i 0 : ℕ) < 4096) : W2 m ρ c (Proc.devRef .tc main_v1) i = arrC m c i := by
  refine (congrFun ((W2_arr m ρ c 6).trans (fin0 m (V1 m ρ) c (fun a h => W1_args m ρ c a h) (gain0 m ρ c))) i).trans ?_
  exact if_pos h

theorem part1 (c : Dev nD) : W4 m ρ c (Proc.devRef .tc main_v3) = arrC m c :=
  (W4_arr m ρ c 6).trans (fin1 m (V3 m ρ) c (fun a h => W3_args m ρ c a h) (gain1 m ρ c)
    fun i h => (congrFun (copy_read1 (W2 m ρ c)) i).trans (part0 m ρ c i h))

theorem part2 (c : Dev nD) (i : S8192x1024.Idx) (h : (i 0 : ℕ) < 4096) : W6 m ρ c (Proc.devRef .tc main_v5) i = arrL m c i := by
  refine (congrFun ((W6_arr m ρ c 6).trans (fin2 m (V5 m ρ) c (fun a h => W5_args m ρ c a h) (gain2 m ρ c))) i).trans ?_
  exact if_pos h

theorem part3 (c : Dev nD) : W8 m ρ c (Proc.devRef .tc main_v7) = arrL m c :=
  (W8_arr m ρ c 6).trans (fin3 m (V7 m ρ) c (fun a h => W7_args m ρ c a h) (gain3 m ρ c)
    fun i h => (congrFun (copy_read3 (W6 m ρ c)) i).trans (part2 m ρ c i h))

theorem kept (c : Dev nD) : W8 m ρ c (Proc.devRef .tc main_v3) = arrC m c :=
  (W8_of_ne m ρ c main_v3 (by decide)).trans ((W7_of m ρ c main_v3 (by decide)).trans ((W6_of_ne m ρ c main_v3 (by decide)).trans
    ((W5_of m ρ c main_v3 (by decide)).trans (part1 m ρ c))))

/-! The results, regrouped by sequence. -/

def ctx (c : Dev nD) : FVec Ideal S32x256x1024 .f32 :=
  context (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
def lat (c : Dev nD) : FVec Ideal S4x2048x1024 .f32 :=
  latent (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

theorem cast_ctx (x : FVec Ideal S8192x1024 .f32) (b : Fin 32) (i : Fin 256) (k : Fin 1024) :
    shapeCast S32x256x1024 x shapeCasts_S8192x1024_S32x256x1024 (ix3 b i k) = x (ix2 (⟨(b : ℕ) * 256 + (i : ℕ), by omega⟩ : Fin 8192) k) := by
  pointwise

theorem cast_lat (x : FVec Ideal S8192x1024 .f32) (b : Fin 4) (i : Fin 2048) (k : Fin 1024) :
    shapeCast S4x2048x1024 x shapeCasts_S8192x1024_S4x2048x1024 (ix3 b i k) = x (ix2 (⟨(b : ℕ) * 2048 + (i : ℕ), by omega⟩ : Fin 8192) k) := by
  pointwise

theorem end_ctx (c : Dev nD) : W9 m ρ c (Proc.devRef .tc main_v8) = ctx m c := by
  refine (context_read _).trans ?_
  rw [kept]
  funext j
  idx_vars j
  rw [cast_ctx]
  rfl

theorem end_lat (c : Dev nD) : W9 m ρ c (Proc.devRef .tc main_v9) = lat m c := by
  refine (latent_read _).trans ?_
  rw [part3]
  funext j
  idx_vars j
  rw [cast_lat]
  have e : (⟨1 + ((j0 : ℕ) * 2048 + (j1 : ℕ)) / 2048, by omega⟩ : Fin 8) = ⟨1 + (j0 : ℕ), by omega⟩ :=
    Fin.ext (by show 1 + ((j0 : ℕ) * 2048 + (j1 : ℕ)) / 2048 = 1 + (j0 : ℕ); omega)
  exact congrArg (fun q : Fin 8 => out 8192 (by omega) q (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (⟨(j0 : ℕ) * 2048 + (j1 : ℕ), by omega⟩ : Fin 8192) j2) e

end Cert.Combine
-- ==== Proof.CombineRef.lean ====
module

public import proofs.«01_k».proof.Proof.Gen.Reference5Ideal.Run
public import proofs.«01_k».proof.Proof.CombineMath
public import Idealize.ShloMosaic.Lib.Claim
public import Idealize.ShloMosaic.Lib.Pointwise

@[expose] public section

set_option maxRecDepth 100000

noncomputable section

/-! The reference's two results, token by token. -/

namespace Cert.Combine

open Cert.Reference5Ideal Cert.Reference5Ideal.Gen Idealize.ShloMosaic Idealize.ShloMosaic.TcCoe Idealize.SL.Sem Cert.Expert

/-- The gathered rows of one part laid one after the other, and opened. -/
abbrev catG (G H : IVec S32x8x128x512 32) : IVec S64x8x128x512 32 :=
  concatenate S64x8x128x512 0 [⟨S32x8x128x512, G⟩, ⟨S32x8x128x512, H⟩] concatenates_S32x8x128x512_S32x8x128x512_S64x8x128x512_d0
abbrev openG (x : IVec S64x8x128x512 32) : FVec Ideal S64x8x128x1024 .f32 :=
  concatenate S64x8x128x1024 3 [⟨S64x8x128x512, bitcastToFloat (F := Ideal) .f32 (Host.shli x (broadcastInDim S64x8x128x512 ![] bcast_S_S64x8x128x512 (constantI S_ 32 16#32)))⟩,
    ⟨S64x8x128x512, bitcastToFloat (F := Ideal) .f32 (andi x (broadcastInDim S64x8x128x512 ![] bcast_S_S64x8x128x512 (constantI S_ 32 4294901760#32)))⟩] concatenates_S64x8x128x512_S64x8x128x512_S64x8x128x1024_d3
abbrev openS (x : IVec S8192x512 32) : FVec Ideal S8192x1024 .f32 :=
  concatenate S8192x1024 1 [⟨S8192x512, bitcastToFloat (F := Ideal) .f32 (Host.shli x (broadcastInDim S8192x512 ![] bcast_S_S8192x512 (constantI S_ 32 16#32)))⟩,
    ⟨S8192x512, bitcastToFloat (F := Ideal) .f32 (andi x (broadcastInDim S8192x512 ![] bcast_S_S8192x512 (constantI S_ 32 4294901760#32)))⟩] concatenates_S8192x512_S8192x512_S8192x1024_d1
/-- The weighted rows added up. -/
abbrev sumG (y : FVec Ideal S64x8x128x1024 .f32) (w : FVec Ideal S8192x8 .f32) : FVec Ideal S64x128x1024 .f32 :=
  Host.reduceAdd (mulf y (broadcastInDim S64x8x128x1024 ![0, 1, 2, 3] bcast_S64x8x128x1_S64x8x128x1024_0_1_2_3 (broadcastInDim S64x8x128x1 ![0, 1, 2] bcast_S64x8x128_S64x8x128x1_0_1_2 (transpose S64x8x128 [0, 2, 1] (shapeCast _ w shapeCasts_S8192x8_S64x128x8) transposes_S64x128x8_S64x8x128_0_2_1))))
    (constant S_ .f32 0x00000000#32) reducesTo_S64x8x128x1024_S64x128x1024_d1 h_S_

theorem openG_at (x : IVec S64x8x128x512 32) (b : Fin 64) (e : Fin 8) (i : Fin 128) (k : Fin 1024) :
    openG x (ix4 b e i k) = half (fun l => x (ix4 b e i l)) k := by
  unfold half
  by_cases h : (k : ℕ) < 512
  · rw [dif_pos h, ← lo_wide]
    pointwise [h]
    exact congrArg (Ideal.ofBits .f32) (if_pos (by decide))
  · rw [dif_neg h, ← hi_wide]
    pointwise [h]
    rfl

theorem openS_at (x : IVec S8192x512 32) (r : Fin 8192) (k : Fin 1024) :
    openS x (ix2 r k) = half (fun l => x (ix2 r l)) k := by
  unfold half
  by_cases h : (k : ℕ) < 512
  · rw [dif_pos h, ← lo_wide]
    pointwise [h]
    exact congrArg (Ideal.ofBits .f32) (if_pos (by decide))
  · rw [dif_neg h, ← hi_wide]
    pointwise [h]
    rfl

theorem catG_at (G H : IVec S32x8x128x512 32) (r : Fin 8192) (e : Fin 8) (k : Fin 512) :
    catG G H (ix4 (⟨r / 128, by omega⟩ : Fin 64) e (⟨r % 128, by omega⟩ : Fin 128) k) = gath G H r e k := by
  unfold gath
  by_cases h : (r : ℕ) < 4096
  · have h' : (r : ℕ) / 128 < 32 := by omega
    rw [dif_pos h]
    pointwise [h']
  · have h' : ¬ (r : ℕ) / 128 < 32 := by omega
    rw [dif_neg h]
    pointwise [h']
    refine congrArg (fun q : Fin 32 => H (ix4 q e _ k)) (Fin.ext ?_)
    show (r : ℕ) / 128 - 32 = (r - 4096) / 128
    omega

theorem openCat_at (G H : IVec S32x8x128x512 32) (r : Fin 8192) (e : Fin 8) (k : Fin 1024) :
    openG (catG G H) (ix4 (⟨r / 128, by omega⟩ : Fin 64) e (⟨r % 128, by omega⟩ : Fin 128) k) = half (gath G H r e) k :=
  (openG_at _ _ e _ k).trans (congrArg (half · k) (funext fun l => catG_at G H r e l))

theorem sumG_at (y : FVec Ideal S64x8x128x1024 .f32) (w : FVec Ideal S8192x8 .f32) (r : Fin 8192) (k : Fin 1024) :
    sumG y w (ix3 (⟨r / 128, by omega⟩ : Fin 64) (⟨r % 128, by omega⟩ : Fin 128) k)
      = ∑ e : Fin 8, y (ix4 (⟨r / 128, by omega⟩ : Fin 64) e (⟨r % 128, by omega⟩ : Fin 128) k) * w (ix2 r e) := by
  pointwise

abbrev midC (x1 : FVec Ideal S16384x1024 .f32) (M : FVec Ideal S8x6x1024 .f32) (a : FVec Ideal S64x128x1024 .f32) (s : FVec Ideal S8192x1024 .f32) : FVec Ideal S32x256x1024 .f32 :=
  addf (shapeCast _ (extractStridedSlice S8192x1024 ![0, 0] x1 slices_S16384x1024_S8192x1024_0_0) shapeCasts_S8192x1024_S32x256x1024) (mulf (broadcastInDim S32x256x1024 ![0, 1, 2] bcast_S1x1x1024_S32x256x1024_0_1_2 (extractStridedSlice S1x1x1024 ![0, 5, 0] M slices_S8x6x1024_S1x1x1024_0_5_0))
    (addf (shapeCast _ a shapeCasts_S64x128x1024_S32x256x1024) (shapeCast _ s shapeCasts_S8192x1024_S32x256x1024)))
abbrev midL (x1 : FVec Ideal S16384x1024 .f32) (M : FVec Ideal S8x6x1024 .f32) (a : FVec Ideal S64x128x1024 .f32) (s : FVec Ideal S8192x1024 .f32) : FVec Ideal S4x2048x1024 .f32 :=
  addf (shapeCast _ (extractStridedSlice S8192x1024 ![8192, 0] x1 slices_S16384x1024_S8192x1024_8192_0) shapeCasts_S8192x1024_S4x2048x1024) (mulf (broadcastInDim S4x2048x1024 ![0, 1, 2] bcast_S4x1x1024_S4x2048x1024_0_1_2 (extractStridedSlice S4x1x1024 ![1, 5, 0] M slices_S8x6x1024_S4x1x1024_1_5_0))
    (addf (shapeCast _ a shapeCasts_S64x128x1024_S4x2048x1024) (shapeCast _ s shapeCasts_S8192x1024_S4x2048x1024)))

theorem midC_at (x1 : FVec Ideal S16384x1024 .f32) (M : FVec Ideal S8x6x1024 .f32) (a : FVec Ideal S64x128x1024 .f32) (s : FVec Ideal S8192x1024 .f32)
    (b : Fin 32) (i : Fin 256) (k : Fin 1024) (r : Fin 8192) (hr : (r : ℕ) = b * 256 + i) :
    midC x1 M a s (ix3 b i k) = x1 (ix2 (⟨0 + r, by omega⟩ : Fin 16384) k) + M (ix3 (0 : Fin 8) (5 : Fin 6) k)
      * (a (ix3 (⟨r / 128, by omega⟩ : Fin 64) (⟨r % 128, by omega⟩ : Fin 128) k) + s (ix2 r k)) := by
  obtain ⟨r, hr'⟩ := r
  dsimp only at hr
  subst hr
  have e1 : ((b : ℕ) * 256 + i) / 128 = b * 2 + i / 128 := by omega
  have e2 : ((b : ℕ) * 256 + i) % 128 = i % 128 := by omega
  pointwise
  simp only [e1, e2]

theorem midL_at (x1 : FVec Ideal S16384x1024 .f32) (M : FVec Ideal S8x6x1024 .f32) (a : FVec Ideal S64x128x1024 .f32) (s : FVec Ideal S8192x1024 .f32)
    (b : Fin 4) (i : Fin 2048) (k : Fin 1024) (r : Fin 8192) (hr : (r : ℕ) = b * 2048 + i) :
    midL x1 M a s (ix3 b i k) = x1 (ix2 (⟨8192 + r, by omega⟩ : Fin 16384) k) + M (ix3 (⟨1 + b, by omega⟩ : Fin 8) (5 : Fin 6) k)
      * (a (ix3 (⟨r / 128, by omega⟩ : Fin 64) (⟨r % 128, by omega⟩ : Fin 128) k) + s (ix2 r k)) := by
  obtain ⟨r, hr'⟩ := r
  dsimp only at hr
  subst hr
  have e1 : ((b : ℕ) * 2048 + i) / 128 = b * 16 + i / 128 := by omega
  have e2 : ((b : ℕ) * 2048 + i) % 128 = i % 128 := by omega
  pointwise
  simp only [e1, e2]

/-- The norm of one part's rows. -/
abbrev normC (z : FVec Ideal S32x256x1024 .f32) (g : FVec Ideal S1024 .f32) : FVec Ideal S32x256x1024 .f32 :=
  mulf (mulf z (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf z z) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 g))
abbrev normL (z : FVec Ideal S4x2048x1024 .f32) (g : FVec Ideal S1024 .f32) : FVec Ideal S4x2048x1024 .f32 :=
  mulf (mulf z (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf z z) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x358637BD#32)))))) (broadcastInDim S4x2048x1024 ![0, 1, 2] bcast_S1x1x1024_S4x2048x1024_0_1_2 (broadcastInDim S1x1x1024 ![2] bcast_S1024_S1x1x1024_2 g))

theorem normC_at (z : FVec Ideal S32x256x1024 .f32) (g : FVec Ideal S1024 .f32) (b : Fin 32) (i : Fin 256) (k : Fin 1024) :
    normC z g (ix3 b i k) = norm (fun l => z (ix3 b i l)) (fun l => g (ix1 l)) k := by
  pointwise [norm]
theorem normL_at (z : FVec Ideal S4x2048x1024 .f32) (g : FVec Ideal S1024 .f32) (b : Fin 4) (i : Fin 2048) (k : Fin 1024) :
    normL z g (ix3 b i k) = norm (fun l => z (ix3 b i l)) (fun l => g (ix1 l)) k := by
  pointwise [norm]

variable (m : (ℓ : Loc nD τ sig) → Buf (Elt Ideal) ℓ) (c : Dev nD)

theorem res0 : Value.res_main_v44 (F := Ideal) m c = normC (midC (m ((c.tc : Thread nD τ).loc main_arg5)) (m ((c.tc : Thread nD τ).loc main_arg7))
    (sumG (openG (catG (m ((c.tc : Thread nD τ).loc main_arg0)) (m ((c.tc : Thread nD τ).loc main_arg1)))) (extractStridedSlice S8192x8 ![0, 0] (m ((c.tc : Thread nD τ).loc main_arg4)) slices_S16384x8_S8192x8_0_0))
    (openS (extractStridedSlice S8192x512 ![0, 0] (m ((c.tc : Thread nD τ).loc main_arg6)) slices_S16384x512_S8192x512_0_0))) (m ((c.tc : Thread nD τ).loc main_arg8)) := rfl
theorem res1 : Value.res_main_v89 (F := Ideal) m c = normL (midL (m ((c.tc : Thread nD τ).loc main_arg5)) (m ((c.tc : Thread nD τ).loc main_arg7))
    (sumG (openG (catG (m ((c.tc : Thread nD τ).loc main_arg2)) (m ((c.tc : Thread nD τ).loc main_arg3)))) (extractStridedSlice S8192x8 ![8192, 0] (m ((c.tc : Thread nD τ).loc main_arg4)) slices_S16384x8_S8192x8_8192_0))
    (openS (extractStridedSlice S8192x512 ![8192, 0] (m ((c.tc : Thread nD τ).loc main_arg6)) slices_S16384x512_S8192x512_8192_0))) (m ((c.tc : Thread nD τ).loc main_arg8)) := rfl

theorem slice8_at (w : FVec Ideal S16384x8 .f32) (r : Fin 8192) (e : Fin 8) :
    extractStridedSlice S8192x8 ![0, 0] w slices_S16384x8_S8192x8_0_0 (ix2 r e) = w (ix2 (⟨0 + r, by omega⟩ : Fin 16384) e) := by pointwise
theorem slice8_at' (w : FVec Ideal S16384x8 .f32) (r : Fin 8192) (e : Fin 8) :
    extractStridedSlice S8192x8 ![8192, 0] w slices_S16384x8_S8192x8_8192_0 (ix2 r e) = w (ix2 (⟨8192 + r, by omega⟩ : Fin 16384) e) := by pointwise
theorem sliceS_at (w : IVec S16384x512 32) (r : Fin 8192) (e : Fin 512) :
    extractStridedSlice S8192x512 ![0, 0] w slices_S16384x512_S8192x512_0_0 (ix2 r e) = w (ix2 (⟨0 + r, by omega⟩ : Fin 16384) e) := by pointwise
theorem sliceS_at' (w : IVec S16384x512 32) (r : Fin 8192) (e : Fin 512) :
    extractStridedSlice S8192x512 ![8192, 0] w slices_S16384x512_S8192x512_8192_0 (ix2 r e) = w (ix2 (⟨8192 + r, by omega⟩ : Fin 16384) e) := by pointwise

/-! One part's terms are its tokens' outputs. -/

theorem context_at (G H : Rows) (w : Wts) (x : Toks) (s : Shared) (M : Mods) (g : Gain) (b : Fin 32) (i : Fin 256) (k : Fin 1024) :
    context G H w x s M g (ix3 b i k) = norm (upd (gath G H ⟨b * 256 + i, by omega⟩) (fun e => w (ix2 (⟨0 + (b * 256 + i), by omega⟩ : Fin 16384) e))
      (fun l => s (ix2 (⟨0 + (b * 256 + i), by omega⟩ : Fin 16384) l)) (fun l => x (ix2 (⟨0 + (b * 256 + i), by omega⟩ : Fin 16384) l))
      (fun l => M (ix3 (0 : Fin 8) (5 : Fin 6) l))) (fun l => g (ix1 l)) k := rfl

theorem context_eq (G H : IVec S32x8x128x512 32) (w : FVec Ideal S16384x8 .f32) (x : FVec Ideal S16384x1024 .f32) (s : IVec S16384x512 32)
    (M : FVec Ideal S8x6x1024 .f32) (g : FVec Ideal S1024 .f32) :
    normC (midC x M (sumG (openG (catG G H)) (extractStridedSlice S8192x8 ![0, 0] w slices_S16384x8_S8192x8_0_0))
      (openS (extractStridedSlice S8192x512 ![0, 0] s slices_S16384x512_S8192x512_0_0))) g = context G H w x s M g := by
  funext j
  idx_vars j
  have ho : (j0 : ℕ) * 256 + j1 < 8192 := by omega
  have key : ∀ l : Fin 1024, midC x M (sumG (openG (catG G H)) (extractStridedSlice S8192x8 ![0, 0] w slices_S16384x8_S8192x8_0_0))
      (openS (extractStridedSlice S8192x512 ![0, 0] s slices_S16384x512_S8192x512_0_0)) (ix3 j0 j1 l)
      = upd (gath G H ⟨j0 * 256 + j1, ho⟩) (fun e => w (ix2 (⟨0 + (j0 * 256 + j1), by omega⟩ : Fin 16384) e))
      (fun l => s (ix2 (⟨0 + (j0 * 256 + j1), by omega⟩ : Fin 16384) l)) (fun l => x (ix2 (⟨0 + (j0 * 256 + j1), by omega⟩ : Fin 16384) l))
      (fun l => M (ix3 (0 : Fin 8) (5 : Fin 6) l)) l := fun l => by
    rw [midC_at _ _ _ _ j0 j1 l ⟨j0 * 256 + j1, ho⟩ rfl, sumG_at, openS_at]
    unfold upd
    simp only [slice8_at, sliceS_at]
    exact congrArg (fun q : EReal => x (ix2 (⟨0 + (j0 * 256 + j1), by omega⟩ : Fin 16384) l) + M (ix3 (0 : Fin 8) (5 : Fin 6) l) * (q + half (fun i => s (ix2 (⟨0 + (j0 * 256 + j1), by omega⟩ : Fin 16384) i)) l))
      (Finset.sum_congr rfl fun e _ => congrArg (fun q : EReal => q * w (ix2 (⟨0 + (j0 * 256 + j1), by omega⟩ : Fin 16384) e)) (openCat_at G H ⟨j0 * 256 + j1, ho⟩ e l))
  rw [normC_at, context_at]
  simp only [key]

theorem latent_at (G H : Rows) (w : Wts) (x : Toks) (s : Shared) (M : Mods) (g : Gain) (b : Fin 4) (i : Fin 2048) (k : Fin 1024) :
    latent G H w x s M g (ix3 b i k) = norm (upd (gath G H ⟨b * 2048 + i, by omega⟩) (fun e => w (ix2 (⟨8192 + (b * 2048 + i), by omega⟩ : Fin 16384) e))
      (fun l => s (ix2 (⟨8192 + (b * 2048 + i), by omega⟩ : Fin 16384) l)) (fun l => x (ix2 (⟨8192 + (b * 2048 + i), by omega⟩ : Fin 16384) l))
      (fun l => M (ix3 (⟨1 + b, by omega⟩ : Fin 8) (5 : Fin 6) l))) (fun l => g (ix1 l)) k := rfl

theorem latent_eq (G H : IVec S32x8x128x512 32) (w : FVec Ideal S16384x8 .f32) (x : FVec Ideal S16384x1024 .f32) (s : IVec S16384x512 32)
    (M : FVec Ideal S8x6x1024 .f32) (g : FVec Ideal S1024 .f32) :
    normL (midL x M (sumG (openG (catG G H)) (extractStridedSlice S8192x8 ![8192, 0] w slices_S16384x8_S8192x8_8192_0))
      (openS (extractStridedSlice S8192x512 ![8192, 0] s slices_S16384x512_S8192x512_8192_0))) g = latent G H w x s M g := by
  funext j
  idx_vars j
  have ho : (j0 : ℕ) * 2048 + j1 < 8192 := by omega
  have key : ∀ l : Fin 1024, midL x M (sumG (openG (catG G H)) (extractStridedSlice S8192x8 ![8192, 0] w slices_S16384x8_S8192x8_8192_0))
      (openS (extractStridedSlice S8192x512 ![8192, 0] s slices_S16384x512_S8192x512_8192_0)) (ix3 j0 j1 l)
      = upd (gath G H ⟨j0 * 2048 + j1, ho⟩) (fun e => w (ix2 (⟨8192 + (j0 * 2048 + j1), by omega⟩ : Fin 16384) e))
      (fun l => s (ix2 (⟨8192 + (j0 * 2048 + j1), by omega⟩ : Fin 16384) l)) (fun l => x (ix2 (⟨8192 + (j0 * 2048 + j1), by omega⟩ : Fin 16384) l))
      (fun l => M (ix3 (⟨1 + j0, by omega⟩ : Fin 8) (5 : Fin 6) l)) l := fun l => by
    rw [midL_at _ _ _ _ j0 j1 l ⟨j0 * 2048 + j1, ho⟩ rfl, sumG_at, openS_at]
    unfold upd
    simp only [slice8_at', sliceS_at']
    exact congrArg (fun q : EReal => x (ix2 (⟨8192 + (j0 * 2048 + j1), by omega⟩ : Fin 16384) l) + M (ix3 (⟨1 + j0, by omega⟩ : Fin 8) (5 : Fin 6) l) * (q + half (fun i => s (ix2 (⟨8192 + (j0 * 2048 + j1), by omega⟩ : Fin 16384) i)) l))
      (Finset.sum_congr rfl fun e _ => congrArg (fun q : EReal => q * w (ix2 (⟨8192 + (j0 * 2048 + j1), by omega⟩ : Fin 16384) e)) (openCat_at G H ⟨j0 * 2048 + j1, ho⟩ e l))
  rw [normL_at, latent_at]
  simp only [key]

/-- The reference's results are the tokens' outputs. -/
theorem ref_context : Value.res_main_v44 (F := Ideal) m c = context (m ((c.tc : Thread nD τ).loc main_arg0)) (m ((c.tc : Thread nD τ).loc main_arg1))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) := by
  exact (res0 m c).trans (context_eq _ _ _ _ _ _ _)

theorem ref_latent : Value.res_main_v89 (F := Ideal) m c = latent (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) := by
  exact (res1 m c).trans (latent_eq _ _ _ _ _ _ _)

end Cert.Combine
-- ==== Proof.CombineClaim.lean ====
/- The two claims about the combination that read both texts: the reference's run, and equal results. -/
module

public import proofs.«01_k».proof.Defs
public import proofs.«01_k».proof.Proof.CombineEnds
public import proofs.«01_k».proof.Proof.CombineRef
public import Idealize.ShloMosaic.Lib.Claim

@[expose] public section

noncomputable section

namespace Cert.Combine

open Idealize.ShloMosaic Idealize.SL.Sem

section
open Cert.Kernel5Ideal Cert.Kernel5Ideal.Gen Idealize.ShloMosaic.TcCoe

/-- The kernels end with the tokens' outputs, and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = ctx m c
      ∧ r.2.mem ((c.tc : Thread nD τ).loc main_v9) = lat m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun r h c => ⟨(h c _ (mem_uc main_v8 (by decide))).trans (end_ctx m ρ c),
    (h c _ (mem_uc main_v9 (by decide))).trans (end_lat m ρ c),
    (h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c)⟩) (ends m ρ)

end

theorem frame : Cert.quiescent_Reference5Ideal (hReference5Ideal := Cert.Reference5Ideal.Gen.facts) := fun m g _ =>
  (θ_run _ _ _).mono (fun r h => ⟨fun c => (h c).2.2, sem_eq_zero_of_no_sems (by decide) r.2⟩)
    (Cert.Reference5Ideal.Value.run m g)

theorem value : Cert.algebraic_Kernel5Ideal_Reference5Ideal (hKernel5Ideal := Cert.Kernel5Ideal.Gen.facts)
    (hReference5Ideal := Cert.Reference5Ideal.Gen.facts) := by
  intro m g m' g' _ hagree
  refine ⟨fun c => ctx m c, fun c => lat m c, run m g, ?_⟩
  refine (θ_run _ _ _).mono (fun r h c => ?_) (Cert.Reference5Ideal.Value.run m' g')
  obtain ⟨a0, a1, a2, a3, a4, a5, a6, a7, a8⟩ := hagree c
  obtain ⟨h0, h1, hr⟩ := h c
  refine ⟨h0.trans ((ref_context m' c).trans ?_), h1.trans ((ref_latent m' c).trans ?_), hr⟩
  · rw [a0, a1, a4, a5, a6, a7, a8]
    rfl
  · rw [a2, a3, a4, a5, a6, a7, a8]
    rfl

end Cert.Combine
-- ==== Proof.CondRef.lean ====
module

public import proofs.«01_k».proof.Proof.Gen.Reference6Ideal.Run
public import Idealize.ShloMosaic.Lib.Claim
public import Idealize.ShloMosaic.Lib.Pointwise

@[expose] public section

set_option maxRecDepth 100000

noncomputable section

/-! The modulation table: eight rows of conditions through `silu`, the weights and the bias. -/

namespace Cert.Cond

open Idealize.ShloMosaic Idealize.SL.Sem

/-- The condition in row `r`: the context's first, then the four latent samples', then zeros. -/
def cnd (x : FVec Ideal (⟨2, ![4, 1024]⟩ : Shape) .f32) (y : FVec Ideal (⟨1, ![1024]⟩ : Shape) .f32) (r : Fin 8) (k : Fin 1024) : EReal :=
  if r.val < 1 then y (ix1 k) else if h : r.val - 1 < 4 then x (ix2 (⟨r.val - 1, h⟩ : Fin 4) k) else 0

/-- `silu`. -/
def act (x : EReal) : EReal := x * Ideal.logistic x

/-- The table's element at row `r` and column `n`. -/
def entry (x : FVec Ideal (⟨2, ![4, 1024]⟩ : Shape) .f32) (y : FVec Ideal (⟨1, ![1024]⟩ : Shape) .f32)
    (w : FVec Ideal (⟨2, ![1024, 6144]⟩ : Shape) .f32) (b : FVec Ideal (⟨1, ![6144]⟩ : Shape) .f32) (r : Fin 8) (n : Fin 6144) : EReal :=
  (∑ k, act (cnd x y r k) * w (ix2 k n)) + b (ix1 n)

/-- The table. -/
def table (x : FVec Ideal (⟨2, ![4, 1024]⟩ : Shape) .f32) (y : FVec Ideal (⟨1, ![1024]⟩ : Shape) .f32)
    (w : FVec Ideal (⟨2, ![1024, 6144]⟩ : Shape) .f32) (b : FVec Ideal (⟨1, ![6144]⟩ : Shape) .f32) : FVec Ideal (⟨2, ![8, 6144]⟩ : Shape) .f32 :=
  fun i => entry x y w b (i 0) (i 1)

end Cert.Cond

namespace Cert.Reference6Ideal.Cond

open Cert.Reference6Ideal Cert.Reference6Ideal.Gen Idealize.ShloMosaic Idealize.ShloMosaic.TcCoe Idealize.SL.Sem Cert.Cond

theorem first (y : FVec Ideal S1024 .f32) (w : FVec Ideal S1024x6144 .f32) (b : FVec Ideal S6144 .f32) (n : Fin 6144) :
    (addf (Host.dotGeneral dot_S1024_S1024x6144_S6144_0_0_n_1_n_n none (mulf y (Host.divf (broadcastInDim S1024 ![] bcast_S_S1024 (constant S_ .f32 0x3F800000#32)) (addf (broadcastInDim S1024 ![] bcast_S_S1024 (constant S_ .f32 0x3F800000#32)) (Host.exp (Host.negf y))))) w) b) (ix1 n)
      = (∑ k, act (y (ix1 k)) * w (ix2 k n)) + b (ix1 n) := by
  pointwise [act, Ideal.logistic]

theorem next (x : FVec Ideal S4x1024 .f32) (w : FVec Ideal S1024x6144 .f32) (b : FVec Ideal S6144 .f32) (r : Fin 4) (n : Fin 6144) :
    (addf (Host.dotGeneral dot_S4x1024_S1024x6144_S4x6144_1_0_0_1_n_n none (mulf x (Host.divf (broadcastInDim S4x1024 ![] bcast_S_S4x1024 (constant S_ .f32 0x3F800000#32)) (addf (broadcastInDim S4x1024 ![] bcast_S_S4x1024 (constant S_ .f32 0x3F800000#32)) (Host.exp (Host.negf x))))) w) (broadcastInDim S4x6144 ![0, 1] bcast_S1x6144_S4x6144_0_1 (broadcastInDim S1x6144 ![1] bcast_S6144_S1x6144_1 b))) (ix2 r n)
      = (∑ k, act (x (ix2 r k)) * w (ix2 k n)) + b (ix1 n) := by
  pointwise [act, Ideal.logistic]

theorem joined (A : FVec Ideal S1x6144 .f32) (B : FVec Ideal S4x6144 .f32) (C : FVec Ideal S3x6144 .f32) (r : Fin 8) (n : Fin 6144) :
    concatenate S8x6144 0 [⟨S1x6144, A⟩, ⟨S4x6144, B⟩, ⟨S3x6144, C⟩] concatenates_S1x6144_S4x6144_S3x6144_S8x6144_d0 (ix2 r n) =
      if r.val < 1 then A (ix2 0 n) else if h : r.val - 1 < 4 then B (ix2 (⟨r.val - 1, h⟩ : Fin 4) n) else C (ix2 (⟨r.val - 1 - 4, by omega⟩ : Fin 3) n) := by
  by_cases h : r.val < 1
  · rw [if_pos h]; pointwise [h]; exact congrArg (fun a => A (ix2 a n)) (Subsingleton.elim (α := Fin 1) _ _)
  · rw [if_neg h]
    by_cases h' : r.val - 1 < 4
    · rw [dif_pos h']; pointwise [h, h']
    · rw [dif_neg h']; pointwise [h, h']

variable (m : (ℓ : Loc nD τ sig) → Buf (Elt Ideal) ℓ) (ρ : Dev nD → PrngReg)

/-- The table over the reference's arguments. -/
abbrev tb (c : Dev nD) : FVec Ideal S8x6144 .f32 :=
  table (m ((c.tc : Thread nD τ).loc main_arg0)) (m ((c.tc : Thread nD τ).loc main_arg1)) (m ((c.tc : Thread nD τ).loc main_arg2)) (m ((c.tc : Thread nD τ).loc main_arg3))

theorem run : θ_run defs (onTc (τ := τ) (main (F := Ideal))) ⟨m, fun _ => 0, ρ⟩ fun r => ∀ c : Dev nD,
      r.2.mem ((c.tc : Thread nD τ).loc main_v13) = tb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run (F := Ideal) m ρ)
  obtain ⟨h1, h2⟩ := h c
  refine ⟨h1.trans ?_, h2⟩
  funext i
  idx_vars i
  refine (joined _ _ _ i0 i1).trans ?_
  show _ = entry _ _ _ _ i0 i1
  unfold entry cnd
  by_cases h : i0.val < 1
  · simp only [if_pos h]
    refine Eq.trans ?_ (first _ _ _ i1)
    pointwise
  · simp only [if_neg h]
    by_cases h' : i0.val - 1 < 4
    · simp only [dif_pos h']
      exact next _ _ _ _ i1
    · simp only [dif_neg h', act, zero_mul, Finset.sum_const_zero]
      pointwise

end Cert.Reference6Ideal.Cond

end
-- ==== Proof.CondKer.lean ====
module

public import proofs.«01_k».proof.Proof.Gen.Kernel6Ideal.Value
public import proofs.«01_k».proof.Proof.CondRef
public import Idealize.ShloMosaic.Lib.Pipeline.ValueKit
public import Idealize.ShloMosaic.Lib.Claim
public import Idealize.ShloMosaic.Lib.Pointwise

@[expose] public section

set_option maxRecDepth 100000

noncomputable section

/-! The modulation table the kernel leaves: six blocks of a thousand and twenty-four columns, each a product in two parts and a bias. -/

namespace Cert.Kernel6Ideal.Cond

open Cert.Kernel6Ideal Cert.Kernel6Ideal.Gen Idealize.ShloMosaic Idealize.ShloMosaic.TcCoe Idealize.SL.Sem
open Idealize.ShloMosaic.Pipeline (Dat)
open Cert.Cond

variable (m : (ℓ : Loc nD τ sig) → Buf (Elt Ideal) ℓ) (ρ : Dev nD → PrngReg)

/-- The table over the kernel's arguments. -/
abbrev tb (c : Dev nD) : FVec Ideal S8x6144 .f32 :=
  table (m ((c.tc : Thread nD τ).loc main_arg0)) (m ((c.tc : Thread nD τ).loc main_arg1)) (m ((c.tc : Thread nD τ).loc main_arg2)) (m ((c.tc : Thread nD τ).loc main_arg3))

/-- The conditions over the kernel's arguments. -/
abbrev cd (c : Dev nD) : Fin 8 → Fin 1024 → EReal :=
  cnd (m ((c.tc : Thread nD τ).loc main_arg0)) (m ((c.tc : Thread nD τ).loc main_arg1))

/-- Which block each window stages at a point. -/
theorem idx : ∀ t : Fin cfg0.N, t.val < 6 ∧ win0_0.index t = ![0, 0] ∧ win0_1.index t = ![0, t.val] ∧ win0_2.index t = ![0, t.val]
    ∧ win0_3.index t = ![0, t.val] :=
  (by decide +kernel : ∀ t : Fin grid0.N, _)

/-- Column `t * 1024 + a`. -/
def cl (t : Fin cfg0.N) (a : Fin 1024) : Fin 6144 := ⟨t.val * 1024 + a.val, by have := (idx t).1; omega⟩

theorem joined (A : FVec Ideal S1x1024 .f32) (B : FVec Ideal S4x1024 .f32) (C : FVec Ideal S3x1024 .f32) (r : Fin 8) (n : Fin 1024) :
    concatenate S8x1024 0 [⟨S1x1024, A⟩, ⟨S4x1024, B⟩, ⟨S3x1024, C⟩] concatenates_S1x1024_S4x1024_S3x1024_S8x1024_d0 (ix2 r n) =
      if r.val < 1 then A (ix2 0 n) else if h : r.val - 1 < 4 then B (ix2 (⟨r.val - 1, h⟩ : Fin 4) n) else C (ix2 (⟨r.val - 1 - 4, by omega⟩ : Fin 3) n) := by
  by_cases h : r.val < 1
  · rw [if_pos h]; pointwise [h]; exact congrArg (fun a => A (ix2 a n)) (Subsingleton.elim (α := Fin 1) _ _)
  · rw [if_neg h]
    by_cases h' : r.val - 1 < 4
    · rw [dif_pos h']; pointwise [h, h']
    · rw [dif_neg h']; pointwise [h, h']

theorem join_congr {A A' : FVec Ideal S1x1024 .f32} {B B' : FVec Ideal S4x1024 .f32} {C C' : FVec Ideal S3x1024 .f32} (hA : A = A') (hB : B = B') (hC : C = C') :
    concatenate S8x1024 0 [⟨S1x1024, A⟩, ⟨S4x1024, B⟩, ⟨S3x1024, C⟩] concatenates_S1x1024_S4x1024_S3x1024_S8x1024_d0 =
      concatenate S8x1024 0 [⟨S1x1024, A'⟩, ⟨S4x1024, B'⟩, ⟨S3x1024, C'⟩] concatenates_S1x1024_S4x1024_S3x1024_S8x1024_d0 := by
  subst hA hB hC; rfl

set_option maxHeartbeats 2000000 in
theorem V2 (c : Dev nD) : V m c main_v2 = (concatenate S8x1024 0 [⟨S1x1024, (broadcastInDim S1x1024 ![1] bcast_S1024_S1x1024_1 (m ((c.tc : Thread nD τ).loc main_arg1)) : FVec Ideal S1x1024 .f32)⟩,
      ⟨S4x1024, (m ((c.tc : Thread nD τ).loc main_arg0) : FVec Ideal S4x1024 .f32)⟩,
      ⟨S3x1024, (broadcastInDim S3x1024 ![] bcast_S_S3x1024 (constant S_ .f32 0x00000000#32) : FVec Ideal S3x1024 .f32)⟩] concatenates_S1x1024_S4x1024_S3x1024_S8x1024_d0 : FVec Ideal S8x1024 .f32) := by
  simp only [V, hostOps0]
  after_results_simp
  refine join_congr ?_ ?_ ?_
  · show HloOp.result _ _ (Proc.tc.devRef main_v0) = _
    after_results_simp
  · show HloOp.result _ _ (Proc.tc.devRef main_arg0) = _
    after_results_simp
  · show HloOp.result _ _ (Proc.tc.devRef main_v1) = _
    after_results_simp

theorem V3 (c : Dev nD) : V m c main_v3 = (shapeCast S1x6144 (m ((c.tc : Thread nD τ).loc main_arg3)) shapeCasts_S6144_S1x6144 : FVec Ideal S1x6144 .f32) := by
  simp only [V, hostOps0]
  entry_read
  rfl

theorem V2_at (c : Dev nD) (r : Fin 8) (k : Fin 1024) : V m c main_v2 (ix2 r k : S8x1024.Idx) = cd m c r k := by
  refine (congrFun (V2 m c) _).trans ((joined _ _ _ r k).trans ?_)
  unfold cd cnd
  by_cases h : r.val < 1
  · simp only [if_pos h]; pointwise
  · simp only [if_neg h]
    by_cases h' : r.val - 1 < 4
    · simp only [dif_pos h']
    · simp only [dif_neg h']; pointwise

theorem read0 (c : Dev nD) (t : Fin cfg0.N) (r : Fin 8) (k : Fin 1024) : iblk m c 0 t (ix2 r k : S8x1024.Idx) = cd m c r k := by
  obtain ⟨ht, i0, i1, i2, i3⟩ := idx t
  have e : ((win0_0.blk t).view.emb (ix2 r k : S8x1024.Idx)) = (ix2 r k : S8x1024.Idx) := by
    refine funext (Fin.forall_fin_two.2 ⟨Fin.ext ?_, Fin.ext ?_⟩) <;> blk_simp [i0] <;> omega
  exact (congrArg (V m c main_v2) e).trans (V2_at m c r k)

theorem read1 (c : Dev nD) (t : Fin cfg0.N) (k n : Fin 1024) :
    iblk m c 1 t (ix2 k n : S1024x1024.Idx) = m ((c.tc : Thread nD τ).loc main_arg2) (ix2 k (cl t n)) := by
  obtain ⟨ht, i0, i1, i2, i3⟩ := idx t
  simp only [cl]
  blk_point [iblk, V, i1]

theorem read2 (c : Dev nD) (t : Fin cfg0.N) (n : Fin 1024) :
    iblk m c 2 t (ix2 0 n : S1x1024.Idx) = m ((c.tc : Thread nD τ).loc main_arg3) (ix1 (cl t n)) := by
  obtain ⟨ht, i0, i1, i2, i3⟩ := idx t
  have e : ((win0_2.blk t).view.emb (ix2 0 n : S1x1024.Idx)) = (ix2 0 (cl t n) : S1x6144.Idx) := by
    refine funext (Fin.forall_fin_two.2 ⟨Fin.ext ?_, Fin.ext ?_⟩) <;> blk_simp [i2, cl] <;> omega
  refine (congrArg (V m c main_v3) e).trans ?_
  rw [V3]
  pointwise

/-- A row's element from the body's reading of the row, of a column of the weights and of the bias. -/
theorem step {n : ℕ} {x x' w w' : Fin n → EReal} {b b' : EReal} (hx : x = x') (hw : w = w') (hb : b = b') :
    ((∑ k, x k * Ideal.logistic (x k) * w k) + ((∑ k, x k * Ideal.logistic (x k) * (w k - w k))
        + ∑ k, (x k * Ideal.logistic (x k) - x k * Ideal.logistic (x k)) * w k)) + b
      = ((∑ k, act (x' k) * w' k) + ((∑ k, act (x' k) * (w' k - w' k)) + ∑ k, (act (x' k) - act (x' k)) * w' k)) + b' := by
  subst hx hw hb; rfl

/-- The products of what the splitting leaves over vanish. -/
theorem rest {n : ℕ} {f g : Fin n → EReal} (hf : ∀ k, f k - f k = 0) (hg : ∀ k, g k - g k = 0) :
    (∑ k, f k * g k) + ((∑ k, f k * (g k - g k)) + ∑ k, (f k - f k) * g k) = ∑ k, f k * g k := by
  simp only [hf, hg, mul_zero, zero_mul, Finset.sum_const_zero, add_zero]

theorem final (c : Dev nD) (hs : ∀ r k, act (cd m c r k) - act (cd m c r k) = 0)
    (hw : ∀ k n, @HSub.hSub EReal EReal EReal _ (m ((c.tc : Thread nD τ).loc main_arg2) (ix2 k n)) (m ((c.tc : Thread nD τ).loc main_arg2) (ix2 k n)) = 0) :
    (dats m 0 c).arrAt 3 cfg0.N = tb m c := by
  refine (dats m 0 c).arrAt_eq_of_covers 3 _ (by decide +kernel) fun t _ y => ?_
  obtain ⟨ht, i0, i1, i2, i3⟩ := idx t
  have hr : ((View.whole main_v4).slice (win0_3.rect t)).emb y 0 = y 0 := Fin.ext (by blk_simp [i3])
  have hj : ((View.whole main_v4).slice (win0_3.rect t)).emb y 1 = cl t (y 1) := Fin.ext (by blk_simp [i3, cl])
  blk_simp [i3]
  rw [after0_3]
  frame_out
  pointwise [k0_pay1, tb, table, entry]
  rw [hr, hj]
  show @Eq EReal _ _
  refine Eq.trans ?_ (congrArg (· + _) (rest (fun k => hs (y 0) k) (fun k => hw k (cl t (y 1)))))
  have h0 : ∀ k, iblk m c 0 t (ix2 (y 0) k : S8x1024.Idx) = cd m c (y 0) k := fun k => read0 m c t (y 0) k
  have h1 : ∀ k, iblk m c 1 t (ix2 k (y 1) : S1024x1024.Idx) = _ := fun k => read1 m c t k (y 1)
  have h2 := read2 m c t (y 1)
  exact step (funext h0) (funext h1) h2

/-- The run of the kernel with its result named. -/
theorem run (hs : ∀ c r k, act (cd m c r k) - act (cd m c r k) = 0)
    (hw : ∀ (c : Dev nD) k n, @HSub.hSub EReal EReal EReal _ (m ((c.tc : Thread nD τ).loc main_arg2) (ix2 k n)) (m ((c.tc : Thread nD τ).loc main_arg2) (ix2 k n)) = 0) :
    θ_run defs (onTc (τ := τ) (main (F := Ideal))) ⟨m, fun _ => 0, ρ⟩ fun r => ∀ c : Dev nD,
      r.2.mem ((c.tc : Thread nD τ).loc main_v4) = tb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run_blocks (F := Ideal) m ρ)
  obtain ⟨h1, h2⟩ := h c
  exact ⟨h1.trans (final m c (hs c) (hw c)), h2⟩

end Cert.Kernel6Ideal.Cond

end
-- ==== Proof.CondClaim.lean ====
module

public import proofs.«01_k».proof.Defs
public import proofs.«01_k».proof.Proof.CondKer
public import proofs.«01_k».proof.Proof.OutprojClaim
public import proofs.«01_k».proof.Proof.Gen.Pre_finite_conditions
public import Idealize.ShloMosaic.Lib.Claim

@[expose] public section

set_option maxRecDepth 100000

noncomputable section

/-! The claims about the modulation table: what the precondition says of the arrays, that `silu` of the conditions is then finite,
    the reference's run, and equal results. -/

namespace Cert.Cond

open Idealize.ShloMosaic Idealize.SL.Sem Cert.Outproj

theorem IsR.act {x : EReal} : IsR x → IsR (act x) := by
  rintro ⟨a, rfl⟩
  exact IsR.mul ⟨a, rfl⟩ ⟨_, Ideal.logistic_coe a⟩

theorem IsR.cnd {x : FVec Ideal (⟨2, ![4, 1024]⟩ : Shape) .f32} {y : FVec Ideal (⟨1, ![1024]⟩ : Shape) .f32} (hx : ∀ i, IsR (x i))
    (hy : ∀ i, IsR (y i)) (r : Fin 8) (k : Fin 1024) : IsR (cnd x y r k) := by
  unfold Cert.Cond.cnd
  split
  · exact hy _
  · exact IsR.dite (fun _ => hx _) fun _ => ⟨0, rfl⟩

open Cert.Pre_finite_conditions in
/-- What the precondition says, array by array. -/
theorem finite_of (x0 : FVec Ideal S4x1024 .f32) (x1 : FVec Ideal S1024 .f32) (x2 : FVec Ideal S1024x6144 .f32) (x3 : FVec Ideal S6144 .f32)
    (h : Cert.Pre_finite_conditions.fn (F := Ideal) x0 x1 x2 x3 = fun _ => 1#1) :
    (∀ i, IsR (x0 i)) ∧ (∀ i, IsR (x1 i)) ∧ (∀ i, IsR (x2 i)) := by
  have h := congrFun h (fun i => i.elim0)
  simp only [fn] at h
  obtain ⟨h, h2⟩ := and1 h
  obtain ⟨h0, h1⟩ := and1 h
  exact ⟨all_finite _ _ _ _ _ h0, all_finite _ _ _ _ _ h1, all_finite _ _ _ _ _ h2⟩

theorem frame : Cert.quiescent_Reference6Ideal (hReference6Ideal := Cert.Reference6Ideal.Gen.facts) := fun m g _ =>
  (θ_run _ _ _).mono (fun r h => ⟨fun c => (h c).2, sem_eq_zero_of_no_sems (by decide) r.2⟩)
    (Cert.Reference6Ideal.Cond.run m g)

theorem frame_pre : Cert.quiescent_Reference6Ideal_pre_finite_conditions (hReference6Ideal := Cert.Reference6Ideal.Gen.facts)
    (hPre_finite_conditions := Cert.Pre_finite_conditions.Gen.facts) := fun m g _ =>
  (θ_run _ _ _).mono (fun r h => ⟨fun c => (h c).2, sem_eq_zero_of_no_sems (by decide) r.2⟩)
    (Cert.Reference6Ideal.Cond.run m g)

theorem value : Cert.algebraic_Kernel6Ideal_Reference6Ideal_pre_finite_conditions (hKernel6Ideal := Cert.Kernel6Ideal.Gen.facts)
    (hReference6Ideal := Cert.Reference6Ideal.Gen.facts) (hPre_finite_conditions := Cert.Pre_finite_conditions.Gen.facts) := by
  intro m g m' g' hp hagree
  refine ⟨fun c => Cert.Kernel6Ideal.Cond.tb m c,
    Cert.Kernel6Ideal.Cond.run m g
      (fun c r k => (IsR.act (IsR.cnd (finite_of _ _ _ _ (hp c)).1 (finite_of _ _ _ _ (hp c)).2.1 r k)).sub_self)
      (fun c k n => ((finite_of _ _ _ _ (hp c)).2.2 _).sub_self), ?_⟩
  refine (θ_run _ _ _).mono (fun r h c => ?_) (Cert.Reference6Ideal.Cond.run m' g')
  obtain ⟨a0, a1, a2, a3⟩ := hagree c
  have e : Cert.Reference6Ideal.Cond.tb m' c = Cert.Kernel6Ideal.Cond.tb m c := by
    show table _ _ _ _ = table _ _ _ _
    rw [a0, a1, a2, a3]
  exact ⟨(h c).1.trans e, (h c).2⟩

end Cert.Cond

end
-- ==== Proof.PoolMath.lean ====
module

public import Idealize.ShloMosaic.Lib.Claim
public import Idealize.ShloMosaic.Lib.Pointwise

@[expose] public section

set_option maxRecDepth 100000

noncomputable section

/-! The pooling of the context: four groups of a hundred and twenty-eight columns, in each the mean over a centred window of rows
    less the row itself, through the group's matrix, times the column's scale. -/

namespace Cert.Pool

open Idealize.ShloMosaic Idealize.SL.Sem

/-- Half of each group's window. -/
def half (i : Fin 4) : ℕ := ![1, 2, 4, 8] i

/-- The sum over the window of half-width `h` about row `t`, clipped to the sequence. -/
def wsum (x : Fin 256 → EReal) (h t : ℕ) : EReal := ∑ l : Fin 256, if t - h ≤ l.val ∧ l.val < min (t + h) 256 then x l else 0

/-- How many rows the window about row `t` has. -/
def cnt (h t : ℕ) : EReal := (((IntOp.subi (BitVec.ofNat 32 (min (t + h) 256)) (BitVec.ofNat 32 (t - h))).toInt : ℝ) : EReal)

/-- A group's element: row `t` of the sequence `x`, column `e` of the group's matrix `w`. -/
def core (x : Fin 256 → Fin 128 → EReal) (w : Fin 128 → Fin 128 → EReal) (h : ℕ) (t : Fin 256) (e : Fin 128) : EReal :=
  ∑ c : Fin 128, (Ideal.div (wsum (fun l => x l c) h t.val) (cnt h t.val) - x t c) * w c e

/-- Row `l` of sequence `b`. -/
def row (b : Fin 32) (l : Fin 256) : Fin 16384 := ⟨b.val * 256 + l.val, by omega⟩

/-- Column `c` of group `i`. -/
def col (i : Fin 4) (c : Fin 128) : Fin 512 := ⟨i.val * 128 + c.val, by omega⟩

/-- The result's element in row `t` of sequence `b` and column `e` of group `i`. -/
def entry (u : FVec Ideal (⟨2, ![16384, 512]⟩ : Shape) .f32) (w : FVec Ideal (⟨3, ![4, 128, 128]⟩ : Shape) .f32)
    (s : FVec Ideal (⟨1, ![512]⟩ : Shape) .f32) (b : Fin 32) (t : Fin 256) (i : Fin 4) (e : Fin 128) : EReal :=
  core (fun l c => u (ix2 (row b l) (col i c))) (fun c e => w (ix3 i c e)) (half i) t e * s (ix1 (col i e))

/-- The sequence, the row in it, the group and the column in it of an entry. -/
def seqOf (r : Fin 8192) : Fin 32 := ⟨r.val / 256, by omega⟩
def posOf (r : Fin 8192) : Fin 256 := ⟨r.val % 256, by omega⟩
def grpOf (d : Fin 512) : Fin 4 := ⟨d.val / 128, by omega⟩
def inOf (d : Fin 512) : Fin 128 := ⟨d.val % 128, by omega⟩

/-- The result. -/
def pooled (u : FVec Ideal (⟨2, ![16384, 512]⟩ : Shape) .f32) (w : FVec Ideal (⟨3, ![4, 128, 128]⟩ : Shape) .f32)
    (s : FVec Ideal (⟨1, ![512]⟩ : Shape) .f32) : FVec Ideal (⟨2, ![8192, 512]⟩ : Shape) .f32 := fun j =>
  entry u w s (seqOf (j 0)) (posOf (j 0)) (grpOf (j 1)) (inOf (j 1))

/-- Two multi-indices of rank three agree where their coordinates do. -/
theorem idx3_ext {a b c : ℕ} {i j : (⟨3, ![a, b, c]⟩ : Shape).Idx} (h0 : i 0 = j 0) (h1 : i 1 = j 1) (h2 : i 2 = j 2) : i = j := by
  funext k
  match k with
  | ⟨0, _⟩ => exact h0
  | ⟨1, _⟩ => exact h1
  | ⟨2, _⟩ => exact h2

theorem toInt_small {n : ℕ} (h : n < 1000) : (BitVec.ofNat 32 n).toInt = n := by
  rw [BitVec.toInt_eq_toNat_cond, BitVec.toNat_ofNat, Nat.mod_eq_of_lt (by omega : n < 2 ^ 32), if_pos (by omega)]

theorem sle_small {a b : ℕ} (ha : a < 1000) (hb : b < 1000) : (BitVec.ofNat 32 a).sle (BitVec.ofNat 32 b) = decide (a ≤ b) := by
  rw [BitVec.sle_eq_decide, toInt_small ha, toInt_small hb]
  simp

theorem slt_small {a b : ℕ} (ha : a < 1000) (hb : b < 1000) : (BitVec.ofNat 32 a).slt (BitVec.ofNat 32 b) = decide (a < b) := by
  rw [BitVec.slt_eq_decide, toInt_small ha, toInt_small hb]
  simp

/-- The words of the window's bounds, as the body clips them. -/
theorem lo_word (i : Fin 4) (t : Fin 256) :
    IntOp.maxsi (IntOp.subi (BitVec.ofNat 32 t.val) (BitVec.ofNat 32 (half i))) 0#32 = BitVec.ofNat 32 (t.val - half i) := by
  revert i t; decide +kernel

theorem hi_word (i : Fin 4) (t : Fin 256) :
    IntOp.minsi (IntOp.subi (IntOp.addi (BitVec.ofNat 32 t.val) (BitVec.ofNat 32 (2 * half i))) (BitVec.ofNat 32 (half i))) 256#32
      = BitVec.ofNat 32 (min (t.val + half i) 256) := by
  revert i t; decide +kernel

/-- The same as the reference clips them. -/
theorem lo_word' (i : Fin 4) (t : Fin 256) :
    IntOp.minsi 256#32 (IntOp.maxsi 0#32 (IntOp.subi (BitVec.ofNat 32 t.val) (BitVec.ofNat 32 (half i)))) = BitVec.ofNat 32 (t.val - half i) := by
  revert i t; decide +kernel

theorem hi_word' (i : Fin 4) (t : Fin 256) :
    IntOp.minsi 256#32 (IntOp.maxsi 0#32 (IntOp.subi (IntOp.addi (BitVec.ofNat 32 t.val) (BitVec.ofNat 32 (2 * half i))) (BitVec.ofNat 32 (half i))))
      = BitVec.ofNat 32 (min (t.val + half i) 256) := by
  revert i t; decide +kernel

/-- The indicator of the window, as the body computes it. -/
theorem band_word {a b l : ℕ} (ha : a < 1000) (hb : b < 1000) (hl : l < 1000) :
    ((((IntOp.andi (IntOp.cmpi .sge (BitVec.ofNat 32 l) (BitVec.ofNat 32 a)) (IntOp.cmpi .slt (BitVec.ofNat 32 l) (BitVec.ofNat 32 b))).setWidth 32).toInt : ℝ) : EReal)
      = if a ≤ l ∧ l < b then 1 else 0 := by
  have e1 : IntOp.cmpi .sge (BitVec.ofNat 32 l) (BitVec.ofNat 32 a) = BitVec.ofBool (decide (a ≤ l)) := congrArg BitVec.ofBool (sle_small ha hl)
  have e2 : IntOp.cmpi .slt (BitVec.ofNat 32 l) (BitVec.ofNat 32 b) = BitVec.ofBool (decide (l < b)) := congrArg BitVec.ofBool (slt_small hl hb)
  rw [e1, e2]
  have key : ∀ p q : Bool, ((IntOp.andi (BitVec.ofBool p) (BitVec.ofBool q)).setWidth 32).toInt = if p && q then 1 else 0 := by decide
  rw [key]
  by_cases h : a ≤ l <;> by_cases h' : l < b <;> simp [h, h']

/-- A row's sum of running products with the indicator and with what the splitting leaves over. -/
theorem band_sum {n : ℕ} {p : Fin n → Prop} [DecidablePred p] {x : Fin n → EReal} (hx : ∀ l, x l - x l = 0) :
    (∑ l, (if p l then (1 : EReal) else 0) * x l) + ∑ l, (if p l then (1 : EReal) else 0) * (x l - x l) = ∑ l, if p l then x l else 0 := by
  simp only [hx, mul_zero, Finset.sum_const_zero, add_zero]
  refine Finset.sum_congr rfl fun l _ => ?_
  split <;> simp

/-- The sum of the first `n` rows. -/
def upto (x : Fin 256 → EReal) (n : ℕ) : EReal := ∑ l : Fin 256, if l.val < n then x l else 0

/-- A difference of running sums is the window's sum, the rows being finite. -/
theorem upto_sub {x : Fin 256 → EReal} (hx : ∀ l, ∃ r : ℝ, x l = r) (h t : ℕ) :
    upto x (min (t + h) 256) - upto x (t - h) = wsum x h t := by
  choose y hy using hx
  have hy : x = fun l => (y l : EReal) := funext hy
  subst hy
  have cast : ∀ p : Fin 256 → Prop, ∀ _ : DecidablePred p, (∑ l, if p l then (y l : EReal) else 0) = ((∑ l, if p l then y l else 0 : ℝ) : EReal) := by
    intro p _
    rw [show ((∑ l, if p l then y l else 0 : ℝ) : EReal) = ∑ l, ((if p l then y l else 0 : ℝ) : EReal) from
      map_sum (⟨⟨Real.toEReal, EReal.coe_zero⟩, EReal.coe_add⟩ : ℝ →+ EReal) _ _]
    refine Finset.sum_congr rfl fun l _ => ?_
    split <;> simp
  unfold upto wsum
  rw [cast, cast, cast, ← EReal.coe_sub, ← Finset.sum_sub_distrib]
  refine congrArg _ (Finset.sum_congr rfl fun l _ => ?_)
  by_cases h1 : l.val < t - h
  · rw [if_pos (show l.val < min (t + h) 256 by omega), if_pos h1, if_neg (by omega), sub_self]
  · by_cases h2 : l.val < min (t + h) 256
    · rw [if_pos h2, if_neg h1, if_pos ⟨by omega, h2⟩, sub_zero]
    · rw [if_neg h2, if_neg h1, if_neg (by omega), sub_zero]

/-- The padded window's sum, which ends at row `t`, is the running sum. -/
theorem window_sum (x : Fin 256 → EReal) (t : Fin 256) :
    (∑ k : Fin 256, if h : 255 ≤ t.val + k.val ∧ t.val + k.val - 255 < 256 then x ⟨t.val + k.val - 255, h.2⟩ else 0) = upto x (t.val + 1) := by
  unfold upto
  rw [← Finset.sum_filter, ← Finset.sum_filter_add_sum_filter_not Finset.univ (fun k : Fin 256 => 255 ≤ t.val + k.val)]
  rw [Finset.sum_eq_zero (s := Finset.univ.filter fun k : Fin 256 => ¬ 255 ≤ t.val + k.val), add_zero]
  · refine Finset.sum_bij' (fun k _ => (⟨(t.val + k.val - 255) % 256, Nat.mod_lt _ (by decide)⟩ : Fin 256))
      (fun l _ => (⟨(255 + l.val - t.val) % 256, Nat.mod_lt _ (by decide)⟩ : Fin 256)) ?_ ?_ ?_ ?_ ?_
    · intro k hk
      have hk := (Finset.mem_filter.mp hk).2
      refine Finset.mem_filter.mpr ⟨Finset.mem_univ _, ?_⟩
      show (t.val + k.val - 255) % 256 < t.val + 1
      omega
    · intro l hl
      have hl := (Finset.mem_filter.mp hl).2
      refine Finset.mem_filter.mpr ⟨Finset.mem_univ _, ?_⟩
      show 255 ≤ t.val + (255 + l.val - t.val) % 256
      omega
    · intro k hk
      have hk := (Finset.mem_filter.mp hk).2
      refine Fin.ext ?_
      show (255 + (t.val + k.val - 255) % 256 - t.val) % 256 = k.val
      omega
    · intro l hl
      have hl := (Finset.mem_filter.mp hl).2
      refine Fin.ext ?_
      show (t.val + (255 + l.val - t.val) % 256 - 255) % 256 = l.val
      omega
    · intro k hk
      have hk := (Finset.mem_filter.mp hk).2
      rw [dif_pos ⟨hk, by omega⟩]
      refine congrArg x (Fin.ext ?_)
      show t.val + k.val - 255 = (t.val + k.val - 255) % 256
      omega
  · intro k hk
    have hk := (Finset.mem_filter.mp hk).2
    exact dif_neg fun h => hk h.1

end Cert.Pool

end
-- ==== Proof.PoolKer.lean ====
module

public import proofs.«01_k».proof.Proof.Gen.Kernel7Ideal.Value
public import proofs.«01_k».proof.Proof.PoolMath
public import Idealize.ShloMosaic.Lib.Pipeline.ValueKit
public import Idealize.ShloMosaic.Lib.Claim
public import Idealize.ShloMosaic.Lib.Pointwise

@[expose] public section

set_option maxRecDepth 100000

noncomputable section

/-! The pooled context the kernel leaves: thirty-two blocks, one for a sequence, each stored as four groups of columns. -/

namespace Cert.Kernel7Ideal.Pool

open Cert.Kernel7Ideal Cert.Kernel7Ideal.Gen Idealize.ShloMosaic Idealize.ShloMosaic.TcCoe Idealize.SL.Sem
open Idealize.ShloMosaic.Pipeline (Dat)
open Cert.Pool

/-- A group of columns from the window's indicator, its rows' number, the rows, the group's matrix and the scale. -/
def tile (B : FVec Ideal S256x256 .bf16) (n : IVec S256x1 32) (x : FVec Ideal S256x128 .f32) (w : FVec Ideal S1x128x128 .bf16) (s : FVec Ideal S1x128 .f32) :
    FVec Ideal S256x128 .f32 :=
  mulf (matmul dot_S256x128_S128x128_S256x128_1_0_0_1_n_n none
      (truncf .bf16 (subf (divf (addf
          (matmul dot_S256x256_S256x128_S256x128_1_0_0_1_n_n none B (truncf .bf16 x bitsLt_bf16_f32) (constant S256x128 .f32 0x00000000#32))
          (matmul dot_S256x256_S256x128_S256x128_1_0_0_1_n_n none B (truncf .bf16 (subf x (extf .f32 (truncf .bf16 x bitsLt_bf16_f32) bitsLt_bf16_f32)) bitsLt_bf16_f32) (constant S256x128 .f32 0x00000000#32)))
        (broadcastTo S256x128 (sitofp .f32 n) broadcasts_S256x1_S256x128)) x) bitsLt_bf16_f32)
      (shapeCast S128x128 w shapeCasts_S1x128x128_S128x128) (constant S256x128 .f32 0x00000000#32))
    (broadcastTo S256x128 (shapeCast S1x128 s shapeCasts_S1x128_S1x128) broadcasts_S1x128_S256x128)

/-- The window's indicator. -/
def bandOf (h w : BitVec 32) : FVec Ideal S256x256 .bf16 :=
  truncf .bf16 (sitofp .f32 (extui 32 (andi
    (cmpi .sge (iota .tc S256x256 32 [1] iota_S256x256_d1_w32) (maxsi (subi (iota .tc S256x256 32 [0] iota_S256x256_d0_w32) (broadcast S256x256 h)) (broadcast S256x256 0#32)))
    (cmpi .slt (iota .tc S256x256 32 [1] iota_S256x256_d1_w32) (minsi (subi (addi (iota .tc S256x256 32 [0] iota_S256x256_d0_w32) (broadcast S256x256 w)) (broadcast S256x256 h)) (broadcast S256x256 256#32)))) (by decide)) : FVec Ideal S256x256 .f32) bitsLt_bf16_f32

/-- The number of the window's rows. -/
def numOf (h w : BitVec 32) : IVec S256x1 32 :=
  subi (minsi (subi (addi (iota .tc S256x1 32 [0] iota_S256x1_d0_w32) (broadcast S256x1 w)) (broadcast S256x1 h)) (broadcast S256x1 256#32))
    (maxsi (subi (iota .tc S256x1 32 [0] iota_S256x1_d0_w32) (broadcast S256x1 h)) (broadcast S256x1 0#32))

theorem band_at (i : Fin 4) (t l : Fin 256) :
    bandOf (BitVec.ofNat 32 (half i)) (BitVec.ofNat 32 (2 * half i)) (ix2 t l) = if t.val - half i ≤ l.val ∧ l.val < min (t.val + half i) 256 then 1 else 0 := by
  refine Eq.trans ?_ (band_word (a := t.val - half i) (b := min (t.val + half i) 256) (l := l.val) (by omega) (by omega) (by omega))
  rw [← lo_word i t, ← hi_word i t]
  pointwise [bandOf]
  rfl

theorem num_at (i : Fin 4) (t : Fin 256) :
    numOf (BitVec.ofNat 32 (half i)) (BitVec.ofNat 32 (2 * half i)) (ix2 t 0) = IntOp.subi (BitVec.ofNat 32 (min (t.val + half i) 256)) (BitVec.ofNat 32 (t.val - half i)) := by
  rw [← lo_word i t, ← hi_word i t]
  pointwise [numOf]

theorem tile_at (B : FVec Ideal S256x256 .bf16) (n : IVec S256x1 32) (x : FVec Ideal S256x128 .f32) (w : FVec Ideal S1x128x128 .bf16) (s : FVec Ideal S1x128 .f32)
    (t : Fin 256) (e : Fin 128) :
    tile B n x w s (ix2 t e) =
      (∑ c : Fin 128, (Ideal.div ((∑ l : Fin 256, B (ix2 t l) * x (ix2 l c)) + ∑ l : Fin 256, B (ix2 t l) * (x (ix2 l c) - x (ix2 l c))) (((n (ix2 t 0)).toInt : ℝ) : EReal) - x (ix2 t c)) * w (ix3 0 c e))
        * s (ix2 0 e) := by
  pointwise [tile]
  rfl

/-- A group's element. -/
theorem group_at (i : Fin 4) (x : FVec Ideal S256x128 .f32) (w : FVec Ideal S1x128x128 .bf16) (s : FVec Ideal S1x128 .f32)
    (hx : ∀ l c, @HSub.hSub EReal EReal EReal _ (x (ix2 l c)) (x (ix2 l c)) = 0) (t : Fin 256) (e : Fin 128) :
    tile (bandOf (BitVec.ofNat 32 (half i)) (BitVec.ofNat 32 (2 * half i))) (numOf (BitVec.ofNat 32 (half i)) (BitVec.ofNat 32 (2 * half i))) x w s (ix2 t e)
      = core (fun l c => x (ix2 l c)) (fun c e => w (ix3 0 c e)) (half i) t e * s (ix2 0 e) := by
  rw [tile_at]
  refine congrArg (fun z : EReal => z * _) (Finset.sum_congr rfl fun c _ => ?_)
  refine congrArg (fun z : EReal => (z - _) * _) ?_
  simp only [band_at, num_at]
  exact congrArg (fun z : EReal => Ideal.div z _) (band_sum (x := fun l => x (ix2 l c)) fun l => hx l c)

theorem pay1_eq (x : FVec Ideal S256x128 .f32) (w : FVec Ideal S1x128x128 .bf16) (s : FVec Ideal S1x128 .f32) (a : Vec Ideal S256x512 .f32) (b : Vec Ideal S4x128x128 .bf16) (c : Vec Ideal S1x512 .f32) :
    k0_pay1 (k0_pay19 a b c) (k0_pay15 (F := Ideal) (k0_pay17 a b c) (k0_pay18 a b c)) k0_pay16 x w s
      = tile (bandOf (BitVec.ofNat 32 (half 3)) (BitVec.ofNat 32 (2 * half 3))) (numOf (BitVec.ofNat 32 (half 3)) (BitVec.ofNat 32 (2 * half 3))) x w s := rfl

theorem pay14_eq (x : FVec Ideal S256x128 .f32) (w : FVec Ideal S1x128x128 .bf16) (s : FVec Ideal S1x128 .f32) (a : Vec Ideal S256x512 .f32) (b : Vec Ideal S4x128x128 .bf16) (c : Vec Ideal S1x512 .f32) :
    k0_pay14 (k0_pay11 (F := Ideal) (k0_pay17 a b c) (k0_pay18 a b c)) (k0_pay12 (k0_pay19 a b c)) (k0_pay13 (k0_pay19 a b c)) 256#32 x w s
      = tile (bandOf (BitVec.ofNat 32 (half 2)) (BitVec.ofNat 32 (2 * half 2))) (numOf (BitVec.ofNat 32 (half 2)) (BitVec.ofNat 32 (2 * half 2))) x w s := rfl

theorem pay10_eq (x : FVec Ideal S256x128 .f32) (w : FVec Ideal S1x128x128 .bf16) (s : FVec Ideal S1x128 .f32) (a : Vec Ideal S256x512 .f32) (b : Vec Ideal S4x128x128 .bf16) (c : Vec Ideal S1x512 .f32) :
    k0_pay10 (k0_pay4 (F := Ideal) (k0_pay17 a b c) (k0_pay18 a b c)) (k0_pay5 (k0_pay19 a b c)) (k0_pay6 (k0_pay19 a b c)) x (k0_pay8 x) (k0_pay9 (k0_pay17 a b c) (k0_pay18 a b c) x) w s
      = tile (bandOf (BitVec.ofNat 32 (half 1)) (BitVec.ofNat 32 (2 * half 1))) (numOf (BitVec.ofNat 32 (half 1)) (BitVec.ofNat 32 (2 * half 1))) x w s := rfl

theorem pay3_eq (x : FVec Ideal S256x128 .f32) (w : FVec Ideal S1x128x128 .bf16) (s : FVec Ideal S1x128 .f32) :
    k0_pay3 (k0_pay2 x) w s
      = tile (bandOf (BitVec.ofNat 32 (half 0)) (BitVec.ofNat 32 (2 * half 0))) (numOf (BitVec.ofNat 32 (half 0)) (BitVec.ofNat 32 (2 * half 0))) x w s := rfl

/-- What the body loads of each group. -/
theorem ld_x0 (x : Vec Ideal S256x512 .f32) (l : Fin 256) (c : Fin 128) : View.ld x r0_0 (ix2 l c) = x (ix2 l (col 0 c)) :=
  congrArg x (funext (Fin.forall_fin_two.2 ⟨Fin.ext (by show 0 + 1 * l.val = l.val; omega), Fin.ext (by show 0 + 1 * c.val = 0 * 128 + c.val; omega)⟩))
theorem ld_x1 (x : Vec Ideal S256x512 .f32) (l : Fin 256) (c : Fin 128) : View.ld x r0_3 (ix2 l c) = x (ix2 l (col 1 c)) :=
  congrArg x (funext (Fin.forall_fin_two.2 ⟨Fin.ext (by show 0 + 1 * l.val = l.val; omega), Fin.ext (by show 128 + 1 * c.val = 1 * 128 + c.val; omega)⟩))
theorem ld_x2 (x : Vec Ideal S256x512 .f32) (l : Fin 256) (c : Fin 128) : View.ld x r0_6 (ix2 l c) = x (ix2 l (col 2 c)) :=
  congrArg x (funext (Fin.forall_fin_two.2 ⟨Fin.ext (by show 0 + 1 * l.val = l.val; omega), Fin.ext (by show 256 + 1 * c.val = 2 * 128 + c.val; omega)⟩))
theorem ld_x3 (x : Vec Ideal S256x512 .f32) (l : Fin 256) (c : Fin 128) : View.ld x r0_9 (ix2 l c) = x (ix2 l (col 3 c)) :=
  congrArg x (funext (Fin.forall_fin_two.2 ⟨Fin.ext (by show 0 + 1 * l.val = l.val; omega), Fin.ext (by show 384 + 1 * c.val = 3 * 128 + c.val; omega)⟩))
theorem ld_s0 (x : Vec Ideal S1x512 .f32) (c : Fin 128) : View.ld x r0_2 (ix2 0 c) = x (ix2 0 (col 0 c)) :=
  congrArg x (funext (Fin.forall_fin_two.2 ⟨rfl, Fin.ext (by show 0 + 1 * c.val = 0 * 128 + c.val; omega)⟩))
theorem ld_s1 (x : Vec Ideal S1x512 .f32) (c : Fin 128) : View.ld x r0_5 (ix2 0 c) = x (ix2 0 (col 1 c)) :=
  congrArg x (funext (Fin.forall_fin_two.2 ⟨rfl, Fin.ext (by show 128 + 1 * c.val = 1 * 128 + c.val; omega)⟩))
theorem ld_s2 (x : Vec Ideal S1x512 .f32) (c : Fin 128) : View.ld x r0_8 (ix2 0 c) = x (ix2 0 (col 2 c)) :=
  congrArg x (funext (Fin.forall_fin_two.2 ⟨rfl, Fin.ext (by show 256 + 1 * c.val = 2 * 128 + c.val; omega)⟩))
theorem ld_s3 (x : Vec Ideal S1x512 .f32) (c : Fin 128) : View.ld x r0_11 (ix2 0 c) = x (ix2 0 (col 3 c)) :=
  congrArg x (funext (Fin.forall_fin_two.2 ⟨rfl, Fin.ext (by show 384 + 1 * c.val = 3 * 128 + c.val; omega)⟩))

theorem ld_w0 (x : Vec Ideal S4x128x128 .bf16) (c e : Fin 128) : View.ld x r0_1 (ix3 0 c e) = x (ix3 0 c e) :=
  congrArg x (idx3_ext rfl (Fin.ext (by show 0 + 1 * c.val = c.val; omega)) (Fin.ext (by show 0 + 1 * e.val = e.val; omega)))
theorem ld_w1 (x : Vec Ideal S4x128x128 .bf16) (c e : Fin 128) : View.ld x r0_4 (ix3 0 c e) = x (ix3 1 c e) :=
  congrArg x (idx3_ext rfl (Fin.ext (by show 0 + 1 * c.val = c.val; omega)) (Fin.ext (by show 0 + 1 * e.val = e.val; omega)))
theorem ld_w2 (x : Vec Ideal S4x128x128 .bf16) (c e : Fin 128) : View.ld x r0_7 (ix3 0 c e) = x (ix3 2 c e) :=
  congrArg x (idx3_ext rfl (Fin.ext (by show 0 + 1 * c.val = c.val; omega)) (Fin.ext (by show 0 + 1 * e.val = e.val; omega)))
theorem ld_w3 (x : Vec Ideal S4x128x128 .bf16) (c e : Fin 128) : View.ld x r0_10 (ix3 0 c e) = x (ix3 3 c e) :=
  congrArg x (idx3_ext rfl (Fin.ext (by show 0 + 1 * c.val = c.val; omega)) (Fin.ext (by show 0 + 1 * e.val = e.val; omega)))

/-- A group's element from its loads. -/
theorem piece_at (i : Fin 4) (X : Vec Ideal S256x512 .f32) (W : Vec Ideal S4x128x128 .bf16) (S : Vec Ideal S1x512 .f32)
    (hx : ∀ l c, @HSub.hSub EReal EReal EReal _ (X (ix2 l c)) (X (ix2 l c)) = 0)
    (x : FVec Ideal S256x128 .f32) (w : FVec Ideal S1x128x128 .bf16) (s : FVec Ideal S1x128 .f32)
    (ex : ∀ l c, x (ix2 l c) = X (ix2 l (col i c))) (ew : ∀ c e, w (ix3 0 c e) = W (ix3 i c e)) (es : ∀ c, s (ix2 0 c) = S (ix2 0 (col i c)))
    (t : Fin 256) (e : Fin 128) :
    tile (bandOf (BitVec.ofNat 32 (half i)) (BitVec.ofNat 32 (2 * half i))) (numOf (BitVec.ofNat 32 (half i)) (BitVec.ofNat 32 (2 * half i))) x w s (ix2 t e)
      = core (fun l c => X (ix2 l (col i c))) (fun c e => W (ix3 i c e)) (half i) t e * S (ix2 0 (col i e)) := by
  rw [group_at i x w s (fun l c => by rw [ex]; exact hx _ _), es]
  simp only [ex, ew]

/-- The block's element. -/
theorem out_at (x0 : Vec Ideal S256x512 .f32) (x1 : Vec Ideal S4x128x128 .bf16) (x2 : Vec Ideal S1x512 .f32)
    (hx : ∀ l c, @HSub.hSub EReal EReal EReal _ (x0 (ix2 l c)) (x0 (ix2 l c)) = 0) (t : Fin 256) (d : Fin 512) (i : Fin 4) (e : Fin 128) (hd : d.val = i.val * 128 + e.val) :
    out0_3 x0 x1 x2 (ix2 t d) = core (fun l c => x0 (ix2 l (col i c))) (fun c e => x1 (ix3 i c e)) (half i) t e * x2 (ix2 0 (col i e)) := by
  unfold out0_3
  rw [pay1_eq, pay14_eq, pay10_eq, pay3_eq]
  canon_tiles x h
  · have hh : d.val = 384 + ((x 1 : Fin 128) : ℕ) := h1
    have ht : t = x 0 := Fin.ext h0
    have hi : i = 3 := Fin.ext (by have := (x 1 : Fin 128).isLt; show i.val = 3; omega)
    have he : e = x 1 := Fin.ext (by have := congrArg Fin.val hi; have h3 : ((3 : Fin 4) : ℕ) = 3 := rfl; show e.val = ((x 1 : Fin 128) : ℕ); omega)
    rw [ht, hi, he]
    exact (congrArg _ (eq_ix2 x)).trans (piece_at 3 x0 x1 x2 hx _ _ _ (ld_x3 x0) (ld_w3 x1) (ld_s3 x2) (x 0) (x 1))
  · have hh : d.val = 256 + ((x 1 : Fin 128) : ℕ) := h1
    have ht : t = x 0 := Fin.ext h0
    have hi : i = 2 := Fin.ext (by have := (x 1 : Fin 128).isLt; show i.val = 2; omega)
    have he : e = x 1 := Fin.ext (by have := congrArg Fin.val hi; have h3 : ((2 : Fin 4) : ℕ) = 2 := rfl; show e.val = ((x 1 : Fin 128) : ℕ); omega)
    rw [ht, hi, he]
    exact (congrArg _ (eq_ix2 x)).trans (piece_at 2 x0 x1 x2 hx _ _ _ (ld_x2 x0) (ld_w2 x1) (ld_s2 x2) (x 0) (x 1))
  · have hh : d.val = 128 + ((x 1 : Fin 128) : ℕ) := h1
    have ht : t = x 0 := Fin.ext h0
    have hi : i = 1 := Fin.ext (by have := (x 1 : Fin 128).isLt; show i.val = 1; omega)
    have he : e = x 1 := Fin.ext (by have := congrArg Fin.val hi; have h3 : ((1 : Fin 4) : ℕ) = 1 := rfl; show e.val = ((x 1 : Fin 128) : ℕ); omega)
    rw [ht, hi, he]
    exact (congrArg _ (eq_ix2 x)).trans (piece_at 1 x0 x1 x2 hx _ _ _ (ld_x1 x0) (ld_w1 x1) (ld_s1 x2) (x 0) (x 1))
  · have hh : d.val = ((x 1 : Fin 128) : ℕ) := h1
    have ht : t = x 0 := Fin.ext h0
    have hi : i = 0 := Fin.ext (by have := (x 1 : Fin 128).isLt; show i.val = 0; omega)
    have he : e = x 1 := Fin.ext (by have := congrArg Fin.val hi; have h3 : ((0 : Fin 4) : ℕ) = 0 := rfl; show e.val = ((x 1 : Fin 128) : ℕ); omega)
    rw [ht, hi, he]
    exact (congrArg _ (eq_ix2 x)).trans (piece_at 0 x0 x1 x2 hx _ _ _ (ld_x0 x0) (ld_w0 x1) (ld_s0 x2) (x 0) (x 1))

variable (m : (ℓ : Loc nD τ sig) → Buf (Elt Ideal) ℓ) (ρ : Dev nD → PrngReg)

/-- The pooled rows over the kernel's arguments. -/
abbrev tb (c : Dev nD) : FVec Ideal S8192x512 .f32 :=
  pooled (m ((c.tc : Thread nD τ).loc main_arg0)) (m ((c.tc : Thread nD τ).loc main_arg1)) (m ((c.tc : Thread nD τ).loc main_arg2))

/-- Which block each window stages at a point. -/
theorem idx : ∀ t : Fin cfg0.N, t.val < 32 ∧ win0_0.index t = ![t.val, 0] ∧ win0_1.index t = ![0, 0, 0] ∧ win0_2.index t = ![0, 0]
    ∧ win0_3.index t = ![t.val, 0] :=
  (by decide +kernel : ∀ t : Fin grid0.N, _)

/-- The sequence of a point. -/
def sq (t : Fin cfg0.N) : Fin 32 := ⟨t.val, (idx t).1⟩

theorem V0 (c : Dev nD) : V m c main_v0 = (truncf .bf16 (m ((c.tc : Thread nD τ).loc main_arg1) : FVec Ideal S4x128x128 .f32) bitsLt_bf16_f32 : FVec Ideal S4x128x128 .bf16) := by
  simp only [V, hostOps0]
  entry_read
  rfl

theorem V1 (c : Dev nD) : V m c main_v1 = (shapeCast S1x512 (m ((c.tc : Thread nD τ).loc main_arg2)) shapeCasts_S512_S1x512 : FVec Ideal S1x512 .f32) := by
  simp only [V, hostOps0]
  entry_read
  rfl

theorem read0 (c : Dev nD) (t : Fin cfg0.N) (l : Fin 256) (d : Fin 512) :
    iblk m c 0 t (ix2 l d : S256x512.Idx) = m ((c.tc : Thread nD τ).loc main_arg0) (ix2 (row (sq t) l) d) := by
  obtain ⟨ht, i0, i1, i2, i3⟩ := idx t
  simp only [row, sq]
  blk_point [iblk, V, i0]

theorem read1 (c : Dev nD) (t : Fin cfg0.N) (i : Fin 4) (k e : Fin 128) :
    iblk m c 1 t (ix3 i k e : S4x128x128.Idx) = m ((c.tc : Thread nD τ).loc main_arg1) (ix3 i k e) := by
  obtain ⟨ht, i0, i1, i2, i3⟩ := idx t
  have e : ((win0_1.blk t).view.emb (ix3 i k e : S4x128x128.Idx)) = (ix3 i k e : S4x128x128.Idx) := by
    refine idx3_ext (Fin.ext ?_) (Fin.ext ?_) (Fin.ext ?_) <;> blk_simp [i1] <;> omega
  refine (congrArg (V m c main_v0) e).trans ?_
  rw [V0]
  pointwise

theorem read2 (c : Dev nD) (t : Fin cfg0.N) (n : Fin 512) :
    iblk m c 2 t (ix2 0 n : S1x512.Idx) = m ((c.tc : Thread nD τ).loc main_arg2) (ix1 n) := by
  obtain ⟨ht, i0, i1, i2, i3⟩ := idx t
  have e : ((win0_2.blk t).view.emb (ix2 0 n : S1x512.Idx)) = (ix2 0 n : S1x512.Idx) := by
    refine funext (Fin.forall_fin_two.2 ⟨Fin.ext ?_, Fin.ext ?_⟩) <;> blk_simp [i2] <;> omega
  refine (congrArg (V m c main_v1) e).trans ?_
  rw [V1]
  pointwise

theorem entry_congr {x x' : Fin 256 → Fin 128 → EReal} {w w' : Fin 128 → Fin 128 → EReal} {s s' : EReal} (h : ℕ) (t : Fin 256) (e : Fin 128)
    (hx : x = x') (hw : w = w') (hs : s = s') : core x w h t e * s = core x' w' h t e * s' := by
  subst hx hw hs; rfl

theorem final (c : Dev nD) (hx : ∀ i, @HSub.hSub EReal EReal EReal _ (m ((c.tc : Thread nD τ).loc main_arg0) i) (m ((c.tc : Thread nD τ).loc main_arg0) i) = 0) :
    (dats m 0 c).arrAt 3 cfg0.N = tb m c := by
  refine (dats m 0 c).arrAt_eq_of_covers 3 _ (by decide +kernel) fun t _ y => ?_
  obtain ⟨ht, i0, i1, i2, i3⟩ := idx t
  have hr : (((View.whole main_v2).slice (win0_3.rect t)).emb y 0 : Fin 8192).val = t.val * 256 + ((y 0 : Fin 256) : ℕ) := by blk_simp [i3]
  have hj : (((View.whole main_v2).slice (win0_3.rect t)).emb y 1 : Fin 512).val = ((y 1 : Fin 512) : ℕ) := by blk_simp [i3]
  have hy : ((y 0 : Fin 256) : ℕ) < 256 := (y 0 : Fin 256).isLt
  have h1 : seqOf (((View.whole main_v2).slice (win0_3.rect t)).emb y 0) = sq t := Fin.ext (by show (((View.whole main_v2).slice (win0_3.rect t)).emb y 0 : Fin 8192).val / 256 = t.val; omega)
  have h2 : posOf (((View.whole main_v2).slice (win0_3.rect t)).emb y 0) = y 0 := Fin.ext (by show (((View.whole main_v2).slice (win0_3.rect t)).emb y 0 : Fin 8192).val % 256 = ((y 0 : Fin 256) : ℕ); omega)
  have h3 : ((View.whole main_v2).slice (win0_3.rect t)).emb y 1 = y 1 := Fin.ext hj
  blk_simp [i3]
  rw [after0_3]
  refine Eq.trans (congrArg (out0_3 (iblk m c 0 t) (iblk m c 1 t) (iblk m c 2 t)) (eq_ix2 (y : S256x512.Idx))) ?_
  refine Eq.trans (out_at _ _ _ (fun l k => ?_) (y 0) (y 1) (grpOf (y 1)) (inOf (y 1)) (by show ((y 1 : Fin 512) : ℕ) = ((y 1 : Fin 512) : ℕ) / 128 * 128 + ((y 1 : Fin 512) : ℕ) % 128; omega)) ?_
  · rw [read0 m c t l k]; exact hx _
  · show _ = entry _ _ _ (seqOf (((View.whole main_v2).slice (win0_3.rect t)).emb y 0)) (posOf (((View.whole main_v2).slice (win0_3.rect t)).emb y 0))
      (grpOf (((View.whole main_v2).slice (win0_3.rect t)).emb y 1)) (inOf (((View.whole main_v2).slice (win0_3.rect t)).emb y 1))
    rw [h1, h2, h3]
    exact entry_congr _ _ _ (funext fun l => funext fun k => read0 m c t l _) (funext fun k => funext fun e => read1 m c t _ k e) (read2 m c t _)

/-- The run of the kernel with its result named. -/
theorem run (hx : ∀ (c : Dev nD) i, @HSub.hSub EReal EReal EReal _ (m ((c.tc : Thread nD τ).loc main_arg0) i) (m ((c.tc : Thread nD τ).loc main_arg0) i) = 0) :
    θ_run defs (onTc (τ := τ) (main (F := Ideal))) ⟨m, fun _ => 0, ρ⟩ fun r => ∀ c : Dev nD,
      r.2.mem ((c.tc : Thread nD τ).loc main_v2) = tb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run_blocks (F := Ideal) m ρ)
  obtain ⟨h1, h2⟩ := h c
  exact ⟨h1.trans (final m c (hx c)), h2⟩

end Cert.Kernel7Ideal.Pool

end
-- ==== Proof.PoolRef.lean ====
module

public import proofs.«01_k».proof.Proof.Gen.Reference7Ideal.Run
public import proofs.«01_k».proof.Proof.PoolMath
public import Idealize.ShloMosaic.Lib.Claim
public import Idealize.ShloMosaic.Lib.Pointwise

@[expose] public section

set_option maxRecDepth 100000

noncomputable section

/-! What the reference of the context's pooling returns: running sums, taken at the window's two ends. -/

namespace Cert.Reference7Ideal.Pool

open Cert.Reference7Ideal Cert.Reference7Ideal.Gen Idealize.ShloMosaic Idealize.ShloMosaic.TcCoe Idealize.SL.Sem
open Cert.Pool

/-- The running sums of a group's rows. -/
abbrev runs (x : FVec Ideal S32x256x128 .f32) : FVec Ideal S32x256x128 .f32 :=
  Host.reduceWindowAdd ![1, 256, 1] ![1, 1, 1] ![0, 255, 0] ![0, 0, 0] x (broadcastInDim S_ ![] bcast_S_S_ (constant S_ .f32 0x00000000#32)) reduceWindows_S32x256x128_S32x256x128_w1s1p0_0_w256s1p255_0_w1s1p0_0 h_S_

/-- The running sums with a row of zeros before. -/
abbrev sums (x : FVec Ideal S32x256x128 .f32) : FVec Ideal S32x257x128 .f32 :=
  concatenate S32x257x128 1 [⟨S32x1x128, (broadcastInDim S32x1x128 ![] bcast_S_S32x1x128 (constant S_ .f32 0x00000000#32))⟩, ⟨S32x256x128, runs x⟩] concatenates_S32x1x128_S32x256x128_S32x257x128_d1

/-- The words that a take reads at. -/
abbrev words (v : IVec S256 32) : IVec S256x1 32 :=
  broadcastInDim S256x1 ![0] bcast_S256_S256x1_0 (select (cmpi .slt v (broadcastInDim S256 ![] bcast_S_S256 (constantI S_ 32 0#32))) (addi v (broadcastInDim S256 ![] bcast_S_S256 (constantI S_ 32 257#32))) v)

abbrev inside (k : IVec S256x1 32) : IVec S256 1 :=
  Host.reduce IntOp.andi (andi (cmpi .sge k (broadcastInDim S256x1 ![] bcast_S_S256x1 (constantI S_ 32 0#32))) (cmpi .sle k (broadcastInDim S256x1 ![0, 1] bcast_S1x1_S256x1_0_1 (broadcastInDim S1x1 ![1] bcast_S1_S1x1_1 (constantI S1 32 256#32))))) (constantI S_ 1 1#1) reducesTo_S256x1_S256_d1 h_S_

abbrev taken (C : FVec Ideal S32x257x128 .f32) (k : IVec S256x1 32) : FVec Ideal S32x256x128 .f32 :=
  select (broadcastInDim S32x256x128 ![1] bcast_S256_S32x256x128_1 (inside k)) (Host.gather gather_S32x257x128_S256x1_S32x256x128_02_1_n_n_1_1_321128 C k) (broadcastInDim S32x256x128 ![] bcast_S_S32x256x128 (constant S_ .f32 0x7FC00000#32))

/-- A group. -/
abbrev group (x : FVec Ideal S32x256x128 .f32) (lo hi : IVec S256 32) (w : FVec Ideal S128x128 .f32) : FVec Ideal S32x256x128 .f32 :=
  Host.dotGeneral dot_S32x256x128_S128x128_S32x256x128_2_0_01_1_n_n none (subf (Host.divf (subf (taken (sums x) (words hi)) (taken (sums x) (words lo)))
    (broadcastInDim S32x256x128 ![0, 1, 2] bcast_S1x256x1_S32x256x128_0_1_2 (broadcastInDim S1x256x1 ![1] bcast_S256_S1x256x1_1 (sitofp .f32 (subi hi lo))))) x) w

theorem fold_sum {α : Type} (f : α → EReal) (L : List α) (v : EReal) : L.foldl (fun r a => r + f a) v = v + (L.map f).sum := by
  induction L generalizing v with
  | nil => simp
  | cons a L ih => rw [List.foldl_cons, ih, List.map_cons, List.sum_cons, add_assoc]

theorem runs_at (x : FVec Ideal S32x256x128 .f32) (b : Fin 32) (t : Fin 256) (c : Fin 128) :
    runs x (ix3 b t c) = upto (fun l => x (ix3 b l c)) (t.val + 1) := by
  rw [← window_sum]
  have z : Ideal.ofBits .f32 0#32 = (0 : EReal) := by simp [Ideal.ofBits, Ideal.ieee]
  unfold runs Host.reduceWindowAdd
  show Ideal.hostReduceWindowAdd _ _ _ _ _ _ _ _ = _
  unfold Ideal.hostReduceWindowAdd Host.reduceWindow
  refine (fold_sum _ _ _).trans ?_
  refine Eq.trans (b := (0 : EReal) + _) (congrArg (fun z : EReal => z + _) z) ?_
  rw [zero_add, ← Fin.sum_univ_def]
  refine (Fintype.sum_equiv (⟨3, ![1, 256, 1]⟩ : Shape).rowMajor.symm _ (fun q => if h : 255 ≤ t.val + ((q 1 : Fin 256) : ℕ) ∧ t.val + ((q 1 : Fin 256) : ℕ) - 255 < 256
      then x (ix3 b ⟨t.val + ((q 1 : Fin 256) : ℕ) - 255, h.2⟩ c) else 0) (fun n => ?_)).trans ?_
  · let q : (⟨3, ![1, 256, 1]⟩ : Shape).Idx := (⟨3, ![1, 256, 1]⟩ : Shape).rowMajor.symm n
    have q0 : ((q 0 : Fin 1) : ℕ) < 1 := (q 0 : Fin 1).isLt
    have q2 : ((q 2 : Fin 1) : ℕ) < 1 := (q 2 : Fin 1).isLt
    by_cases h : 255 ≤ t.val + ((q 1 : Fin 256) : ℕ) ∧ t.val + ((q 1 : Fin 256) : ℕ) - 255 < 256
    · refine (dif_pos fun a => ?_).trans (Eq.trans ?_ (dif_pos h).symm)
      · match a with
        | ⟨0, _⟩ =>
          show 0 ≤ b.val * 1 + ((q 0 : Fin 1) : ℕ) ∧ b.val * 1 + ((q 0 : Fin 1) : ℕ) - 0 < 32
          omega
        | ⟨1, _⟩ =>
          show 255 ≤ t.val * 1 + ((q 1 : Fin 256) : ℕ) ∧ t.val * 1 + ((q 1 : Fin 256) : ℕ) - 255 < 256
          omega
        | ⟨2, _⟩ =>
          show 0 ≤ c.val * 1 + ((q 2 : Fin 1) : ℕ) ∧ c.val * 1 + ((q 2 : Fin 1) : ℕ) - 0 < 128
          omega
      · refine congrArg x (idx3_ext (Fin.ext ?_) (Fin.ext ?_) (Fin.ext ?_))
        · show b.val * 1 + ((q 0 : Fin 1) : ℕ) - 0 = b.val
          omega
        · show t.val * 1 + ((q 1 : Fin 256) : ℕ) - 255 = t.val + ((q 1 : Fin 256) : ℕ) - 255
          omega
        · show c.val * 1 + ((q 2 : Fin 1) : ℕ) - 0 = c.val
          omega
    · refine (dif_neg fun hin => h ?_).trans (Eq.trans z (dif_neg (e := fun _ => (0 : EReal)) h).symm)
      have h1 : 255 ≤ t.val * 1 + ((q 1 : Fin 256) : ℕ) ∧ t.val * 1 + ((q 1 : Fin 256) : ℕ) - 255 < 256 := hin (1 : Fin 3)
      omega
  · rw [sum_idx3]
    simp only [Finset.univ_unique, Finset.sum_singleton]
    rfl

theorem sums_at (x : FVec Ideal S32x256x128 .f32) (b : Fin 32) (n : Fin 257) (c : Fin 128) :
    sums x (ix3 b n c) = upto (fun l => x (ix3 b l c)) n.val := by
  by_cases h : n.val < 1
  · have e : n.val = 0 := by omega
    rw [e]
    unfold upto
    simp only [Nat.not_lt_zero, if_false, Finset.sum_const_zero]
    pointwise [h]
  · refine Eq.trans ?_ ((runs_at x b ⟨n.val - 1, by omega⟩ c).trans (congrArg (upto _) (by show n.val - 1 + 1 = n.val; omega)))
    pointwise [h]

theorem word_facts (n : Fin 257) :
    (if IntOp.cmpi .slt (BitVec.ofNat 32 n.val) 0#32 = 1#1 then IntOp.addi (BitVec.ofNat 32 n.val) 257#32 else BitVec.ofNat 32 n.val) = BitVec.ofNat 32 n.val
    ∧ IntOp.andi (IntOp.cmpi .sge (BitVec.ofNat 32 n.val) 0#32) (IntOp.cmpi .sle (BitVec.ofNat 32 n.val) 256#32) = 1#1
    ∧ (BitVec.ofNat 32 n.val).toInt.toNat = n.val := by
  revert n; decide +kernel

theorem words_at (v : IVec S256 32) (n : Fin 256 → Fin 257) (hv : ∀ t, v (ix1 t) = BitVec.ofNat 32 (n t).val) (t : Fin 256) :
    words v (ix2 t 0) = BitVec.ofNat 32 (n t).val := by
  refine Eq.trans ?_ (word_facts (n t)).1
  rw [← hv t]
  pointwise
  rfl

theorem fold_and {α : Type} (f : α → BitVec 1) (hf : ∀ a, f a = 1#1) (L : List α) : L.foldl (fun r a => IntOp.andi r (f a)) 1#1 = 1#1 := by
  induction L with
  | nil => rfl
  | cons a L ih =>
    rw [List.foldl_cons, hf a]
    exact ih

theorem inside_at (k : IVec S256x1 32) (n : Fin 256 → Fin 257) (hk : ∀ t, k (ix2 t 0) = BitVec.ofNat 32 (n t).val) (t : Fin 256) :
    inside k (ix1 t) = 1#1 := by
  unfold inside Host.reduce
  refine fold_and _ (fun a => ?_) _
  generalize S256x1.rowMajor.symm a = i
  idx_vars i
  have e : i1 = 0 := Subsingleton.elim (α := Fin 1) _ _
  subst e
  refine Eq.trans ?_ (word_facts (n i0)).2.1
  rw [← hk i0]
  pointwise

/-- Row `b` of the take is the row at the word of `b`. -/
theorem take_row (C : FVec Ideal S32x257x128 .f32) (k : IVec S256x1 32) (a : Fin 32) (b : Fin 256) (c : Fin 128) :
    Host.gather gather_S32x257x128_S256x1_S32x256x128_02_1_n_n_1_1_321128 C k (ix3 a b c)
      = C (ix3 a (⟨min (k (ix2 b (0 : Fin 1))).toInt.toNat (257 - 1), by omega⟩ : Fin 257) c) := by
  unfold Host.gather
  congr 1
  funext e
  refine Fin.ext ?_
  show gather_S32x257x128_S256x1_S32x256x128_02_1_n_n_1_1_321128.start (ix3 a b c) k e + gather_S32x257x128_S256x1_S32x256x128_02_1_n_n_1_1_321128.batchCoord (ix3 a b c) e
      + gather_S32x257x128_S256x1_S32x256x128_02_1_n_n_1_1_321128.offCoord (ix3 a b c) e = _
  rw [GatherDims.batchCoord_eq_zero _ _ _ (fun h => by simp [gather_S32x257x128_S256x1_S32x256x128_02_1_n_n_1_1_321128] at h)]
  match e with
  | ⟨1, _⟩ =>
    rw [GatherDims.offCoord_eq_zero _ _ _ (fun h => ((GatherDims.mem_sKept _ _).mp h).1 (List.mem_singleton.mpr rfl))]
    simp only [Nat.add_zero]
    unfold GatherDims.start
    refine Eq.trans (dif_pos (show (1 : Fin 3) ∈ gather_S32x257x128_S256x1_S32x256x128_02_1_n_n_1_1_321128.startIndexMap from List.mem_singleton.mpr rfl)) ?_
    have hsi : gather_S32x257x128_S256x1_S32x256x128_02_1_n_n_1_1_321128.siIdx (ix3 a b c) ⟨List.idxOf (1 : Fin 3) gather_S32x257x128_S256x1_S32x256x128_02_1_n_n_1_1_321128.startIndexMap,
        List.idxOf_lt_length_iff.2 (List.mem_singleton.mpr rfl)⟩ = ix2 b (0 : Fin 1) := by
      funext f; refine Fin.ext ?_
      match f with
      | ⟨0, _⟩ => rfl
      | ⟨1, _⟩ => rfl
    exact congrArg (fun i => min (k i).toInt.toNat (257 - 1)) hsi
  | ⟨0, _⟩ =>
    unfold GatherDims.start
    refine Eq.trans (congrArg (fun z => z + 0 + gather_S32x257x128_S256x1_S32x256x128_02_1_n_n_1_1_321128.offCoord (ix3 a b c) (0 : Fin 3)) (dif_neg (show (0 : Fin 3) ∉ gather_S32x257x128_S256x1_S32x256x128_02_1_n_n_1_1_321128.startIndexMap from by simp [gather_S32x257x128_S256x1_S32x256x128_02_1_n_n_1_1_321128]))) ?_
    simp only [Nat.zero_add]
    rfl
  | ⟨2, _⟩ =>
    unfold GatherDims.start
    refine Eq.trans (congrArg (fun z => z + 0 + gather_S32x257x128_S256x1_S32x256x128_02_1_n_n_1_1_321128.offCoord (ix3 a b c) (2 : Fin 3)) (dif_neg (show (2 : Fin 3) ∉ gather_S32x257x128_S256x1_S32x256x128_02_1_n_n_1_1_321128.startIndexMap from by simp [gather_S32x257x128_S256x1_S32x256x128_02_1_n_n_1_1_321128]))) ?_
    simp only [Nat.zero_add]
    rfl

theorem taken_at (x : FVec Ideal S32x256x128 .f32) (v : IVec S256 32) (n : Fin 256 → Fin 257) (hv : ∀ t, v (ix1 t) = BitVec.ofNat 32 (n t).val)
    (b : Fin 32) (t : Fin 256) (c : Fin 128) : taken (sums x) (words v) (ix3 b t c) = upto (fun l => x (ix3 b l c)) (n t).val := by
  have hm := inside_at (words v) n (words_at v n hv) t
  have hg := take_row (sums x) (words v) b t c
  unfold taken
  generalize inside (words v) = M at hm ⊢
  generalize Host.gather gather_S32x257x128_S256x1_S32x256x128_02_1_n_n_1_1_321128 (sums x) (words v) = G at hg ⊢
  refine Eq.trans (b := G (ix3 b t c)) ?_ (hg.trans ((sums_at x b _ c).trans (congrArg (upto _) ?_)))
  · pointwise
    rw [hm]
    rfl
  · show min (words v (ix2 t 0)).toInt.toNat (257 - 1) = (n t).val
    rw [words_at v n hv t, (word_facts (n t)).2.2]
    have := (n t).isLt
    omega

theorem group_at (x : FVec Ideal S32x256x128 .f32) (lo hi : IVec S256 32) (w : FVec Ideal S128x128 .f32) (i : Fin 4)
    (hl : ∀ t : Fin 256, lo (ix1 t) = BitVec.ofNat 32 (t.val - half i)) (hh : ∀ t : Fin 256, hi (ix1 t) = BitVec.ofNat 32 (min (t.val + half i) 256))
    (hx : ∀ j, ∃ r : ℝ, x j = (r : EReal)) (b : Fin 32) (t : Fin 256) (e : Fin 128) :
    group x lo hi w (ix3 b t e) = core (fun l c => x (ix3 b l c)) (fun c e => w (ix2 c e)) (half i) t e := by
  have h1 : ∀ c, taken (sums x) (words hi) (ix3 b t c) = _ := fun c => taken_at x hi (fun t => ⟨min (t.val + half i) 256, by omega⟩) hh b t c
  have h2 : ∀ c, taken (sums x) (words lo) (ix3 b t c) = _ := fun c => taken_at x lo (fun t => ⟨t.val - half i, by omega⟩) hl b t c
  unfold group
  generalize taken (sums x) (words hi) = A at h1 ⊢
  generalize taken (sums x) (words lo) = B at h2 ⊢
  have e0 : (Host.dotGeneral dot_S32x256x128_S128x128_S32x256x128_2_0_01_1_n_n none (subf (Host.divf (subf A B)
    (broadcastInDim S32x256x128 ![0, 1, 2] bcast_S1x256x1_S32x256x128_0_1_2 (broadcastInDim S1x256x1 ![1] bcast_S256_S1x256x1_1 (sitofp .f32 (subi hi lo))))) x) w : FVec Ideal S32x256x128 .f32) (ix3 b t e)
      = ∑ c : Fin 128, (Ideal.div (A (ix3 b t c) - B (ix3 b t c)) (((IntOp.subi (hi (ix1 t)) (lo (ix1 t))).toInt : ℝ) : EReal) - x (ix3 b t c)) * w (ix2 c e) := by
    pointwise
    rfl
  refine e0.trans (Finset.sum_congr rfl fun c _ => ?_)
  refine congrArg (fun z : EReal => (z - _) * _) ?_
  rw [hl t, hh t]
  refine congrArg (fun z : EReal => Ideal.div z _) ?_
  rw [h1 c, h2 c]
  exact upto_sub (fun l => hx _) (half i) t.val

/-- The words of a window's bounds. -/
abbrev loV (h : BitVec 32) : IVec S256 32 :=
  minsi (broadcastInDim S256 ![] bcast_S_S256 (id (constantI S_ 32 256#32))) (maxsi (broadcastInDim S256 ![] bcast_S_S256 (id (constantI S_ 32 0#32))) (subi (iotaInDim S256 32 0) (broadcastInDim S256 ![] bcast_S_S256 (constantI S_ 32 h))))

abbrev hiV (w h : BitVec 32) : IVec S256 32 :=
  minsi (broadcastInDim S256 ![] bcast_S_S256 (id (constantI S_ 32 256#32))) (maxsi (broadcastInDim S256 ![] bcast_S_S256 (id (constantI S_ 32 0#32))) (subi (addi (iotaInDim S256 32 0) (broadcastInDim S256 ![] bcast_S_S256 (constantI S_ 32 w))) (broadcastInDim S256 ![] bcast_S_S256 (constantI S_ 32 h))))

theorem loV_at (i : Fin 4) (t : Fin 256) : loV (BitVec.ofNat 32 (half i)) (ix1 t) = BitVec.ofNat 32 (t.val - half i) := by
  rw [← lo_word' i t]
  pointwise
  rfl

theorem hiV_at (i : Fin 4) (t : Fin 256) : hiV (BitVec.ofNat 32 (2 * half i)) (BitVec.ofNat 32 (half i)) (ix1 t) = BitVec.ofNat 32 (min (t.val + half i) 256) := by
  rw [← hi_word' i t]
  pointwise
  rfl

/-- The rows by sequence, and each group's columns. -/
abbrev rows (u : FVec Ideal S16384x512 .f32) : FVec Ideal S32x256x512 .f32 :=
  shapeCast _ (extractStridedSlice S8192x512 ![0, 0] u slices_S16384x512_S8192x512_0_0) shapeCasts_S8192x512_S32x256x512

theorem rows_at (u : FVec Ideal S16384x512 .f32) (b : Fin 32) (l : Fin 256) (d : Fin 512) : rows u (ix3 b l d) = u (ix2 (row b l) d) := by
  pointwise [row]

abbrev cols0 (u : FVec Ideal S16384x512 .f32) : FVec Ideal S32x256x128 .f32 := extractStridedSlice S32x256x128 ![0, 0, 0] (rows u) slices_S32x256x512_S32x256x128_0_0_0
abbrev cols1 (u : FVec Ideal S16384x512 .f32) : FVec Ideal S32x256x128 .f32 := extractStridedSlice S32x256x128 ![0, 0, 128] (rows u) slices_S32x256x512_S32x256x128_0_0_128
abbrev cols2 (u : FVec Ideal S16384x512 .f32) : FVec Ideal S32x256x128 .f32 := extractStridedSlice S32x256x128 ![0, 0, 256] (rows u) slices_S32x256x512_S32x256x128_0_0_256
abbrev cols3 (u : FVec Ideal S16384x512 .f32) : FVec Ideal S32x256x128 .f32 := extractStridedSlice S32x256x128 ![0, 0, 384] (rows u) slices_S32x256x512_S32x256x128_0_0_384

theorem cut0 (R : FVec Ideal S32x256x512 .f32) (b : Fin 32) (l : Fin 256) (c : Fin 128) : extractStridedSlice S32x256x128 ![0, 0, 0] R slices_S32x256x512_S32x256x128_0_0_0 (ix3 b l c) = R (ix3 b l (col 0 c)) := by
  pointwise [col]
theorem cut1 (R : FVec Ideal S32x256x512 .f32) (b : Fin 32) (l : Fin 256) (c : Fin 128) : extractStridedSlice S32x256x128 ![0, 0, 128] R slices_S32x256x512_S32x256x128_0_0_128 (ix3 b l c) = R (ix3 b l (col 1 c)) := by
  pointwise [col]
theorem cut2 (R : FVec Ideal S32x256x512 .f32) (b : Fin 32) (l : Fin 256) (c : Fin 128) : extractStridedSlice S32x256x128 ![0, 0, 256] R slices_S32x256x512_S32x256x128_0_0_256 (ix3 b l c) = R (ix3 b l (col 2 c)) := by
  pointwise [col]
theorem cut3 (R : FVec Ideal S32x256x512 .f32) (b : Fin 32) (l : Fin 256) (c : Fin 128) : extractStridedSlice S32x256x128 ![0, 0, 384] R slices_S32x256x512_S32x256x128_0_0_384 (ix3 b l c) = R (ix3 b l (col 3 c)) := by
  pointwise [col]

abbrev mat0 (w : FVec Ideal S4x128x128 .f32) : FVec Ideal S128x128 .f32 := shapeCast _ (extractStridedSlice S1x128x128 ![0, 0, 0] w slices_S4x128x128_S1x128x128_0_0_0) shapeCasts_S1x128x128_S128x128
abbrev mat1 (w : FVec Ideal S4x128x128 .f32) : FVec Ideal S128x128 .f32 := shapeCast _ (extractStridedSlice S1x128x128 ![1, 0, 0] w slices_S4x128x128_S1x128x128_1_0_0) shapeCasts_S1x128x128_S128x128
abbrev mat2 (w : FVec Ideal S4x128x128 .f32) : FVec Ideal S128x128 .f32 := shapeCast _ (extractStridedSlice S1x128x128 ![2, 0, 0] w slices_S4x128x128_S1x128x128_2_0_0) shapeCasts_S1x128x128_S128x128
abbrev mat3 (w : FVec Ideal S4x128x128 .f32) : FVec Ideal S128x128 .f32 := shapeCast _ (extractStridedSlice S1x128x128 ![3, 0, 0] w slices_S4x128x128_S1x128x128_3_0_0) shapeCasts_S1x128x128_S128x128

theorem mat0_at (w : FVec Ideal S4x128x128 .f32) (c e : Fin 128) : mat0 w (ix2 c e) = w (ix3 0 c e) := by pointwise
theorem mat1_at (w : FVec Ideal S4x128x128 .f32) (c e : Fin 128) : mat1 w (ix2 c e) = w (ix3 1 c e) := by pointwise
theorem mat2_at (w : FVec Ideal S4x128x128 .f32) (c e : Fin 128) : mat2 w (ix2 c e) = w (ix3 2 c e) := by pointwise
theorem mat3_at (w : FVec Ideal S4x128x128 .f32) (c e : Fin 128) : mat3 w (ix2 c e) = w (ix3 3 c e) := by pointwise

/-- A group over its columns and its matrix. -/
theorem grp_at (i : Fin 4) (u : FVec Ideal S16384x512 .f32) (w : FVec Ideal S4x128x128 .f32) (x : FVec Ideal S32x256x128 .f32) (k : FVec Ideal S128x128 .f32)
    (hu : ∀ j, ∃ r : ℝ, u j = (r : EReal)) (hx : ∀ b l c, x (ix3 b l c) = rows u (ix3 b l (col i c))) (hk : ∀ c e, k (ix2 c e) = w (ix3 i c e)) (b : Fin 32) (t : Fin 256) (e : Fin 128) :
    group x (loV (BitVec.ofNat 32 (half i))) (hiV (BitVec.ofNat 32 (2 * half i)) (BitVec.ofNat 32 (half i))) k (ix3 b t e)
      = core (fun l c => u (ix2 (row b l) (col i c))) (fun c e => w (ix3 i c e)) (half i) t e := by
  have hx' : ∀ b l c, x (ix3 b l c) = u (ix2 (row b l) (col i c)) := fun b l c => (hx b l c).trans (rows_at u b l _)
  rw [group_at x _ _ k i (loV_at i) (hiV_at i) (fun j => (hu _).imp fun r hr => ((congrArg x (eq_ix3 j)).trans (hx' (j 0) (j 1) (j 2))).trans hr) b t e]
  simp only [hx', hk]

theorem joined (A B C D : FVec Ideal S32x256x128 .f32) (b : Fin 32) (t : Fin 256) (d : Fin 512) :
    concatenate S32x256x512 2 [⟨S32x256x128, A⟩, ⟨S32x256x128, B⟩, ⟨S32x256x128, C⟩, ⟨S32x256x128, D⟩] concatenates_S32x256x128_S32x256x128_S32x256x128_S32x256x128_S32x256x512_d2 (ix3 b t d)
      = (if grpOf d = 0 then A else if grpOf d = 1 then B else if grpOf d = 2 then C else D) (ix3 b t (inOf d)) := by
  have hg : (grpOf d).val = d.val / 128 := rfl
  by_cases h0 : d.val < 128
  · rw [if_pos (Fin.ext (by show d.val / 128 = 0; omega))]
    pointwise [h0]
    exact congrArg (fun z => A (ix3 b t z)) (Fin.ext (by show d.val = d.val % 128; omega))
  · rw [if_neg (fun h => by have := congrArg Fin.val h; have e : ((0 : Fin 4) : ℕ) = 0 := rfl; omega)]
    by_cases h1 : d.val - 128 < 128
    · rw [if_pos (Fin.ext (by show d.val / 128 = 1; omega))]
      pointwise [h0, h1]
      exact congrArg (fun z => B (ix3 b t z)) (Fin.ext (by show d.val - 128 = d.val % 128; omega))
    · rw [if_neg (fun h => by have := congrArg Fin.val h; have e : ((1 : Fin 4) : ℕ) = 1 := rfl; omega)]
      by_cases h2 : d.val - 128 - 128 < 128
      · rw [if_pos (Fin.ext (by show d.val / 128 = 2; omega))]
        pointwise [h0, h1, h2]
        exact congrArg (fun z => C (ix3 b t z)) (Fin.ext (by show d.val - 128 - 128 = d.val % 128; omega))
      · rw [if_neg (fun h => by have := congrArg Fin.val h; have e : ((2 : Fin 4) : ℕ) = 2 := rfl; omega)]
        pointwise [h0, h1, h2]
        exact congrArg (fun z => D (ix3 b t z)) (Fin.ext (by show d.val - 128 - 128 - 128 = d.val % 128; omega))

/-- The reference's result before the last scaling. -/
abbrev four (u : FVec Ideal S16384x512 .f32) (w : FVec Ideal S4x128x128 .f32) : FVec Ideal S32x256x512 .f32 :=
  concatenate S32x256x512 2 [⟨S32x256x128, group (cols0 u) (loV 1#32) (hiV 2#32 1#32) (mat0 w)⟩, ⟨S32x256x128, group (cols1 u) (loV 2#32) (hiV 4#32 2#32) (mat1 w)⟩,
    ⟨S32x256x128, group (cols2 u) (loV 4#32) (hiV 8#32 4#32) (mat2 w)⟩, ⟨S32x256x128, group (cols3 u) (loV 8#32) (hiV 16#32 8#32) (mat3 w)⟩] concatenates_S32x256x128_S32x256x128_S32x256x128_S32x256x128_S32x256x512_d2

theorem four_at (u : FVec Ideal S16384x512 .f32) (w : FVec Ideal S4x128x128 .f32) (hu : ∀ j, ∃ r : ℝ, u j = (r : EReal)) (b : Fin 32) (t : Fin 256) (d : Fin 512) :
    four u w (ix3 b t d) = core (fun l c => u (ix2 (row b l) (col (grpOf d) c))) (fun c e => w (ix3 (grpOf d) c e)) (half (grpOf d)) t (inOf d) := by
  refine (joined _ _ _ _ b t d).trans ?_
  generalize inOf d = e
  generalize grpOf d = i
  match i with
  | ⟨0, _⟩ => exact grp_at 0 u w (cols0 u) (mat0 w) hu (fun b l c => cut0 (rows u) b l c) (mat0_at w) b t e
  | ⟨1, _⟩ => exact grp_at 1 u w (cols1 u) (mat1 w) hu (fun b l c => cut1 (rows u) b l c) (mat1_at w) b t e
  | ⟨2, _⟩ => exact grp_at 2 u w (cols2 u) (mat2 w) hu (fun b l c => cut2 (rows u) b l c) (mat2_at w) b t e
  | ⟨3, _⟩ => exact grp_at 3 u w (cols3 u) (mat3 w) hu (fun b l c => cut3 (rows u) b l c) (mat3_at w) b t e

theorem scaled_at (Y : FVec Ideal S32x256x512 .f32) (s : FVec Ideal S512 .f32) (r : Fin 8192) (d : Fin 512) :
    (shapeCast S8192x512 (mulf Y (broadcastInDim S32x256x512 ![0, 1, 2] bcast_S1x1x512_S32x256x512_0_1_2 (broadcastInDim S1x1x512 ![2] bcast_S512_S1x1x512_2 s))) shapeCasts_S32x256x512_S8192x512 : FVec Ideal S8192x512 .f32) (ix2 r d)
      = Y (ix3 (seqOf r) (posOf r) d) * s (ix1 d) := by
  pointwise [seqOf, posOf]

variable (m : (ℓ : Loc nD τ sig) → Buf (Elt Ideal) ℓ) (ρ : Dev nD → PrngReg)

abbrev tb (c : Dev nD) : FVec Ideal S8192x512 .f32 :=
  pooled (m ((c.tc : Thread nD τ).loc main_arg0)) (m ((c.tc : Thread nD τ).loc main_arg1)) (m ((c.tc : Thread nD τ).loc main_arg2))

theorem four_eq (c : Dev nD) : Value.res_main_v106 (StableHlo.launchContents m c) = four (m ((c.tc : Thread nD τ).loc main_arg0)) (m ((c.tc : Thread nD τ).loc main_arg1)) := rfl

/-- The reference's run, its result the operations' own term over the four groups. -/
theorem run0 : θ_run defs (onTc (τ := τ) (main (F := Ideal))) ⟨m, fun _ => 0, ρ⟩ fun r => ∀ c : Dev nD,
      r.2.mem ((c.tc : Thread nD τ).loc main_v110) = (shapeCast S8192x512 (mulf (four (m ((c.tc : Thread nD τ).loc main_arg0)) (m ((c.tc : Thread nD τ).loc main_arg1))) (broadcastInDim S32x256x512 ![0, 1, 2] bcast_S1x1x512_S32x256x512_0_1_2 (broadcastInDim S1x1x512 ![2] bcast_S512_S1x1x512_2 (m ((c.tc : Thread nD τ).loc main_arg2))))) shapeCasts_S32x256x512_S8192x512 : FVec Ideal S8192x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run (F := Ideal) m ρ)
  obtain ⟨h1, h2⟩ := h c
  rw [four_eq] at h1
  exact ⟨h1, h2⟩

theorem run (hu : ∀ (c : Dev nD) i, ∃ r : ℝ, @Eq EReal (m ((c.tc : Thread nD τ).loc main_arg0) i) (r : EReal)) :
    θ_run defs (onTc (τ := τ) (main (F := Ideal))) ⟨m, fun _ => 0, ρ⟩ fun r => ∀ c : Dev nD,
      r.2.mem ((c.tc : Thread nD τ).loc main_v110) = tb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run0 m ρ)
  obtain ⟨h1, h2⟩ := h c
  refine ⟨h1.trans ?_, h2⟩
  funext i
  idx_vars i
  refine (scaled_at _ _ i0 i1).trans ?_
  show _ = entry _ _ _ (seqOf i0) (posOf i0) (grpOf i1) (inOf i1)
  unfold entry
  rw [four_at _ _ (hu c)]
  refine congrArg (fun z : EReal => _ * z) (congrArg _ (congrArg ix1 (Fin.ext ?_)))
  show i1.val = i1.val / 128 * 128 + i1.val % 128
  omega

end Cert.Reference7Ideal.Pool

end
-- ==== Proof.PoolClaim.lean ====
module

public import proofs.«01_k».proof.Defs
public import proofs.«01_k».proof.Proof.PoolKer
public import proofs.«01_k».proof.Proof.PoolRef
public import proofs.«01_k».proof.Proof.OutprojClaim
public import proofs.«01_k».proof.Proof.Gen.Pre_finite_rows
public import Idealize.ShloMosaic.Lib.Claim

@[expose] public section

set_option maxRecDepth 100000

noncomputable section

/-! The claims about the context's pooling: what the precondition says of the rows, the reference's run, and equal results. -/

namespace Cert.Pool

open Idealize.ShloMosaic Idealize.SL.Sem Cert.Outproj

open Cert.Pre_finite_rows in
/-- What the precondition says: the rows are finite. -/
theorem finite_of (x0 : FVec Ideal S16384x512 .f32) (x1 : FVec Ideal S4x128x128 .f32) (x2 : FVec Ideal S512 .f32)
    (h : Cert.Pre_finite_rows.fn (F := Ideal) x0 x1 x2 = fun _ => 1#1) (i : S16384x512.Idx) : IsR (x0 i) := by
  have h := congrFun h (fun i => i.elim0)
  simp only [fn] at h
  exact all_finite _ _ _ _ _ h i

theorem frame : Cert.quiescent_Reference7Ideal (hReference7Ideal := Cert.Reference7Ideal.Gen.facts) := fun m g _ =>
  (θ_run _ _ _).mono (fun r h => ⟨fun c => (h c).2, sem_eq_zero_of_no_sems (by decide) r.2⟩)
    (Cert.Reference7Ideal.Pool.run0 m g)

theorem frame_pre : Cert.quiescent_Reference7Ideal_pre_finite_rows (hReference7Ideal := Cert.Reference7Ideal.Gen.facts)
    (hPre_finite_rows := Cert.Pre_finite_rows.Gen.facts) := fun m g _ =>
  (θ_run _ _ _).mono (fun r h => ⟨fun c => (h c).2, sem_eq_zero_of_no_sems (by decide) r.2⟩)
    (Cert.Reference7Ideal.Pool.run0 m g)

theorem value : Cert.algebraic_Kernel7Ideal_Reference7Ideal_pre_finite_rows (hKernel7Ideal := Cert.Kernel7Ideal.Gen.facts)
    (hReference7Ideal := Cert.Reference7Ideal.Gen.facts) (hPre_finite_rows := Cert.Pre_finite_rows.Gen.facts) := by
  intro m g m' g' hp hagree
  have hr := fun c => finite_of _ _ _ (hp c)
  refine ⟨fun c => Cert.Kernel7Ideal.Pool.tb m c, Cert.Kernel7Ideal.Pool.run m g (fun c i => (hr c i).sub_self), ?_⟩
  refine (θ_run _ _ _).mono (fun r h c => ?_) (Cert.Reference7Ideal.Pool.run m' g' (fun c i => ?_))
  · obtain ⟨a0, a1, a2⟩ := hagree c
    have e : Cert.Reference7Ideal.Pool.tb m' c = Cert.Kernel7Ideal.Pool.tb m c := by
      show pooled _ _ _ = pooled _ _ _
      rw [a0, a1, a2]
    exact ⟨(h c).1.trans e, (h c).2⟩
  · rw [(hagree c).1]
    exact hr c i

end Cert.Pool

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite_arrays
public import proofs.«01_k».proof.Proof.Gen.Pre_finite_conditions
public import proofs.«01_k».proof.Proof.Gen.Pre_finite_rows
public import proofs.«01_k».proof.Proof.Gen.Pre_tables_in_range
public import proofs.«01_k».proof.Proof.InprojClaim
public import proofs.«01_k».proof.Proof.OutprojClaim
public import proofs.«01_k».proof.Proof.ExpertClaim
public import proofs.«01_k».proof.Proof.CombineClaim
public import proofs.«01_k».proof.Proof.CondClaim
public import proofs.«01_k».proof.Proof.PoolClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite_arrays.Gen.facts, Cert.Pre_tables_in_range.Gen.facts, Cert.Pre_finite_conditions.Gen.facts, Cert.Pre_finite_rows.Gen.facts,
    fun m ρ _ => Cert.Kernel.Gen.frame m ρ, fun m ρ _ => Cert.KernelIdeal.Gen.frame m ρ,
    fun m ρ _ => Cert.Kernel2.Gen.frame m ρ, fun m ρ _ => Cert.Kernel2Ideal.Gen.frame m ρ, Cert.Inproj.frame,
    fun m ρ _ => Cert.Kernel3.Gen.frame m ρ, fun m ρ _ => Cert.Kernel3Ideal.Gen.frame m ρ,
    fun m ρ _ => Cert.Kernel3Ideal.Gen.frame m ρ, Cert.Outproj.frame, Cert.Outproj.frame_pre,
    Cert.Expert.frame_kernel, Cert.Expert.frame_ideal, Cert.Expert.frame_ref, Cert.Expert.frame_ref_pre,
    fun m ρ _ => Cert.Kernel5.Gen.frame m ρ, fun m ρ _ => Cert.Kernel5Ideal.Gen.frame m ρ, Cert.Combine.frame,
    fun m ρ _ => Cert.Kernel6.Gen.frame m ρ, fun m ρ _ => Cert.Kernel6Ideal.Gen.frame m ρ,
    fun m ρ _ => Cert.Kernel6Ideal.Gen.frame m ρ, Cert.Cond.frame, Cert.Cond.frame_pre,
    fun m ρ _ => Cert.Kernel7.Gen.frame m ρ, fun m ρ _ => Cert.Kernel7Ideal.Gen.frame m ρ,
    fun m ρ _ => Cert.Kernel7Ideal.Gen.frame m ρ, Cert.Pool.frame, Cert.Pool.frame_pre,
    trivial, trivial, Cert.Inproj.value, trivial, Cert.Outproj.value, trivial, Cert.Expert.value, trivial, Cert.Combine.value,
    trivial, Cert.Cond.value, trivial, Cert.Pool.value⟩

end Cert.Proof

end
